-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_swa_finite [hPre_swa_finite : Cert.Pre_swa_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_swa_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_swa_finite [hPre_swa_finite : Cert.Pre_swa_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_swa_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_swa_finite [hKernel6Ideal : Cert.Kernel6Ideal.Facts] [hPre_swa_finite : Cert.Pre_swa_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_swa_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_swa_finite [hReference6Ideal : Cert.Reference6Ideal.Facts] [hPre_swa_finite : Cert.Pre_swa_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_swa_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_swa_finite [hKernel6Ideal : Cert.Kernel6Ideal.Facts] [hReference6Ideal : Cert.Reference6Ideal.Facts] [hPre_swa_finite : Cert.Pre_swa_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_swa_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v40) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v106) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts) (hPre_tables_in_range : Cert.Pre_tables_in_range.Facts) (hPre_swa_finite : Cert.Pre_swa_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_swa_finite (hKernel6Ideal := hKernel6Ideal) (hPre_swa_finite := hPre_swa_finite)
    ∧ quiescent_Reference6Ideal (hReference6Ideal := hReference6Ideal)
    ∧ quiescent_Reference6Ideal_pre_swa_finite (hReference6Ideal := hReference6Ideal) (hPre_swa_finite := hPre_swa_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_swa_finite (hKernel6Ideal := hKernel6Ideal) (hReference6Ideal := hReference6Ideal) (hPre_swa_finite := hPre_swa_finite)
-- ==== Pre_scores_finite.lean ====
abbrev S16384x2304 : Shape := ⟨2, ![16384, 2304]⟩
abbrev S16384x512 : Shape := ⟨2, ![16384, 512]⟩
abbrev S_ : Shape := ⟨0, ![]⟩

class Facts : Prop where
  slices_S16384x2304_S16384x512_0_0 : S16384x2304.Slices ![0, 0] S16384x512
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x2304 .bf16) : IVec S16384x512 1 :=
  let main_v0 : FVec F S16384x512 .bf16 := (extractStridedSlice S16384x512 ![0, 0] · slices_S16384x2304_S16384x512_0_0) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  main_v4
-- ==== Pre_swa_finite.lean ====
abbrev S16384x2304 : Shape := ⟨2, ![16384, 2304]⟩
abbrev S8 : Shape := ⟨1, ![8]⟩
abbrev S32x12 : Shape := ⟨2, ![32, 12]⟩
abbrev S16384x640 : Shape := ⟨2, ![16384, 640]⟩
abbrev S_ : Shape := ⟨0, ![]⟩

class Facts : Prop where
  slices_S16384x2304_S16384x640_0_768 : S16384x2304.Slices ![0, 768] S16384x640
  bitsLt_bf16_f32 : FTy.bits .bf16 < FTy.bits .f32
  bcast_S_S16384x640 : S_.BroadcastsInDim S16384x640 (![] : Fin 0 → Fin S16384x640.rank)
  reducesTo_S16384x640_S_d0_1 : S16384x640.ReducesTo [0, 1] S_
  h_S_ : 0 < S_.numel
  bcast_S_S8 : S_.BroadcastsInDim S8 (![] : Fin 0 → Fin S8.rank)
  reducesTo_S8_S_d0 : S8.ReducesTo [0] S_
  bcast_S_S32x12 : S_.BroadcastsInDim S32x12 (![] : Fin 0 → Fin S32x12.rank)
  reducesTo_S32x12_S_d0_1 : S32x12.ReducesTo [0, 1] S_

variable [Facts]

def fn {F : FTy → Type} [FloatOps F] (main_arg0 : FVec F S16384x2304 .bf16) (main_arg1 : FVec F S8 .f32) (main_arg2 : FVec F S32x12 .f32) : IVec S_ 1 :=
  let main_v0 : FVec F S16384x640 .bf16 := (extractStridedSlice S16384x640 ![0, 768] · slices_S16384x2304_S16384x640_0_768) main_arg0
  let main_v1 : FVec F S16384x640 .f32 := (extf .f32 · bitsLt_bf16_f32) main_v0
  let main_v2 : FVec F S16384x640 .f32 := Host.absf main_v1
  let main_cst : FVec F S_ .f32 := constant S_ .f32 0x7F800000#32
  let main_v3 : FVec F S16384x640 .f32 := broadcastInDim S16384x640 ![] bcast_S_S16384x640 main_cst
  let main_v4 : IVec S16384x640 1 := cmpf .olt main_v2 main_v3
  let main_c : IVec S_ 1 := constantI S_ 1 1#1
  let main_v5 : IVec S_ 1 := (fun x v => Host.reduce IntOp.andi x v reducesTo_S16384x640_S_d0_1 h_S_) main_v4 main_c
  let main_v6 : FVec F S8 .f32 := Host.absf main_arg1
  let main_cst_0 : FVec F S_ .f32 := constant S_ .f32 0x7F800000#32
  let main_v7 : FVec F S8 .f32 := broadcastInDim S8 ![] bcast_S_S8 main_cst_0
  let main_v8 : IVec S8 1 := cmpf .olt main_v6 main_v7
  let main_c_1 : IVec S_ 1 := constantI S_ 1 1#1
  let main_v9 : IVec S_ 1 := (fun x v => Host.reduce IntOp.andi x v reducesTo_S8_S_d0 h_S_) main_v8 main_c_1
  let main_v10 : IVec S_ 1 := andi main_v5 main_v9
  let main_v11 : FVec F S32x12 .f32 := Host.absf main_arg2
  let main_cst_2 : FVec F S_ .f32 := constant S_ .f32 0x7F800000#32
  let main_v12 : FVec F S32x12 .f32 := broadcastInDim S32x12 ![] bcast_S_S32x12 main_cst_2
  let main_v13 : IVec S32x12 1 := cmpf .olt main_v11 main_v12
  let main_c_3 : IVec S_ 1 := constantI S_ 1 1#1
  let main_v14 : IVec S_ 1 := (fun x v => Host.reduce IntOp.andi x v reducesTo_S32x12_S_d0_1 h_S_) main_v13 main_c_3
  let main_v15 : IVec S_ 1 := andi main_v10 main_v14
  main_v15
-- ==== Pre_tables_in_range.lean ====
abbrev S160 : Shape := ⟨1, ![160]⟩
abbrev S1 : Shape := ⟨1, ![1]⟩
abbrev S655360x128 : Shape := ⟨2, ![655360, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S160 : S_.BroadcastsInDim S160 (![] : Fin 0 → Fin S160.rank)
  shapeCasts_S1_S_ : S1.ShapeCasts S_

variable [Facts]

def fn {F : FTy → Type} [FloatOps F] (main_arg0 : IVec S160 32) (main_arg1 : IVec S1 32) (main_arg2 : FVec F S655360x128 .f32) (main_arg3 : FVec F S2x32x1024x2048 .f32) (main_arg4 : FVec F S2x32x2048 .f32) (main_arg5 : FVec F S2x32x1024x1024 .f32) (main_arg6 : FVec F S2x32x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S160 1 := broadcastInDim S160 ![] bcast_S_S160 main_v6
  let main_v8 : IVec S160 1 := andi main_v4 main_v7
  main_v8
-- ==== Kernel.lean ====
abbrev S16384x2304 : Shape := ⟨2, ![16384, 2304]⟩
abbrev S16384x256 : Shape := ⟨2, ![16384, 256]⟩
abbrev S512x128 : Shape := ⟨2, ![512, 128]⟩
abbrev S8192x128 : Shape := ⟨2, ![8192, 128]⟩
abbrev S128x128 : Shape := ⟨2, ![128, 128]⟩
abbrev S512x512 : Shape := ⟨2, ![512, 512]⟩
abbrev S512x1 : Shape := ⟨2, ![512, 1]⟩
abbrev S512 : Shape := ⟨1, ![512]⟩

abbrev nBuf : Space → Nat
  | .hbm => 2
  | .vmem => 8
  | .smem => 0
  | _ => 0

abbrev bufTy : (tb : Table) → Fin (tcTables nBuf tb) → BufTy
  | .hbm, ⟨0, _⟩ => ⟨S16384x2304, .bf16⟩
  | .hbm, ⟨1, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | _, _ => ⟨S16384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c512_i32_14 : BitVec 32 := 512#32
  let v48 : BitVec 32 := Scalar.muli v47 c512_i32_14
  v48
def k0_off1 (i : grid0.Coords) : Fin 2 → Nat :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c512_i32_14 : BitVec 32 := 512#32
  let v48 : BitVec 32 := Scalar.muli v47 c512_i32_14
  let v49 : BitVec 32 := v48
  let v50 : Index := Scalar.indexCast v49
  let c0_15 : Index := 0#32
  ![v50.toNat, 0]
@[reducible] def k0_t1_loop (i : grid0.Coords) : Scf.Loop 32 :=
  let c0_i32_67 : BitVec 32 := 0#32
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let v272 : BitVec 32 := Scalar.subi v47 c0_i32_67
  let c1_i32_68 : BitVec 32 := 1#32
  let v274 : BitVec 32 := Scalar.divsi v272 c1_i32_68
  let v275 : BitVec 32 := Scalar.muli v274 c1_i32_68
  let v276 : BitVec 32 := Scalar.addi c0_i32_67 v275
  let c1_i32_69 : BitVec 32 := 1#32
  ⟨c0_i32_67, v276, c1_i32_69⟩
def k0_mult2 (i : grid0.Coords) (k0_t1 : Fin (k0_t1_loop i).trips) : BitVec 32 :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c1_i32_74 : BitVec 32 := 1#32
  let v283 : BitVec 32 := Scalar.subi v47 c1_i32_74
  let c0_i32_67 : BitVec 32 := 0#32
  let c1_i32_69 : BitVec 32 := 1#32
  let arg7 : BitVec 32 := Scf.iv c0_i32_67 c1_i32_69 k0_t1
  let v284 : BitVec 32 := Scalar.subi v283 arg7
  let c512_i32_75 : BitVec 32 := 512#32
  let v285 : BitVec 32 := Scalar.muli v284 c512_i32_75
  v285
def k0_off2 (i : grid0.Coords) (k0_t1 : Fin (k0_t1_loop i).trips) : Fin 2 → Nat :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c1_i32_74 : BitVec 32 := 1#32
  let v283 : BitVec 32 := Scalar.subi v47 c1_i32_74
  let c0_i32_67 : BitVec 32 := 0#32
  let c1_i32_69 : BitVec 32 := 1#32
  let arg7 : BitVec 32 := Scf.iv c0_i32_67 c1_i32_69 k0_t1
  let v284 : BitVec 32 := Scalar.subi v283 arg7
  let c512_i32_75 : BitVec 32 := 512#32
  let v285 : BitVec 32 := Scalar.muli v284 c512_i32_75
  let v286 : BitVec 32 := v285
  let v287 : Index := Scalar.indexCast v286
  let c0_76 : Index := 0#32
  ![v287.toNat, 0]
@[reducible] def k0_t2_loop (i : grid0.Coords) : Scf.Loop 32 :=
  let c0_i32_67 : BitVec 32 := 0#32
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let v272 : BitVec 32 := Scalar.subi v47 c0_i32_67
  let c1_i32_68 : BitVec 32 := 1#32
  let v274 : BitVec 32 := Scalar.divsi v272 c1_i32_68
  let v275 : BitVec 32 := Scalar.muli v274 c1_i32_68
  let v276 : BitVec 32 := Scalar.addi c0_i32_67 v275
  let v273 : BitVec 32 := Scalar.addi c0_i32_67 v272
  let c1_i32_70 : BitVec 32 := 1#32
  ⟨v276, v273, c1_i32_70⟩
def k0_mult3 (i : grid0.Coords) (k0_t2 : Fin (k0_t2_loop i).trips) : BitVec 32 :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c1_i32_74 : BitVec 32 := 1#32
  let v283 : BitVec 32 := Scalar.subi v47 c1_i32_74
  let c0_i32_67 : BitVec 32 := 0#32
  let v272 : BitVec 32 := Scalar.subi v47 c0_i32_67
  let c1_i32_68 : BitVec 32 := 1#32
  let v274 : BitVec 32 := Scalar.divsi v272 c1_i32_68
  let v275 : BitVec 32 := Scalar.muli v274 c1_i32_68
  let v276 : BitVec 32 := Scalar.addi c0_i32_67 v275
  let c1_i32_70 : BitVec 32 := 1#32
  let arg7 : BitVec 32 := Scf.iv v276 c1_i32_70 k0_t2
  let v284 : BitVec 32 := Scalar.subi v283 arg7
  let c512_i32_75 : BitVec 32 := 512#32
  let v285 : BitVec 32 := Scalar.muli v284 c512_i32_75
  v285
def k0_off3 (i : grid0.Coords) (k0_t2 : Fin (k0_t2_loop i).trips) : Fin 2 → Nat :=
  let arg2 : BitVec 32 := BitVec.ofNat 32 (i 2).val
  let c512_i32 : BitVec 32 := 512#32
  let v25 : BitVec 32 := Scalar.muli arg2 c512_i32
  let c0_i32_9 : BitVec 32 := 0#32
  let v32 : BitVec 1 := Scalar.cmpi .sgt v25 c0_i32_9
  let v33 : BitVec 32 := Scalar.extui v32
  let c0_i32_10 : BitVec 32 := 0#32
  let v34 : BitVec 1 := Scalar.cmpi .slt v25 c0_i32_10
  let v35 : BitVec 32 := Scalar.extui v34
  let v36 : BitVec 32 := Scalar.subi v33 v35
  let c512_i32_8 : BitVec 32 := 512#32
  let c0_i32_11 : BitVec 32 := 0#32
  let v37 : BitVec 1 := Scalar.cmpi .sgt c512_i32_8 c0_i32_11
  let v38 : BitVec 32 := Scalar.extui v37
  let c0_i32_12 : BitVec 32 := 0#32
  let v39 : BitVec 1 := Scalar.cmpi .slt c512_i32_8 c0_i32_12
  let v40 : BitVec 32 := Scalar.extui v39
  let v41 : BitVec 32 := Scalar.subi v38 v40
  let v42 : BitVec 1 := Scalar.cmpi .ne v36 v41
  let v43 : BitVec 32 := Scalar.remsi v25 c512_i32_8
  let c0_i32_13 : BitVec 32 := 0#32
  let v44 : BitVec 1 := Scalar.cmpi .ne v43 c0_i32_13
  let v45 : BitVec 1 := Scalar.andi v42 v44
  let v31 : BitVec 32 := Scalar.divsi v25 c512_i32_8
  let c1_i32 : BitVec 32 := 1#32
  let v46 : BitVec 32 := Scalar.subi v31 c1_i32
  let v47 : BitVec 32 := Scalar.select v45 v46 v31
  let c1_i32_74 : BitVec 32 := 1#32
  let v283 : BitVec 32 := Scalar.subi v47 c1_i32_74
  let c0_i32_67 : BitVec 32 := 0#32
  let v272 : BitVec 32 := Scalar.subi v47 c0_i32_67
  let c1_i32_68 : BitVec 32 := 1#32
  let v274 : BitVec 32 := Scalar.divsi v272 c1_i32_68
  let v275 : BitVec 32 := Scalar.muli v274 c1_i32_68
  let v276 : BitVec 32 := Scalar.addi c0_i32_67 v275
  let c1_i32_70 : BitVec 32 := 1#32
  let arg7 : BitVec 32 := Scf.iv v276 c1_i32_70 k0_t2
  let v284 : BitVec 32 := Scalar.subi v283 arg7
  let c512_i32_75 : BitVec 32 := 512#32
  let v285 : BitVec 32 := Scalar.muli v284 c512_i32_75
  let v286 : BitVec 32 := v285
  let v287 : Index := Scalar.indexCast v286
  let c0_76 : Index := 0#32
  ![v287.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x2304 : Shape := ⟨2, ![16384, 2304]⟩
abbrev S2x8192x2304 : Shape := ⟨3, ![2, 8192, 2304]⟩
abbrev S2x8192x768 : Shape := ⟨3, ![2, 8192, 768]⟩
abbrev S2x8192x256 : Shape := ⟨3, ![2, 8192, 256]⟩
abbrev S2x8192x4x64 : Shape := ⟨4, ![2, 8192, 4, 64]⟩
abbrev S2x4x8192x64 : Shape := ⟨4, ![2, 4, 8192, 64]⟩
abbrev S2x4x8192x8192 : Shape := ⟨4, ![2, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16384x256 : Shape := ⟨2, ![16384, 256]⟩

abbrev nBuf : Space → Nat
  | .hbm => 75
  | .vmem => 0
  | .smem => 0
  | _ => 0

abbrev bufTy : (tb : Table) → Fin (tcTables nBuf tb) → BufTy
  | .hbm, ⟨0, _⟩ => ⟨S16384x2304, .bf16⟩
  | .hbm, ⟨1, _⟩ => ⟨S16384x2304, .f32⟩
  | .hbm, ⟨2, _⟩ => ⟨S2x8192x2304, .f32⟩
  | .hbm, ⟨3, _⟩ => ⟨S2x8192x768, .f32⟩
  | .hbm, ⟨4, _⟩ => ⟨S2x8192x256, .f32⟩
  | .hbm, ⟨5, _⟩ => ⟨S2x8192x4x64, .f32⟩
  | .hbm, ⟨6, _⟩ => ⟨S2x4x8192x64, .f32⟩
  | .hbm, ⟨7, _⟩ => ⟨S2x8192x256, .f32⟩
  | .hbm, ⟨8, _⟩ => ⟨S2x8192x4x64, .f32⟩
  | .hbm, ⟨9, _⟩ => ⟨S2x4x8192x64, .f32⟩
  | .hbm, ⟨10, _⟩ => ⟨S2x8192x256, .f32⟩
  | .hbm, ⟨11, _⟩ => ⟨S2x8192x4x64, .f32⟩
  | .hbm, ⟨12, _⟩ => ⟨S2x4x8192x64, .f32⟩
  | .hbm, ⟨13, _⟩ => ⟨S2x4x8192x8192, .f32⟩
  | .hbm, ⟨14, _⟩ => ⟨S_, .f32⟩
  | .hbm, ⟨15, _⟩ => ⟨S2x4x8192x8192, .f32⟩
  | .hbm, ⟨16, _⟩ => ⟨S2x4x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S2x4x8192x8192, .f32⟩
  | .hbm, ⟨24, _⟩ => ⟨S2x4x8192x8192, .f32⟩
  | .hbm, ⟨25, _⟩ => ⟨S_, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S2x4x8192x8192, .i1⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S2x4x8192x8192, .f32⟩
  | .hbm, ⟨39, _⟩ => ⟨S2x4x8192x8192, .f32⟩
  | .hbm, ⟨40, _⟩ => ⟨S_, .f32⟩
  | .hbm, ⟨41, _⟩ => ⟨S_, .f32⟩
  | .hbm, ⟨42, _⟩ => ⟨S2x4x8192x8192, .i1⟩
  | .hbm, ⟨43, _⟩ => ⟨S2x4x8192x8192, .f32⟩
  | .hbm, ⟨44, _⟩ => ⟨S2x4x8192x8192, .f32⟩
  | .hbm, ⟨45, _⟩ => ⟨S_, .f32⟩
  | .hbm, ⟨46, _⟩ => ⟨S_, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S_, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .i1⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x8192x8192, .f32⟩
  | .hbm, ⟨63, _⟩ => ⟨S2x4x8192x8192, .f32⟩
  | .hbm, ⟨64, _⟩ => ⟨S2x4x8192x8192, .f32⟩
  | .hbm, ⟨65, _⟩ => ⟨S2x4x8192x8192, .f32⟩
  | .hbm, ⟨66, _⟩ => ⟨S2x4x8192x8192, .f32⟩
  | .hbm, ⟨67, _⟩ => ⟨S_, .f32⟩
  | .hbm, ⟨68, _⟩ => ⟨S_, .f32⟩
  | .hbm, ⟨69, _⟩ => ⟨S2x4x8192x8192, .i1⟩
  | .hbm, ⟨70, _⟩ => ⟨S2x4x8192x8192, .f32⟩
  | .hbm, ⟨71, _⟩ => ⟨S2x4x8192x8192, .f32⟩
  | .hbm, ⟨72, _⟩ => ⟨S2x4x8192x64, .f32⟩
  | .hbm, ⟨73, _⟩ => ⟨S2x8192x4x64, .f32⟩
  | .hbm, ⟨74, _⟩ => ⟨S16384x256, .f32⟩
  | _, _ => ⟨S16384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S655360x128 : Shape := ⟨2, ![655360, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S655360x128, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S160, .i32⟩
  | .local _ .smem, ⟨1, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S160 : Shape := ⟨1, ![160]⟩
abbrev S1 : Shape := ⟨1, ![1]⟩
abbrev S655360x128 : Shape := ⟨2, ![655360, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S160x512x1024 : Shape := ⟨3, ![160, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S160x1 : Shape := ⟨2, ![160, 1]⟩
abbrev S160x1024x2048 : Shape := ⟨3, ![160, 1024, 2048]⟩
abbrev S1x32x2048 : Shape := ⟨3, ![1, 32, 2048]⟩
abbrev S32x2048 : Shape := ⟨2, ![32, 2048]⟩
abbrev S160x2048 : Shape := ⟨2, ![160, 2048]⟩
abbrev S1x32x1024x1024 : Shape := ⟨4, ![1, 32, 1024, 1024]⟩
abbrev S32x1024x1024 : Shape := ⟨3, ![32, 1024, 1024]⟩
abbrev S160x1024x1024 : Shape := ⟨3, ![160, 1024, 1024]⟩
abbrev S1x32x1024 : Shape := ⟨3, ![1, 32, 1024]⟩
abbrev S32x1024 : Shape := ⟨2, ![32, 1024]⟩
abbrev S160x1024 : Shape := ⟨2, ![160, 1024]⟩
abbrev S160x512x2048 : Shape := ⟨3, ![160, 512, 2048]⟩
abbrev S160x1x2048 : Shape := ⟨3, ![160, 1, 2048]⟩
abbrev S160x1x1024 : Shape := ⟨3, ![160, 1, 1024]⟩
abbrev S160x1x1 : Shape := ⟨3, ![160, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S655360x128, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S160x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x2048, .f32⟩
  | .hbm, ⟨19, _⟩ => ⟨S1x32x2048, .f32⟩
  | .hbm, ⟨20, _⟩ => ⟨S32x2048, .f32⟩
  | .hbm, ⟨21, _⟩ => ⟨S_, .i32⟩
  | .hbm, ⟨22, _⟩ => ⟨S160, .i32⟩
  | .hbm, ⟨23, _⟩ => ⟨S160, .i1⟩
  | .hbm, ⟨24, _⟩ => ⟨S_, .i32⟩
  | .hbm, ⟨25, _⟩ => ⟨S160, .i32⟩
  | .hbm, ⟨26, _⟩ => ⟨S160, .i32⟩
  | .hbm, ⟨27, _⟩ => ⟨S160, .i32⟩
  | .hbm, ⟨28, _⟩ => ⟨S160x1, .i32⟩
  | .hbm, ⟨29, _⟩ => ⟨S160x2048, .f32⟩
  | .hbm, ⟨30, _⟩ => ⟨S1x32x1024x1024, .f32⟩
  | .hbm, ⟨31, _⟩ => ⟨S32x1024x1024, .f32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S_, .i32⟩
  | .hbm, ⟨36, _⟩ => ⟨S160, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S160x1024x1024, .f32⟩
  | .hbm, ⟨41, _⟩ => ⟨S1x32x1024, .f32⟩
  | .hbm, ⟨42, _⟩ => ⟨S32x1024, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x1024, .f32⟩
  | .hbm, ⟨52, _⟩ => ⟨S160x512x2048, .f32⟩
  | .hbm, ⟨53, _⟩ => ⟨S160x1x2048, .f32⟩
  | .hbm, ⟨54, _⟩ => ⟨S160x512x2048, .f32⟩
  | .hbm, ⟨55, _⟩ => ⟨S160x512x2048, .f32⟩
  | .hbm, ⟨56, _⟩ => ⟨S160x512x1024, .f32⟩
  | .hbm, ⟨57, _⟩ => ⟨S_, .f32⟩
  | .hbm, ⟨58, _⟩ => ⟨S160x512x1024, .f32⟩
  | .hbm, ⟨59, _⟩ => ⟨S160x512x1024, .f32⟩
  | .hbm, ⟨60, _⟩ => ⟨S160x512x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S160x512x1024, .f32⟩
  | .hbm, ⟨65, _⟩ => ⟨S160x512x1024, .f32⟩
  | .hbm, ⟨66, _⟩ => ⟨S_, .f32⟩
  | .hbm, ⟨67, _⟩ => ⟨S160x512x1024, .f32⟩
  | .hbm, ⟨68, _⟩ => ⟨S160x512x1024, .f32⟩
  | .hbm, ⟨69, _⟩ => ⟨S_, .f32⟩
  | .hbm, ⟨70, _⟩ => ⟨S160x512x1024, .f32⟩
  | .hbm, ⟨71, _⟩ => ⟨S160x512x1024, .f32⟩
  | .hbm, ⟨72, _⟩ => ⟨S160x512x1024, .f32⟩
  | .hbm, ⟨73, _⟩ => ⟨S_, .f32⟩
  | .hbm, ⟨74, _⟩ => ⟨S160x512x1024, .f32⟩
  | .hbm, ⟨75, _⟩ => ⟨S160x512x1024, .f32⟩
  | .hbm, ⟨76, _⟩ => ⟨S160x512x1024, .f32⟩
  | .hbm, ⟨77, _⟩ => ⟨S160x512x1024, .f32⟩
  | .hbm, ⟨78, _⟩ => ⟨S_, .f32⟩
  | .hbm, ⟨79, _⟩ => ⟨S160x512x1024, .f32⟩
  | .hbm, ⟨80, _⟩ => ⟨S160x512x1024, .f32⟩
  | .hbm, ⟨81, _⟩ => ⟨S_, .f32⟩
  | .hbm, ⟨82, _⟩ => ⟨S160x512x1024, .f32⟩
  | .hbm, ⟨83, _⟩ => ⟨S160x512x1024, .f32⟩
  | .hbm, ⟨84, _⟩ => ⟨S160x512x1024, .f32⟩
  | .hbm, ⟨85, _⟩ => ⟨S160x512x1024, .f32⟩
  | .hbm, ⟨86, _⟩ => ⟨S160x1x1024, .f32⟩
  | .hbm, ⟨87, _⟩ => ⟨S160x512x1024, .f32⟩
  | .hbm, ⟨88, _⟩ => ⟨S160x512x1024, .f32⟩
  | .hbm, ⟨89, _⟩ => ⟨S160, .i32⟩
  | .hbm, ⟨90, _⟩ => ⟨S160x1x1, .i32⟩
  | .hbm, ⟨91, _⟩ => ⟨S_, .i32⟩
  | .hbm, ⟨92, _⟩ => ⟨S160x1x1, .i32⟩
  | .hbm, ⟨93, _⟩ => ⟨S160x1x1, .i1⟩
  | .hbm, ⟨94, _⟩ => ⟨S_, .f32⟩
  | .hbm, ⟨95, _⟩ => ⟨S_, .f32⟩
  | .hbm, ⟨96, _⟩ => ⟨S160x512x1024, .i1⟩
  | .hbm, ⟨97, _⟩ => ⟨S160x512x1024, .f32⟩
  | .hbm, ⟨98, _⟩ => ⟨S160x512x1024, .f32⟩
  | .hbm, ⟨99, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S2x6x1024 : Shape := ⟨3, ![2, 6, 1024]⟩
abbrev S1024x2304 : Shape := ⟨2, ![1024, 2304]⟩
abbrev S16384x1024 : Shape := ⟨2, ![16384, 1024]⟩
abbrev S1x1024 : Shape := ⟨2, ![1, 1024]⟩
abbrev S16384x2304 : Shape := ⟨2, ![16384, 2304]⟩
abbrev S512x1024 : Shape := ⟨2, ![512, 1024]⟩
abbrev S1x6x1024 : Shape := ⟨3, ![1, 6, 1024]⟩
abbrev S512x2304 : Shape := ⟨2, ![512, 2304]⟩
abbrev S6x1024 : Shape := ⟨2, ![6, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6x1024, .f32⟩
  | .hbm, ⟨3, _⟩ => ⟨S1024x2304, .f32⟩
  | .hbm, ⟨4, _⟩ => ⟨S16384x1024, .f32⟩
  | .hbm, ⟨5, _⟩ => ⟨S1024x2304, .bf16⟩
  | .hbm, ⟨6, _⟩ => ⟨S1x1024, .f32⟩
  | .hbm, ⟨7, _⟩ => ⟨S16384x2304, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2304, .bf16⟩
  | .local _ .vmem, ⟨6, _⟩ => ⟨S512x2304, .bf16⟩
  | .local _ .vmem, ⟨7, _⟩ => ⟨S512x2304, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2x8192x1024 : Shape := ⟨3, ![2, 8192, 1024]⟩
abbrev S1024 : Shape := ⟨1, ![1024]⟩
abbrev S2x6x1024 : Shape := ⟨3, ![2, 6, 1024]⟩
abbrev S1024x2304 : Shape := ⟨2, ![1024, 2304]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x1024 : Shape := ⟨2, ![2, 1024]⟩
abbrev S2x8192x2304 : Shape := ⟨3, ![2, 8192, 2304]⟩
abbrev S16384x2304 : Shape := ⟨2, ![16384, 2304]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6x1024, .f32⟩
  | .hbm, ⟨3, _⟩ => ⟨S1024x2304, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x1x1024, .f32⟩
  | .hbm, ⟨29, _⟩ => ⟨S2x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x2304, .f32⟩
  | .hbm, ⟨34, _⟩ => ⟨S16384x2304, .f32⟩
  | .hbm, ⟨35, _⟩ => ⟨S16384x2304, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S2x2x6144 : Shape := ⟨3, ![2, 2, 6144]⟩
abbrev S2x2x6x1024 : Shape := ⟨4, ![2, 2, 6, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .hbm, ⟨10, _⟩ => ⟨S2x2x6144, .f32⟩
  | .hbm, ⟨11, _⟩ => ⟨S2x2x6x1024, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩
abbrev S2x2x6x1024 : Shape := ⟨4, ![2, 2, 6, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144x2, .f32⟩
  | .hbm, ⟨13, _⟩ => ⟨S2x2x6144, .f32⟩
  | .hbm, ⟨14, _⟩ => ⟨S2x1x6144, .f32⟩
  | .hbm, ⟨15, _⟩ => ⟨S2x2x6144, .f32⟩
  | .hbm, ⟨16, _⟩ => ⟨S2x2x6144, .f32⟩
  | .hbm, ⟨17, _⟩ => ⟨S2x2x6x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S16384x256 : Shape := ⟨2, ![16384, 256]⟩
abbrev S16384x512 : Shape := ⟨2, ![16384, 512]⟩
abbrev S2x8192x1024 : Shape := ⟨3, ![2, 8192, 1024]⟩
abbrev S2x6x1024 : Shape := ⟨3, ![2, 6, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S16384x1024 : Shape := ⟨2, ![16384, 1024]⟩
abbrev S1x1024 : Shape := ⟨2, ![1, 1024]⟩
abbrev S131072x128 : Shape := ⟨2, ![131072, 128]⟩
abbrev S16384x128 : Shape := ⟨2, ![16384, 128]⟩
abbrev S8x128 : Shape := ⟨2, ![8, 128]⟩
abbrev S512x256 : Shape := ⟨2, ![512, 256]⟩
abbrev S512x512 : Shape := ⟨2, ![512, 512]⟩
abbrev S512x1024 : Shape := ⟨2, ![512, 1024]⟩
abbrev S1x6x1024 : Shape := ⟨3, ![1, 6, 1024]⟩
abbrev S4096x128 : Shape := ⟨2, ![4096, 128]⟩
abbrev S512x128 : Shape := ⟨2, ![512, 128]⟩
abbrev S6x1024 : Shape := ⟨2, ![6, 1024]⟩
abbrev S1x256 : Shape := ⟨2, ![1, 256]⟩
abbrev S512 : Shape := ⟨1, ![512]⟩
abbrev S512x1 : Shape := ⟨2, ![512, 1]⟩
abbrev S256x1024 : Shape := ⟨2, ![256, 1024]⟩
abbrev S1x512 : Shape := ⟨2, ![1, 512]⟩
abbrev S8x512 : Shape := ⟨2, ![8, 512]⟩

abbrev nBuf : Space → Nat
  | .hbm => 33
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S2x8192x1024, .f32⟩
  | .hbm, ⟨4, _⟩ => ⟨S2x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S_, .bf16⟩
  | .hbm, ⟨11, _⟩ => ⟨S1024x128, .bf16⟩
  | .hbm, ⟨12, _⟩ => ⟨S1024x32, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S16384x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S16384x1024, .f32⟩
  | .hbm, ⟨29, _⟩ => ⟨S131072x128, .f32⟩
  | .hbm, ⟨30, _⟩ => ⟨S16384x128, .i32⟩
  | .hbm, ⟨31, _⟩ => ⟨S16384x128, .f32⟩
  | .hbm, ⟨32, _⟩ => ⟨S8x128, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S4096x128, .f32⟩
  | .local _ .vmem, ⟨18, _⟩ => ⟨S4096x128, .f32⟩
  | .local _ .vmem, ⟨19, _⟩ => ⟨S512x128, .i32⟩
  | .local _ .vmem, ⟨20, _⟩ => ⟨S512x128, .i32⟩
  | .local _ .vmem, ⟨21, _⟩ => ⟨S512x128, .f32⟩
  | .local _ .vmem, ⟨22, _⟩ => ⟨S512x128, .f32⟩
  | .local _ .vmem, ⟨23, _⟩ => ⟨S8x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S16384x256 : Shape := ⟨2, ![16384, 256]⟩
abbrev S16384x512 : Shape := ⟨2, ![16384, 512]⟩
abbrev S2x8192x1024 : Shape := ⟨3, ![2, 8192, 1024]⟩
abbrev S2x6x1024 : Shape := ⟨3, ![2, 6, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S512 : Shape := ⟨1, ![512]⟩
abbrev S1x512 : Shape := ⟨2, ![1, 512]⟩
abbrev S16384x1024 : Shape := ⟨2, ![16384, 1024]⟩
abbrev S2x1x1024 : Shape := ⟨3, ![2, 1, 1024]⟩
abbrev S2x1024 : Shape := ⟨2, ![2, 1024]⟩
abbrev S2x8192 : Shape := ⟨2, ![2, 8192]⟩
abbrev S2x8192x1 : Shape := ⟨3, ![2, 8192, 1]⟩
abbrev S1x1x1024 : Shape := ⟨3, ![1, 1, 1024]⟩
abbrev S131072x128 : Shape := ⟨2, ![131072, 128]⟩

abbrev nBuf : Space → Nat
  | .hbm => 101
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S2x8192x1024, .f32⟩
  | .hbm, ⟨4, _⟩ => ⟨S2x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S256, .f32⟩
  | .hbm, ⟨11, _⟩ => ⟨S16384x256, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S1x256, .f32⟩
  | .hbm, ⟨25, _⟩ => ⟨S16384x256, .f32⟩
  | .hbm, ⟨26, _⟩ => ⟨S16384x256, .f32⟩
  | .hbm, ⟨27, _⟩ => ⟨S512, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S256, .f32⟩
  | .hbm, ⟨45, _⟩ => ⟨S16384x256, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S16384x1024, .f32⟩
  | .hbm, ⟨62, _⟩ => ⟨S2x8192x1024, .f32⟩
  | .hbm, ⟨63, _⟩ => ⟨S2x1x1024, .f32⟩
  | .hbm, ⟨64, _⟩ => ⟨S2x1024, .f32⟩
  | .hbm, ⟨65, _⟩ => ⟨S2x1x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S_, .f32⟩
  | .hbm, ⟨72, _⟩ => ⟨S2x8192, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x1024, .f32⟩
  | .hbm, ⟨82, _⟩ => ⟨S2x8192x1024, .f32⟩
  | .hbm, ⟨83, _⟩ => ⟨S1x1x1024, .f32⟩
  | .hbm, ⟨84, _⟩ => ⟨S2x8192x1024, .f32⟩
  | .hbm, ⟨85, _⟩ => ⟨S2x8192x1024, .f32⟩
  | .hbm, ⟨86, _⟩ => ⟨S2x1x1024, .f32⟩
  | .hbm, ⟨87, _⟩ => ⟨S2x1024, .f32⟩
  | .hbm, ⟨88, _⟩ => ⟨S2x1x1024, .f32⟩
  | .hbm, ⟨89, _⟩ => ⟨S_, .f32⟩
  | .hbm, ⟨90, _⟩ => ⟨S2x1x1024, .f32⟩
  | .hbm, ⟨91, _⟩ => ⟨S2x1x1024, .f32⟩
  | .hbm, ⟨92, _⟩ => ⟨S2x8192x1024, .f32⟩
  | .hbm, ⟨93, _⟩ => ⟨S2x8192x1024, .f32⟩
  | .hbm, ⟨94, _⟩ => ⟨S2x1x1024, .f32⟩
  | .hbm, ⟨95, _⟩ => ⟨S2x1024, .f32⟩
  | .hbm, ⟨96, _⟩ => ⟨S2x1x1024, .f32⟩
  | .hbm, ⟨97, _⟩ => ⟨S2x8192x1024, .f32⟩
  | .hbm, ⟨98, _⟩ => ⟨S2x8192x1024, .f32⟩
  | .hbm, ⟨99, _⟩ => ⟨S16384x1024, .f32⟩
  | .hbm, ⟨100, _⟩ => ⟨S131072x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Kernel6.lean ====
abbrev S16384x2304 : Shape := ⟨2, ![16384, 2304]⟩
abbrev S8 : Shape := ⟨1, ![8]⟩
abbrev S32x12 : Shape := ⟨2, ![32, 12]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32x8 : Shape := ⟨2, ![32, 8]⟩
abbrev S_ : Shape := ⟨0, ![]⟩
abbrev S128x256 : Shape := ⟨2, ![128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S8x128x256 : Shape := ⟨3, ![8, 128, 256]⟩
abbrev S16384x512 : Shape := ⟨2, ![16384, 512]⟩
abbrev S128x128 : Shape := ⟨2, ![128, 128]⟩
abbrev S128x512 : Shape := ⟨2, ![128, 512]⟩
abbrev S256x128 : Shape := ⟨2, ![256, 128]⟩
abbrev S512x256 : Shape := ⟨2, ![512, 256]⟩
abbrev S512x1 : Shape := ⟨2, ![512, 1]⟩
abbrev S128x64 : Shape := ⟨2, ![128, 64]⟩
abbrev S512x64 : Shape := ⟨2, ![512, 64]⟩
abbrev S4x128x256 : Shape := ⟨3, ![4, 128, 256]⟩
abbrev S256x64 : Shape := ⟨2, ![256, 64]⟩
abbrev S1 : Shape := ⟨1, ![1]⟩
abbrev S512 : Shape := ⟨1, ![512]⟩
abbrev S2x8192x512 : Shape := ⟨3, ![2, 8192, 512]⟩
abbrev S2x8064x512 : Shape := ⟨3, ![2, 8064, 512]⟩

abbrev nBuf : Space → Nat
  | .hbm => 53
  | .vmem => 15
  | .smem => 1
  | _ => 0

abbrev bufTy : (tb : Table) → Fin (tcTables nBuf tb) → BufTy
  | .hbm, ⟨0, _⟩ => ⟨S16384x2304, .bf16⟩
  | .hbm, ⟨1, _⟩ => ⟨S8, .f32⟩
  | .hbm, ⟨2, _⟩ => ⟨S32x12, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S32x8, .f32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S128x256x1, .i32⟩
  | .hbm, ⟨43, _⟩ => ⟨S32, .i32⟩
  | .hbm, ⟨44, _⟩ => ⟨S1x1x32, .i32⟩
  | .hbm, ⟨45, _⟩ => ⟨S128x256x32, .i32⟩
  | .hbm, ⟨46, _⟩ => ⟨S128x256x32, .i32⟩
  | .hbm, ⟨47, _⟩ => ⟨S128x256x32, .i1⟩
  | .hbm, ⟨48, _⟩ => ⟨S128x256x32, .f32⟩
  | .hbm, ⟨49, _⟩ => ⟨S8x128x256, .f32⟩
  | .hbm, ⟨50, _⟩ => ⟨S16384x512, .f32⟩
  | .hbm, ⟨51, _⟩ => ⟨S2x8192x512, .f32⟩
  | .hbm, ⟨52, _⟩ => ⟨S2x8064x512, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S8x128x256, .f32⟩
  | .local _ .vmem, ⟨13, _⟩ => ⟨S128x512, .f32⟩
  | .local _ .vmem, ⟨14, _⟩ => ⟨S128x512, .f32⟩
  | .local _ .smem, ⟨0, _⟩ => ⟨S8, .f32⟩
  | _, _ => ⟨S16384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c10_i32 : BitVec 32 := 10#32
  let c0_i32_0 : BitVec 32 := 0#32
  ![v3.toNat, c10_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c10_i32 : BitVec 32 := 10#32
  let c0_i32 : BitVec 32 := 0#32
  ![v1.toNat, c10_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c11_i32 : BitVec 32 := 11#32
  let c0_i32_0 : BitVec 32 := 0#32
  ![v3.toNat, c11_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c11_i32 : BitVec 32 := 11#32
  let c0_i32 : BitVec 32 := 0#32
  ![v1.toNat, c11_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x2304 : Shape := ⟨2, ![16384, 2304]⟩
abbrev S8 : Shape := ⟨1, ![8]⟩
abbrev S32x12 : Shape := ⟨2, ![32, 12]⟩
abbrev S2x8192x2304 : Shape := ⟨3, ![2, 8192, 2304]⟩
abbrev S2x8192x768 : Shape := ⟨3, ![2, 8192, 768]⟩
abbrev S2x8192x512 : Shape := ⟨3, ![2, 8192, 512]⟩
abbrev S2x64x128x2x4x64 : Shape := ⟨6, ![2, 64, 128, 2, 4, 64]⟩
abbrev S2x8192x128 : Shape := ⟨3, ![2, 8192, 128]⟩
abbrev S2x8192x2x64 : Shape := ⟨4, ![2, 8192, 2, 64]⟩
abbrev S_ : Shape := ⟨0, ![]⟩
abbrev S2x8320x2x64 : Shape := ⟨4, ![2, 8320, 2, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S32x8 : Shape := ⟨2, ![32, 8]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S2x64x2x256x128x4 : Shape := ⟨6, ![2, 64, 2, 256, 128, 4]⟩
abbrev S2x64x2x4x128x256 : Shape := ⟨6, ![2, 64, 2, 4, 128, 256]⟩
abbrev S1x64x1x1x128x256 : Shape := ⟨6, ![1, 64, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩
abbrev S2x8064x512 : Shape := ⟨3, ![2, 8064, 512]⟩

abbrev nBuf : Space → Nat
  | .hbm => 138
  | .vmem => 0
  | .smem => 0
  | _ => 0

abbrev hbmTy0_0 (i : Nat) : BufTy := match i % 128 with
  | 0 => ⟨S16384x2304, .bf16⟩
  | 1 => ⟨S8, .f32⟩
  | 2 => ⟨S32x12, .f32⟩
  | 3 => ⟨S16384x2304, .f32⟩
  | 4 => ⟨S2x8192x2304, .f32⟩
  | 5 => ⟨S2x8192x768, .f32⟩
  | 6 => ⟨S2x8192x512, .f32⟩
  | 7 => ⟨S2x64x128x2x4x64, .f32⟩
  | 8 => ⟨S2x8192x128, .f32⟩
  | 9 => ⟨S2x8192x2x64, .f32⟩
  | 10 => ⟨S2x8192x128, .f32⟩
  | 11 => ⟨S2x8192x2x64, .f32⟩
  | 12 => ⟨S_, .i32⟩
  | 13 => ⟨S_, .f32⟩
  | 14 => ⟨S2x8320x2x64, .f32⟩
  | 15 => ⟨S2x65x128x2x64, .f32⟩
  | 16 => ⟨S2x64x128x2x64, .f32⟩
  | 17 => ⟨S2x64x128x2x64, .f32⟩
  | 18 => ⟨S2x64x256x2x64, .f32⟩
  | 19 => ⟨S_, .i32⟩
  | 20 => ⟨S_, .f32⟩
  | 21 => ⟨S2x8320x2x64, .f32⟩
  | 22 => ⟨S2x65x128x2x64, .f32⟩
  | 23 => ⟨S2x64x128x2x64, .f32⟩
  | 24 => ⟨S2x64x128x2x64, .f32⟩
  | 25 => ⟨S2x64x256x2x64, .f32⟩
  | 26 => ⟨S128, .i32⟩
  | 27 => ⟨S128x1, .i32⟩
  | 28 => ⟨S256, .i32⟩
  | 29 => ⟨S1x256, .i32⟩
  | 30 => ⟨S_, .i32⟩
  | 31 => ⟨S128x1, .i32⟩
  | 32 => ⟨S128x1, .i32⟩
  | 33 => ⟨S128x256, .i32⟩
  | 34 => ⟨S128x256, .i32⟩
  | 35 => ⟨S128x256, .i32⟩
  | 36 => ⟨S64, .i32⟩
  | 37 => ⟨S64x1x1, .i32⟩
  | 38 => ⟨S_, .i32⟩
  | 39 => ⟨S64x1x1, .i32⟩
  | 40 => ⟨S64x1x1, .i32⟩
  | 41 => ⟨S_, .i32⟩
  | 42 => ⟨S64x1x1, .i32⟩
  | 43 => ⟨S64x1x1, .i32⟩
  | 44 => ⟨S1x1x256, .i32⟩
  | 45 => ⟨S64x1x256, .i32⟩
  | 46 => ⟨S64x1x256, .i32⟩
  | 47 => ⟨S64x1x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S_, .i32⟩
  | 56 => ⟨S64x1x256, .i32⟩
  | 57 => ⟨S64x1x256, .i1⟩
  | 58 => ⟨S1x128x256, .i1⟩
  | 59 => ⟨S64x128x256, .i1⟩
  | 60 => ⟨S64x128x256, .i1⟩
  | 61 => ⟨S64x128x256, .i1⟩
  | 62 => ⟨S32x8, .f32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i32⟩
  | 69 => ⟨S128x256, .f32⟩
  | 70 => ⟨S_, .f32⟩
  | 71 => ⟨S128x256, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S128x256, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i32⟩
  | 97 => ⟨S128x256, .i32⟩
  | 98 => ⟨S128x256x1, .i32⟩
  | 99 => ⟨S128x256x8, .f32⟩
  | 100 => ⟨S8x128x256, .f32⟩
  | 101 => ⟨S2x4x128x256, .f32⟩
  | 102 => ⟨S2x64x2x256x128x4, .f32⟩
  | 103 => ⟨S2x64x2x4x128x256, .f32⟩
  | 104 => ⟨S_, .f32⟩
  | 105 => ⟨S2x64x2x4x128x256, .f32⟩
  | 106 => ⟨S2x64x2x4x128x256, .f32⟩
  | 107 => ⟨S1x64x1x1x128x256, .i1⟩
  | 108 => ⟨S1x1x2x4x128x256, .f32⟩
  | 109 => ⟨S2x64x2x4x128x256, .f32⟩
  | 110 => ⟨S2x64x2x4x128x256, .f32⟩
  | 111 => ⟨S_, .f32⟩
  | 112 => ⟨S_, .f32⟩
  | 113 => ⟨S2x64x2x4x128x256, .i1⟩
  | 114 => ⟨S2x64x2x4x128x256, .f32⟩
  | 115 => ⟨S2x64x2x4x128x256, .f32⟩
  | 116 => ⟨S1x1x2x4x1x1, .f32⟩
  | 117 => ⟨S2x64x2x4x128x1, .f32⟩
  | 118 => ⟨S2x64x2x4x128x257, .f32⟩
  | 119 => ⟨S_, .f32⟩
  | 120 => ⟨S2x64x2x4x128, .f32⟩
  | 121 => ⟨S_, .f32⟩
  | 122 => ⟨S2x64x2x4x128, .f32⟩
  | 123 => ⟨S2x64x2x4x128, .f32⟩
  | 124 => ⟨S2x64x2x4x128x1, .f32⟩
  | 125 => ⟨S2x64x2x4x128x257, .f32⟩
  | 126 => ⟨S2x64x2x4x128x257, .f32⟩
  | 127 => ⟨S2x64x2x4x128x257, .f32⟩
  | _ => ⟨S16384x2304, .bf16⟩

abbrev hbmTy0_1 (i : Nat) : BufTy := match i % 128 with
  | 0 => ⟨S_, .f32⟩
  | 1 => ⟨S2x64x2x4x128, .f32⟩
  | 2 => ⟨S2x64x2x4x128x1, .f32⟩
  | 3 => ⟨S2x64x2x4x128x257, .f32⟩
  | 4 => ⟨S2x64x2x4x128x257, .f32⟩
  | 5 => ⟨S2x64x2x4x128x256, .f32⟩
  | 6 => ⟨S2x64x2x64x4x128, .f32⟩
  | 7 => ⟨S2x64x128x2x4x64, .f32⟩
  | 8 => ⟨S2x8192x512, .f32⟩
  | 9 => ⟨S2x8064x512, .f32⟩
  | _ => ⟨S16384x2304, .bf16⟩

abbrev hbmTy (i : Nat) : BufTy := match i / 128 with
  | 0 => hbmTy0_0 i
  | 1 => hbmTy0_1 i
  | _ => ⟨S16384x2304, .bf16⟩

abbrev bufTy : (tb : Table) → Fin (tcTables nBuf tb) → BufTy
  | .hbm, ⟨i, _⟩ => hbmTy i
  | _, _ => ⟨S16384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_11 : Ref sig .tc := ⟨.hbm, 81, rfl⟩
abbrev main_v63 : Ref sig .tc := ⟨.hbm, 82, rfl⟩
abbrev main_v64 : Ref sig .tc := ⟨.hbm, 83, rfl⟩
abbrev main_c_12 : Ref sig .tc := ⟨.hbm, 84, rfl⟩
abbrev main_v65 : Ref sig .tc := ⟨.hbm, 85, rfl⟩
abbrev main_v66 : Ref sig .tc := ⟨.hbm, 86, rfl⟩
abbrev main_c_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_c_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Proof.SwMath.lean ====
/- The attention of one query over a window of 256 keys and a sink, written two ways. -/
module

public import Idealize.ShloMosaic.Lib.Pointwise
public import Idealize.ShloMosaic.PureOps.Ideal.Laws

@[expose] public section

noncomputable section

namespace Cert.Sw

open Idealize.ShloMosaic

/-- The number the maxima start from. -/
abbrev low : EReal := Ideal.ofBits .f32 0xFF800000#32

theorem low_eq : low = ⊥ := by
  simp [low, Ideal.ofBits, Ideal.ieee]

/-- The largest of the scores and the sink. -/
def top (s : Fin 256 → EReal) (k : EReal) : EReal := max (Finset.fold max low s Finset.univ) k

/-- The values, weighted by the exponentials of the scores, over the exponentials' sum with the sink's. -/
def attn (s : Fin 256 → EReal) (k : EReal) (v : Fin 256 → EReal) : EReal :=
  Ideal.div (∑ x, Ideal.exp (s x - top s k) * v x) (∑ x, Ideal.exp (s x - top s k) + Ideal.exp (k - top s k))

/-- The scores with the sink after them. -/
def withSink (s : Fin 256 → EReal) (k : EReal) : Fin 257 → EReal := Fin.snoc (α := fun _ => EReal) s k

theorem withSink_lt (s : Fin 256 → EReal) (k : EReal) (x : Fin 257) (j : Fin 256) (h : x.val = j.val) : withSink s k x = s j := by
  have e : x = j.castSucc := Fin.ext h
  rw [e]
  exact Fin.snoc_castSucc (α := fun _ => EReal) k s j

theorem withSink_last (s : Fin 256 → EReal) (k : EReal) (x : Fin 257) (h : x.val = 256) : withSink s k x = k := by
  have e : x = Fin.last 256 := Fin.ext h
  rw [e]
  exact Fin.snoc_last (α := fun _ => EReal) k s

theorem top_withSink (s : Fin 256 → EReal) (k : EReal) : max low (Finset.fold max low (withSink s k) Finset.univ) = top s k := by
  have l : ∀ {n : ℕ} (f : Fin n → EReal) (c : EReal), Finset.fold max low f Finset.univ ≤ c ↔ ∀ x, f x ≤ c := fun f c => by
    rw [Finset.fold_max_le, low_eq]
    exact ⟨fun h x => h.2 x (Finset.mem_univ x), fun h => ⟨bot_le, fun x _ => h x⟩⟩
  unfold top
  refine eq_of_forall_ge_iff fun c => ?_
  rw [max_le_iff, max_le_iff, l, l, low_eq]
  constructor
  · rintro ⟨_, h⟩
    exact ⟨fun x => (withSink_lt s k x.castSucc x rfl) ▸ h x.castSucc, (withSink_last s k (Fin.last 256) rfl) ▸ h (Fin.last 256)⟩
  · rintro ⟨h, hk⟩
    refine ⟨bot_le, fun x => ?_⟩
    by_cases hx : x.val < 256
    · rw [withSink_lt s k x ⟨x.val, hx⟩ rfl]; exact h _
    · rw [withSink_last s k x (by omega)]; exact hk

theorem sum_withSink (s : Fin 256 → EReal) (k : EReal) (g : EReal → EReal) :
    ∑ x, g (withSink s k x) = ∑ x, g (s x) + g k := by
  rw [Fin.sum_univ_castSucc]
  refine congrArg₂ (· + ·) (Finset.sum_congr rfl fun x _ => ?_) ?_
  · rw [withSink_lt s k x.castSucc x rfl]
  · rw [withSink_last s k (Fin.last 256) rfl]

/-- A product with a number neither negative nor infinite goes into a sum. -/
theorem sum_mul_of {n : ℕ} (f : Fin n → EReal) (c : EReal) (h0 : 0 ≤ c) (ht : c ≠ ⊤) : (∑ x, f x) * c = ∑ x, f x * c := by
  induction n with
  | zero => simp
  | succ n ih =>
    rw [Fin.sum_univ_castSucc, Fin.sum_univ_castSucc, ← ih, mul_comm _ c, EReal.left_distrib_of_nonneg_of_ne_top h0 ht, mul_comm c, mul_comm c]

theorem exp_nonneg (x : EReal) : 0 ≤ Ideal.exp x := by
  induction x with
  | bot => exact le_refl _
  | top => exact le_top
  | coe a => exact EReal.coe_nonneg.2 (Real.exp_pos a).le

/-- Where the sink is real and no score is plus infinity, weighting by quotients is the quotient of the weighted sum. -/
theorem attn_eq (s : Fin 256 → EReal) (a : ℝ) (v : Fin 256 → EReal) (hs : ∀ x, s x ≠ ⊤) :
    (∑ x, v x * Ideal.div (Ideal.exp (s x - max low (Finset.fold max low (withSink s a) Finset.univ)))
        (∑ y, Ideal.exp (withSink s a y - max low (Finset.fold max low (withSink s a) Finset.univ))))
      = attn s a v := by
  rw [top_withSink, sum_withSink s a (fun z => Ideal.exp (z - top s a))]
  unfold attn
  obtain ⟨m, hm⟩ : ∃ m : ℝ, top s a = m := by
    have hb : top s a ≠ ⊥ := fun h => by
      have : (a : EReal) ≤ ⊥ := h ▸ le_max_right _ _
      exact absurd (le_bot_iff.1 this) (EReal.coe_ne_bot a)
    have ht : top s a ≠ ⊤ := by
      refine ne_of_lt (max_lt ?_ (EReal.coe_lt_top a))
      rw [Finset.fold_max_lt, low_eq]
      exact ⟨bot_lt_top, fun x _ => lt_top_iff_ne_top.2 (hs x)⟩
    exact ⟨_, (EReal.coe_toReal ht hb).symm⟩
  rw [hm]
  generalize hL : ∑ x, Ideal.exp (s x - m) + Ideal.exp (a - m) = L
  have hpos : 0 < L := by
    rw [← hL]
    have h1 : (0 : EReal) < Ideal.exp (a - m) := by
      rw [← EReal.coe_sub]; exact EReal.coe_pos.2 (Real.exp_pos _)
    exact lt_of_lt_of_le h1 (le_add_of_nonneg_left (Finset.sum_nonneg fun x _ => exp_nonneg _))
  have hd : ∀ x, Ideal.div x L = x * L⁻¹ := fun x => if_neg hpos.ne'
  rw [hd, sum_mul_of _ _ (EReal.inv_nonneg_of_nonneg hpos.le) ?_]
  · refine Finset.sum_congr rfl fun x _ => ?_
    rw [hd, mul_comm (v x), mul_assoc, mul_assoc, mul_comm (L⁻¹)]
  · induction L with
    | bot => simp
    | top => simp
    | coe l => rw [← EReal.coe_inv]; exact EReal.coe_ne_top _

end Cert.Sw

end
-- ==== Proof.SwVal.lean ====
/- What one grid point of the sliding-window attention leaves in its block, entry by entry. -/
module

public import proofs.«01_k».proof.Proof.Gen.Kernel6Ideal.Frame
public import proofs.«01_k».proof.Proof.SwMath
public import Idealize.ShloMosaic.Lib.Pointwise
public import Idealize.ShloMosaic.Lib.Pipeline.Value
public import Idealize.ShloMosaic.Lib.Pipeline.ValueKit.Tiles

@[expose] public section

set_option maxRecDepth 16384
noncomputable section

namespace Cert.Sw

open Idealize.ShloMosaic Idealize.ShloMosaic.TcCoe Idealize.SL.Sem
open Cert.Kernel6Ideal Cert.Kernel6Ideal.Gen

/-- A query's row minus a key's, both counted in the window of 256. -/
def dst (r j : ℕ) : BitVec 32 := IntOp.subi (IntOp.addi 128#32 (BitVec.ofNat 32 r)) (BitVec.ofNat 32 j)
/-- Whether a query sees a key. -/
def msk (r j : ℕ) : BitVec 1 := IntOp.andi (IntOp.cmpi .sge (dst r j) 0#32) (IntOp.cmpi .slt (dst r j) 128#32)
/-- A score where the query sees the key, the very negative number elsewhere. -/
def masked (r j : ℕ) (x : EReal) : EReal := Scalar.select (msk r j) x (Ideal.ofBits .f32 0xF149F2CA#32)

theorem stack_at (v : FVec Ideal S128x256 .bf16) (c : Fin 4) (r : Fin 128) (e : Fin 64) (R : Fin 512) (hR : R.val = 128 * c.val + r.val) (C : Fin 256) (hC : C.val = 64 * c.val + e.val) :
    concatenate S512x64 0 [⟨S128x64, extractStridedSlice S128x64 ![0, 0] v slices_S128x256_o0_0_S128x64⟩, ⟨S128x64, extractStridedSlice S128x64 ![0, 64] v slices_S128x256_o0_64_S128x64⟩,
      ⟨S128x64, extractStridedSlice S128x64 ![0, 128] v slices_S128x256_o0_128_S128x64⟩, ⟨S128x64, extractStridedSlice S128x64 ![0, 192] v slices_S128x256_o0_192_S128x64⟩]
      concatenates_S128x64_S128x64_S128x64_S128x64_S512x64_d0 (ix2 R e) = v (ix2 r C) := by
  have go : ∀ (k o : ℕ) (hs : S128x256.Slices ![0, o] S128x64), o = 64 * k → c.val = k → extractStridedSlice S128x64 ![0, o] v hs (ix2 r e) = v (ix2 r C) := fun k o hs ho hk =>
    extractStridedSlice_apply _ _ _ _ _ fun a => by
      match a with
      | 0 => show r.val = 0 + r.val; omega
      | 1 => show C.val = o + e.val; omega
  have hc : ∀ k : ℕ, ∀ b : Fin 2, Fin.cast rfl b ≠ (0 : Fin 2) → ((ix2 r e : S128x64.Idx) b).val = ((ix2 R e : S512x64.Idx) b).val := fun _ b hb => by
    match b with
    | 0 => exact absurd rfl hb
    | 1 => rfl
  obtain h | h | h | h : c.val = 0 ∨ c.val = 1 ∨ c.val = 2 ∨ c.val = 3 := by have := c.isLt; omega
  · refine (concatenate_apply_piece (t := S512x64) 0 [_, _, _, _] _ (ix2 R e) 0 (by show 0 < 4; decide) S128x64 _ rfl rfl 0 rfl (ix2 r e) (hc 0) ?_).trans (go 0 0 _ rfl h)
    show 0 + r.val = R.val; omega
  · refine (concatenate_apply_piece (t := S512x64) 0 [_, _, _, _] _ (ix2 R e) 1 (by show 1 < 4; decide) S128x64 _ rfl rfl 128 rfl (ix2 r e) (hc 0) ?_).trans (go 1 64 _ rfl h)
    show 128 + r.val = R.val; omega
  · refine (concatenate_apply_piece (t := S512x64) 0 [_, _, _, _] _ (ix2 R e) 2 (by show 2 < 4; decide) S128x64 _ rfl rfl 256 rfl (ix2 r e) (hc 0) ?_).trans (go 2 128 _ rfl h)
    show 256 + r.val = R.val; omega
  · refine (concatenate_apply_piece (t := S512x64) 0 [_, _, _, _] _ (ix2 R e) 3 (by show 3 < 4; decide) S128x64 _ rfl rfl 384 rfl (ix2 r e) (hc 0) ?_).trans (go 3 192 _ rfl h)
    show 384 + r.val = R.val; omega

theorem flat_at (v : FVec Ideal S4x128x256 .f32) (c : Fin 4) (r : Fin 128) (j : Fin 256) (R : Fin 512) (hR : R.val = 128 * c.val + r.val) :
    shapeCast S512x256 (shapeCast S4x128x256 v shapeCasts_S4x128x256_S4x128x256) shapeCasts_S4x128x256_S512x256 (ix2 R j) = v (ix3 c r j) := by
  refine (shapeCast_apply _ _ (ix2 R j) (ix3 c r j) ?_).trans (shapeCast_apply _ _ (ix3 c r j) (ix3 c r j) rfl)
  rewrite [Shape.rowMajor_val_three, Shape.rowMajor_val_two]
  show (c.val * 128 + r.val) * 256 + j.val = R.val * 256 + j.val
  omega

/-- The first group's scores. -/
theorem pay10_at (v2 : FVec Ideal S256x128 .bf16) (v37 : IVec S512x256 1) (v63 : FVec Ideal S128x256 .bf16) (v71 : FVec Ideal S4x128x256 .f32) (c : Fin 4) (r : Fin 128) (j : Fin 256) (R : Fin 512) (hR : R.val = 128 * c.val + r.val) :
    k0_pay10 (F := Ideal) v2 v37 v63 v71 (ix2 R j)
      = Scalar.select (v37 (ix2 R j)) ((∑ e : Fin 64, v63 (ix2 r (⟨64 * c.val + e.val, by omega⟩ : Fin 256)) * Ideal.ofBits .bf16 0x3E00#16 * v2 (ix2 j (⟨e.val, by omega⟩ : Fin 128))) + v71 (ix3 c r j)) (Ideal.ofBits .f32 0xF149F2CA#32) := by
  have e1 := fun e : Fin 64 => stack_at (mulf v63 (broadcast S128x256 (Scalar.ofBits .bf16 0x3E00#16))) c r e R hR (⟨64 * c.val + e.val, by omega⟩ : Fin 256) rfl
  have e2 := flat_at v71 c r j R hR
  unfold k0_pay10
  generalize concatenate S512x64 0 _ _ = q at e1 ⊢
  generalize shapeCast S512x256 _ _ = b at e2 ⊢
  pointwise
  rw [e2]
  simp only [e1]
  rfl

/-- The second group's scores. -/
theorem pay18_at (v2 : FVec Ideal S256x128 .bf16) (v37 : IVec S512x256 1) (v63 : FVec Ideal S128x256 .bf16) (v71 : FVec Ideal S4x128x256 .f32) (c : Fin 4) (r : Fin 128) (j : Fin 256) (R : Fin 512) (hR : R.val = 128 * c.val + r.val) :
    k0_pay18 (F := Ideal) v2 v37 v63 v71 (ix2 R j)
      = Scalar.select (v37 (ix2 R j)) ((∑ e : Fin 64, v63 (ix2 r (⟨64 * c.val + e.val, by omega⟩ : Fin 256)) * Ideal.ofBits .bf16 0x3E00#16 * v2 (ix2 j (⟨64 + e.val, by omega⟩ : Fin 128))) + v71 (ix3 c r j)) (Ideal.ofBits .f32 0xF149F2CA#32) := by
  have e1 := fun e : Fin 64 => stack_at (mulf v63 (broadcast S128x256 (Scalar.ofBits .bf16 0x3E00#16))) c r e R hR (⟨64 * c.val + e.val, by omega⟩ : Fin 256) rfl
  have e2 := flat_at v71 c r j R hR
  unfold k0_pay18
  generalize concatenate S512x64 0 _ _ = q at e1 ⊢
  generalize shapeCast S512x256 _ _ = b at e2 ⊢
  pointwise
  rw [e2]
  simp only [e1]
  rfl

theorem sink_at (a0 a1 a2 a3 z : EReal) : ∀ c : Fin 4,
    Scalar.select (IntOp.cmpi .eq (BitVec.ofNat 32 c.val) 3#32) a3 (Scalar.select (IntOp.cmpi .eq (BitVec.ofNat 32 c.val) 2#32) a2
      (Scalar.select (IntOp.cmpi .eq (BitVec.ofNat 32 c.val) 1#32) a1 (Scalar.select (IntOp.cmpi .eq (BitVec.ofNat 32 c.val) 0#32) a0 z)))
      = ![a0, a1, a2, a3] c
  | 0 => rfl
  | 1 => rfl
  | 2 => rfl
  | 3 => rfl

theorem head_at (R : Fin 512) : k0_pay9 (iota .tc S512x1 32 [0] iota_S512x1_d0_w32) (ix2 R (0 : Fin 1)) = BitVec.ofNat 32 (R.val / 128) := by
  pointwise [k0_pay9]
  revert R
  decide +kernel

theorem mask_at (i : grid0.Coords) (hi : 0 < (i 1).val) (R : Fin 512) (j : Fin 256) (r : ℕ) (hr : r = R.val % 128) :
    k0_pay8 i (ix2 R j) = msk r j.val := by
  pointwise [k0_pay8]
  have hD : ∀ R : Fin 512, Scalar.select (IntOp.andi (IntOp.xori (IntOp.cmpi .slt (IntOp.remsi .vector (BitVec.ofNat 32 R.val) (Scalar.select (Scalar.cmpi .eq 128#32 0#32) 1#32 128#32)) 0#32)
      (Scalar.cmpi .slt (Scalar.select (Scalar.cmpi .eq 128#32 0#32) 1#32 128#32) 0#32)) (IntOp.cmpi .ne (IntOp.remsi .vector (BitVec.ofNat 32 R.val) (Scalar.select (Scalar.cmpi .eq 128#32 0#32) 1#32 128#32)) 0#32))
      (IntOp.addi (IntOp.remsi .vector (BitVec.ofNat 32 R.val) (Scalar.select (Scalar.cmpi .eq 128#32 0#32) 1#32 128#32)) (Scalar.select (Scalar.cmpi .eq 128#32 0#32) 1#32 128#32))
      (IntOp.remsi .vector (BitVec.ofNat 32 R.val) (Scalar.select (Scalar.cmpi .eq 128#32 0#32) 1#32 128#32)) = BitVec.ofNat 32 (R.val % 128) := by decide +kernel
  have hn : ∀ n : Fin 64, 0 < n.val → Scalar.cmpi .sgt (BitVec.ofNat 32 n.val) 0#32 = 1#1 := by decide +kernel
  have ho : ∀ x y : BitVec 1, IntOp.andi x (IntOp.ori y 1#1) = x := by decide +kernel
  rw [hD R, hn (⟨(i 1).val, (i 1).isLt⟩ : Fin 64) hi, ho, ← hr]
  rfl

/-- The first group's output. -/
theorem pay13_at (v5 : FVec Ideal S256x128 .bf16) (s : FVec Ideal S512x256 .f32) (a0 a1 a2 a3 : EReal) (R : Fin 512) (c : Fin 4) (hc : R.val / 128 = c.val) (d : Fin 64) :
    k0_pay13 (F := Ideal) v5 (k0_pay9 (iota .tc S512x1 32 [0] iota_S512x1_d0_w32)) s k0_pay11 (k0_pay12 (iota .tc S512x1 32 [0] iota_S512x1_d0_w32)) a0 a1 a2 a3 (ix2 R d)
      = attn (fun j => s (ix2 R j)) (![a0, a1, a2, a3] c) (fun j => v5 (ix2 j (⟨d.val, by omega⟩ : Fin 128))) := by
  have e := head_at R
  rw [hc] at e
  have e' : k0_pay12 (iota .tc S512x1 32 [0] iota_S512x1_d0_w32) (ix2 R (0 : Fin 1)) = IntOp.cmpi .eq (BitVec.ofNat 32 c.val) 0#32 := by
    rw [← e]; rfl
  rw [← sink_at a0 a1 a2 a3 (k0_pay11 (F := Ideal) (ix2 R (0 : Fin 1))) c]
  generalize k0_pay9 (iota .tc S512x1 32 [0] iota_S512x1_d0_w32) = w at e ⊢
  generalize k0_pay12 (iota .tc S512x1 32 [0] iota_S512x1_d0_w32) = w' at e' ⊢
  generalize k0_pay11 (F := Ideal) = z
  pointwise [k0_pay13]
  rw [e, e']
  rfl

/-- The second group's output. -/
theorem pay1_at (v5 : FVec Ideal S256x128 .bf16) (v2 : FVec Ideal S256x128 .bf16) (v37 : IVec S512x256 1) (v124 : FVec Ideal S128x256 .bf16) (v132 : FVec Ideal S4x128x256 .f32) (a0 a1 a2 a3 : EReal) (R : Fin 512) (c : Fin 4) (hc : R.val / 128 = c.val) (d : Fin 64) :
    k0_pay1 (F := Ideal) v5 (k0_pay18 v2 v37 v124 v132) (k0_pay19 (k0_pay9 (iota .tc S512x1 32 [0] iota_S512x1_d0_w32)) a0 a1 a2 a3) (k0_pay20 v2 v37 v124 v132) (ix2 R d)
      = attn (fun j => k0_pay18 (F := Ideal) v2 v37 v124 v132 (ix2 R j)) (![a0, a1, a2, a3] c) (fun j => v5 (ix2 j (⟨64 + d.val, by omega⟩ : Fin 128))) := by
  have e := head_at R
  rw [hc] at e
  rw [← sink_at a0 a1 a2 a3 (Ideal.ofBits .f32 0x00000000#32) c]
  generalize k0_pay9 (iota .tc S512x1 32 [0] iota_S512x1_d0_w32) = w at e ⊢
  unfold k0_pay20
  generalize k0_pay18 (F := Ideal) v2 v37 v124 v132 = s
  pointwise [k0_pay1, k0_pay19]
  rw [e]
  rfl

theorem two_at (u v : FVec Ideal S128x128 .bf16) (j : Fin 256) (k : Fin 128) :
    concatenate S256x128 0 [⟨S128x128, u⟩, ⟨S128x128, v⟩] concatenates_S128x128_S128x128_S256x128_d0 (ix2 j k)
      = if h : j.val < 128 then u (ix2 (⟨j.val, h⟩ : Fin 128) k) else v (ix2 (⟨j.val - 128, by omega⟩ : Fin 128) k) := by
  by_cases h : j.val < 128
  · rw [dif_pos h]
    refine concatenate_apply_piece (t := S256x128) 0 [⟨S128x128, u⟩, ⟨S128x128, v⟩] _ (ix2 j k) 0 (by show 0 < 2; decide) S128x128 _ rfl rfl 0 rfl (ix2 (⟨j.val, h⟩ : Fin 128) k) (fun b hb => ?_) ?_
    · match b with
      | 0 => exact absurd rfl hb
      | 1 => rfl
    · show 0 + j.val = j.val; omega
  · rw [dif_neg h]
    refine concatenate_apply_piece (t := S256x128) 0 [⟨S128x128, u⟩, ⟨S128x128, v⟩] _ (ix2 j k) 1 (by show 1 < 2; decide) S128x128 _ rfl rfl 128 rfl (ix2 (⟨j.val - 128, by omega⟩ : Fin 128) k) (fun b hb => ?_) ?_
    · match b with
      | 0 => exact absurd rfl hb
      | 1 => rfl
    · show 128 + (j.val - 128) = j.val; omega

/-- What a point leaves: the groups' outputs, head after head. -/
def left (o0 o1 : FVec Ideal S512x64 .f32) : FVec Ideal S128x512 .f32 := fun y =>
  if h : (y 1).val < 256 then o0 (ix2 (⟨128 * ((y 1).val / 64) + (y 0).val, by have := (y 0).isLt; have : (y 0).val < 128 := this; omega⟩ : Fin 512) (⟨(y 1).val % 64, by omega⟩ : Fin 64))
  else o1 (ix2 (⟨128 * (((y 1).val - 256) / 64) + (y 0).val, by have h0 : (y 0).val < 128 := (y 0).isLt; have h1 : (y 1).val < 512 := (y 1).isLt; omega⟩ : Fin 512) (⟨(y 1).val % 64, by omega⟩ : Fin 64))

/-- The stores of a point, last first. -/
def stores (o0 o1 : FVec Ideal S512x64 .f32) : List (View.Piece (Elt Ideal) S128x512 .f32) :=
  [⟨Rect.unit (s := S128x512) ![0, 448] S128x64.size inb_S128x512_S128x64_0_448, extractStridedSlice S128x64 ![384, 0] o1 slices_S512x64_o384_0_S128x64⟩,
   ⟨Rect.unit (s := S128x512) ![0, 384] S128x64.size inb_S128x512_S128x64_0_384, extractStridedSlice S128x64 ![256, 0] o1 slices_S512x64_o256_0_S128x64⟩,
   ⟨Rect.unit (s := S128x512) ![0, 320] S128x64.size inb_S128x512_S128x64_0_320, extractStridedSlice S128x64 ![128, 0] o1 slices_S512x64_o128_0_S128x64⟩,
   ⟨Rect.unit (s := S128x512) ![0, 256] S128x64.size inb_S128x512_S128x64_0_256, extractStridedSlice S128x64 ![0, 0] o1 slices_S512x64_o0_0_S128x64⟩,
   ⟨Rect.unit (s := S128x512) ![0, 192] S128x64.size inb_S128x512_S128x64_0_192, extractStridedSlice S128x64 ![384, 0] o0 slices_S512x64_o384_0_S128x64⟩,
   ⟨Rect.unit (s := S128x512) ![0, 128] S128x64.size inb_S128x512_S128x64_0_128, extractStridedSlice S128x64 ![256, 0] o0 slices_S512x64_o256_0_S128x64⟩,
   ⟨Rect.unit (s := S128x512) ![0, 64] S128x64.size inb_S128x512_S128x64_0_64, extractStridedSlice S128x64 ![128, 0] o0 slices_S512x64_o128_0_S128x64⟩,
   ⟨Rect.unit (s := S128x512) ![0, 0] S128x64.size inb_S128x512_S128x64_0_0, extractStridedSlice S128x64 ![0, 0] o0 slices_S512x64_o0_0_S128x64⟩]

theorem store0_eq (o0 o1 : FVec Ideal S512x64 .f32) (k o p : ℕ) (hk : k < 4) (ho : o = 128 * k) (hp : p = 64 * k) (h : S512x64.Slices ![o, 0] S128x64)
    (inb : ∀ a, (![0, p] : Fin 2 → ℕ) a + S128x64.size a ≤ S128x512.size a) (x : S128x64.Idx) :
    extractStridedSlice S128x64 ![o, 0] o0 h x = left o0 o1 ((Rect.unit (s := S128x512) ![0, p] S128x64.size inb).emb x) := by
  have x1 : (x 1).val < 64 := (x 1).isLt
  have h0 : (((Rect.unit (s := S128x512) ![0, p] S128x64.size inb).emb x) 0).val = 0 + 1 * (x 0).val := rfl
  have h1 : (((Rect.unit (s := S128x512) ![0, p] S128x64.size inb).emb x) 1).val = p + 1 * (x 1).val := rfl
  unfold left
  rw [dif_pos (by rw [h1]; omega)]
  refine extractStridedSlice_apply _ _ _ _ _ (fun a => ?_)
  match a with
  | 0 => show 128 * ((((Rect.unit (s := S128x512) ![0, p] S128x64.size inb).emb x) 1).val / 64) + (((Rect.unit (s := S128x512) ![0, p] S128x64.size inb).emb x) 0).val = o + (x 0).val
         rw [h0, h1]; omega
  | 1 => show (((Rect.unit (s := S128x512) ![0, p] S128x64.size inb).emb x) 1).val % 64 = 0 + (x 1).val
         rw [h1]; omega

theorem store1_eq (o0 o1 : FVec Ideal S512x64 .f32) (k o p : ℕ) (hk : k < 4) (ho : o = 128 * k) (hp : p = 256 + 64 * k) (h : S512x64.Slices ![o, 0] S128x64)
    (inb : ∀ a, (![0, p] : Fin 2 → ℕ) a + S128x64.size a ≤ S128x512.size a) (x : S128x64.Idx) :
    extractStridedSlice S128x64 ![o, 0] o1 h x = left o0 o1 ((Rect.unit (s := S128x512) ![0, p] S128x64.size inb).emb x) := by
  have x1 : (x 1).val < 64 := (x 1).isLt
  have h0 : (((Rect.unit (s := S128x512) ![0, p] S128x64.size inb).emb x) 0).val = 0 + 1 * (x 0).val := rfl
  have h1 : (((Rect.unit (s := S128x512) ![0, p] S128x64.size inb).emb x) 1).val = p + 1 * (x 1).val := rfl
  unfold left
  rw [dif_neg (by rw [h1]; omega)]
  refine extractStridedSlice_apply _ _ _ _ _ (fun a => ?_)
  match a with
  | 0 => show 128 * (((((Rect.unit (s := S128x512) ![0, p] S128x64.size inb).emb x) 1).val - 256) / 64) + (((Rect.unit (s := S128x512) ![0, p] S128x64.size inb).emb x) 0).val = o + (x 0).val
         rw [h0, h1]; omega
  | 1 => show (((Rect.unit (s := S128x512) ![0, p] S128x64.size inb).emb x) 1).val % 64 = 0 + (x 1).val
         rw [h1]; omega

theorem stores_cover (o0 o1 : FVec Ideal S512x64 .f32) (j : S128x512.Idx) : ∃ p ∈ stores o0 o1, j ∈ p.1.set :=
  View.cover_of_tiledL (stores o0 o1) S128x64.size (by sl_kernel_rfl) j

theorem canon_stores (o0 o1 : FVec Ideal S512x64 .f32) : View.canon (stores o0 o1) = left o0 o1 := by
  refine funext fun j => View.canon_apply_of_pieces (Val := Elt Ideal) (e := .f32) (left o0 o1) _ ?_ j (stores_cover o0 o1 j)
  intro p hp
  simp only [stores, List.mem_cons, List.not_mem_nil, or_false] at hp
  obtain rfl | rfl | rfl | rfl | rfl | rfl | rfl | rfl := hp
  · exact store1_eq o0 o1 3 384 448 (by decide) rfl rfl slices_S512x64_o384_0_S128x64 inb_S128x512_S128x64_0_448
  · exact store1_eq o0 o1 2 256 384 (by decide) rfl rfl slices_S512x64_o256_0_S128x64 inb_S128x512_S128x64_0_384
  · exact store1_eq o0 o1 1 128 320 (by decide) rfl rfl slices_S512x64_o128_0_S128x64 inb_S128x512_S128x64_0_320
  · exact store1_eq o0 o1 0 0 256 (by decide) rfl rfl slices_S512x64_o0_0_S128x64 inb_S128x512_S128x64_0_256
  · exact store0_eq o0 o1 3 384 192 (by decide) rfl rfl slices_S512x64_o384_0_S128x64 inb_S128x512_S128x64_0_192
  · exact store0_eq o0 o1 2 256 128 (by decide) rfl rfl slices_S512x64_o256_0_S128x64 inb_S128x512_S128x64_0_128
  · exact store0_eq o0 o1 1 128 64 (by decide) rfl rfl slices_S512x64_o128_0_S128x64 inb_S128x512_S128x64_0_64
  · exact store0_eq o0 o1 0 0 0 (by decide) rfl rfl slices_S512x64_o0_0_S128x64 inb_S128x512_S128x64_0_0

/-- One sink of the eight. -/
abbrev sk (x0 : Vec Ideal S8 .f32) (k : ℕ) (inb : ∀ a, (![k] : Fin 1 → ℕ) a + S1.size a ≤ S8.size a) : EReal :=
  View.ld x0 (Rect.unit (s := S8) ![k] S1.size inb) (Shape.Idx.first (numel1_S1.symm ▸ Nat.one_pos))

/-- The first group's output, from the point's blocks. -/
def out0 (i : grid0.Coords) (x0 : Vec Ideal S8 .f32) (x1 : Vec Ideal S128x256 .bf16) (x3 x4 x5 x6 : Vec Ideal S128x128 .bf16) (x7 : Vec Ideal S8x128x256 .f32) : FVec Ideal S512x64 .f32 :=
  k0_pay13 (F := Ideal) (k0_pay7 x5 x6) (k0_pay9 (iota .tc S512x1 32 [0] iota_S512x1_d0_w32))
    (k0_pay10 (k0_pay6 x3 x4) (k0_pay8 i) x1 (View.ld x7 (Rect.unit (s := S8x128x256) ![0, 0, 0] S4x128x256.size inb_S8x128x256_S4x128x256_0_0_0)))
    k0_pay11 (k0_pay12 (iota .tc S512x1 32 [0] iota_S512x1_d0_w32)) (sk x0 0 inb_S8_S1_0) (sk x0 1 inb_S8_S1_1) (sk x0 2 inb_S8_S1_2) (sk x0 3 inb_S8_S1_3)

/-- The second group's output, from the point's blocks. -/
def out1 (i : grid0.Coords) (x0 : Vec Ideal S8 .f32) (x2 : Vec Ideal S128x256 .bf16) (x3 x4 x5 x6 : Vec Ideal S128x128 .bf16) (x7 : Vec Ideal S8x128x256 .f32) : FVec Ideal S512x64 .f32 :=
  k0_pay1 (F := Ideal) (k0_pay7 x5 x6)
    (k0_pay18 (k0_pay6 x3 x4) (k0_pay8 i) x2 (View.ld x7 (Rect.unit (s := S8x128x256) ![4, 0, 0] S4x128x256.size inb_S8x128x256_S4x128x256_4_0_0)))
    (k0_pay19 (k0_pay9 (iota .tc S512x1 32 [0] iota_S512x1_d0_w32)) (sk x0 4 inb_S8_S1_4) (sk x0 5 inb_S8_S1_5) (sk x0 6 inb_S8_S1_6) (sk x0 7 inb_S8_S1_7))
    (k0_pay20 (k0_pay6 x3 x4) (k0_pay8 i) x2 (View.ld x7 (Rect.unit (s := S8x128x256) ![4, 0, 0] S4x128x256.size inb_S8x128x256_S4x128x256_4_0_0)))

theorem hz2 : (![0, 0] : Fin 2 → ℕ) = fun _ => 0 := funext fun a => match a with | 0 => rfl | 1 => rfl

section
variable (c : Dev nD) (i : grid0.Coords) (arg2 : Memref sig .tc .smem S8 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S8x128x256 .f32) (harg9 : arg9.IsWhole) (arg10 : Memref sig .tc .vmem S128x512 .f32) (harg10 : arg10.IsWhole)
    (x0 : Vec Ideal S8 .f32) (x1 : Vec Ideal S128x256 .bf16) (x2 : Vec Ideal S128x256 .bf16) (x3 : Vec Ideal S128x128 .bf16) (x4 : Vec Ideal S128x128 .bf16) (x5 : Vec Ideal S128x128 .bf16) (x6 : Vec Ideal S128x128 .bf16) (x7 : Vec Ideal S8x128x256 .f32)

/-- One sink as the point reads it. -/
abbrev skR (k : ℕ) (inb : ∀ a, (![k] : Fin 1 → ℕ) a + S1.size a ≤ S8.size a) : EReal :=
  View.readAt (Elt Ideal) arg2.view (Rect.unit (s := S8) ![k] S1.size inb).toLoadRect (harg2.unread x0) (Shape.Idx.first (numel1_S1.symm ▸ Nat.one_pos))

/-- The first group's output as the point reads its buffers. -/
def rd0 : FVec Ideal S512x64 .f32 :=
  k0_pay13 (F := Ideal) (k0_pay7 (View.readAt (Elt Ideal) arg7.view (Rect.unit (s := S128x128) ![0, 0] S128x128.size inb_S128x128_S128x128_0_0).toLoadRect (harg7.unread x5)) (View.readAt (Elt Ideal) arg8.view (Rect.unit (s := S128x128) ![0, 0] S128x128.size inb_S128x128_S128x128_0_0).toLoadRect (harg8.unread x6))) (k0_pay9 (iota .tc S512x1 32 [0] iota_S512x1_d0_w32))
    (k0_pay10 (k0_pay6 (View.readAt (Elt Ideal) arg5.view (Rect.unit (s := S128x128) ![0, 0] S128x128.size inb_S128x128_S128x128_0_0).toLoadRect (harg5.unread x3)) (View.readAt (Elt Ideal) arg6.view (Rect.unit (s := S128x128) ![0, 0] S128x128.size inb_S128x128_S128x128_0_0).toLoadRect (harg6.unread x4))) (k0_pay8 i) (View.readAt (Elt Ideal) arg3.view (Rect.unit (s := S128x256) ![0, 0] S128x256.size inb_S128x256_S128x256_0_0).toLoadRect (harg3.unread x1)) (View.readAt (Elt Ideal) arg9.view (Rect.unit (s := S8x128x256) ![0, 0, 0] S4x128x256.size inb_S8x128x256_S4x128x256_0_0_0).toLoadRect (harg9.unread x7)))
    k0_pay11 (k0_pay12 (iota .tc S512x1 32 [0] iota_S512x1_d0_w32)) (skR arg2 harg2 x0 0 inb_S8_S1_0) (skR arg2 harg2 x0 1 inb_S8_S1_1) (skR arg2 harg2 x0 2 inb_S8_S1_2) (skR arg2 harg2 x0 3 inb_S8_S1_3)

/-- The second group's output as the point reads its buffers. -/
def rd1 : FVec Ideal S512x64 .f32 :=
  k0_pay1 (F := Ideal) (k0_pay7 (View.readAt (Elt Ideal) arg7.view (Rect.unit (s := S128x128) ![0, 0] S128x128.size inb_S128x128_S128x128_0_0).toLoadRect (harg7.unread x5)) (View.readAt (Elt Ideal) arg8.view (Rect.unit (s := S128x128) ![0, 0] S128x128.size inb_S128x128_S128x128_0_0).toLoadRect (harg8.unread x6)))
    (k0_pay18 (k0_pay6 (View.readAt (Elt Ideal) arg5.view (Rect.unit (s := S128x128) ![0, 0] S128x128.size inb_S128x128_S128x128_0_0).toLoadRect (harg5.unread x3)) (View.readAt (Elt Ideal) arg6.view (Rect.unit (s := S128x128) ![0, 0] S128x128.size inb_S128x128_S128x128_0_0).toLoadRect (harg6.unread x4))) (k0_pay8 i) (View.readAt (Elt Ideal) arg4.view (Rect.unit (s := S128x256) ![0, 0] S128x256.size inb_S128x256_S128x256_0_0).toLoadRect (harg4.unread x2)) (View.readAt (Elt Ideal) arg9.view (Rect.unit (s := S8x128x256) ![4, 0, 0] S4x128x256.size inb_S8x128x256_S4x128x256_4_0_0).toLoadRect (harg9.unread x7)))
    (k0_pay19 (k0_pay9 (iota .tc S512x1 32 [0] iota_S512x1_d0_w32)) (skR arg2 harg2 x0 4 inb_S8_S1_4) (skR arg2 harg2 x0 5 inb_S8_S1_5) (skR arg2 harg2 x0 6 inb_S8_S1_6) (skR arg2 harg2 x0 7 inb_S8_S1_7))
    (k0_pay20 (k0_pay6 (View.readAt (Elt Ideal) arg5.view (Rect.unit (s := S128x128) ![0, 0] S128x128.size inb_S128x128_S128x128_0_0).toLoadRect (harg5.unread x3)) (View.readAt (Elt Ideal) arg6.view (Rect.unit (s := S128x128) ![0, 0] S128x128.size inb_S128x128_S128x128_0_0).toLoadRect (harg6.unread x4))) (k0_pay8 i) (View.readAt (Elt Ideal) arg4.view (Rect.unit (s := S128x256) ![0, 0] S128x256.size inb_S128x256_S128x256_0_0).toLoadRect (harg4.unread x2)) (View.readAt (Elt Ideal) arg9.view (Rect.unit (s := S8x128x256) ![4, 0, 0] S4x128x256.size inb_S8x128x256_S4x128x256_4_0_0).toLoadRect (harg9.unread x7)))

theorem rd0_eq : rd0 i arg2 harg2 arg3 harg3 arg5 harg5 arg6 harg6 arg7 harg7 arg8 harg8 arg9 harg9 x0 x1 x3 x4 x5 x6 x7 = out0 i x0 x1 x3 x4 x5 x6 x7 := by
  unfold rd0 out0 skR sk
  simp only [View.readAt_eq_ld, Memref.IsWhole.read_unread]
  rw [View.ld_unit_zero (S := S128x256) hz2, View.ld_unit_zero (S := S128x128) hz2, View.ld_unit_zero (S := S128x128) hz2, View.ld_unit_zero (S := S128x128) hz2, View.ld_unit_zero (S := S128x128) hz2]

theorem rd1_eq : rd1 i arg2 harg2 arg4 harg4 arg5 harg5 arg6 harg6 arg7 harg7 arg8 harg8 arg9 harg9 x0 x2 x3 x4 x5 x6 x7 = out1 i x0 x2 x3 x4 x5 x6 x7 := by
  unfold rd1 out1 skR sk
  simp only [View.readAt_eq_ld, Memref.IsWhole.read_unread]
  rw [View.ld_unit_zero (S := S128x256) hz2, View.ld_unit_zero (S := S128x128) hz2, View.ld_unit_zero (S := S128x128) hz2, View.ld_unit_zero (S := S128x128) hz2, View.ld_unit_zero (S := S128x128) hz2]

theorem run_pieces : (kernelRun0_A (F := Ideal) c i arg2 harg2 arg3 harg3 arg4 harg4 arg5 harg5 arg6 harg6 arg7 harg7 arg8 harg8 arg9 harg9 arg10 harg10 x0 x1 x2 x3 x4 x5 x6 x7).1
    = stores (rd0 i arg2 harg2 arg3 harg3 arg5 harg5 arg6 harg6 arg7 harg7 arg8 harg8 arg9 harg9 x0 x1 x3 x4 x5 x6 x7) (rd1 i arg2 harg2 arg4 harg4 arg5 harg5 arg6 harg6 arg7 harg7 arg8 harg8 arg9 harg9 x0 x2 x3 x4 x5 x6 x7) := rfl

theorem out_eq : out0_A_8 (F := Ideal) c i arg2 harg2 arg3 harg3 arg4 harg4 arg5 harg5 arg6 harg6 arg7 harg7 arg8 harg8 arg9 harg9 arg10 harg10 x0 x1 x2 x3 x4 x5 x6 x7
    = left (out0 i x0 x1 x3 x4 x5 x6 x7) (out1 i x0 x2 x3 x4 x5 x6 x7) := by
  unfold out0_A_8
  rw [View.read_writes_eq_canon VO0_8 VO0_8.junk _ (cover0_A_8 c i arg2 harg2 arg3 harg3 arg4 harg4 arg5 harg5 arg6 harg6 arg7 harg7 arg8 harg8 arg9 harg9 arg10 harg10 x0 x1 x2 x3 x4 x5 x6 x7)]
  rw [run_pieces, rd0_eq, rd1_eq, canon_stores]
end

theorem sk_at (x0 : Vec Ideal S8 .f32) (k : Fin 8) (inb : ∀ a, (![k.val] : Fin 1 → ℕ) a + S1.size a ≤ S8.size a) : sk x0 k.val inb = x0 (ix1 k) :=
  View.ld_unit_apply_of x0 ![k.val] S1.size inb _ (ix1 k) fun a => by
    match a with
    | 0 => rfl

/-- A key's or a value's number in the window of two blocks. -/
def win (u v : FVec Ideal S128x128 .bf16) (j : Fin 256) (k : Fin 128) : EReal :=
  if h : j.val < 128 then u (ix2 (⟨j.val, h⟩ : Fin 128) k) else v (ix2 (⟨j.val - 128, by omega⟩ : Fin 128) k)

/-- The first group's entry. -/
theorem out0_at (i : grid0.Coords) (hi : 0 < (i 1).val) (x0 : Vec Ideal S8 .f32) (x1 : Vec Ideal S128x256 .bf16) (x3 x4 x5 x6 : Vec Ideal S128x128 .bf16) (x7 : Vec Ideal S8x128x256 .f32)
    (c : Fin 4) (r : Fin 128) (R : Fin 512) (hR : R.val = 128 * c.val + r.val) (d : Fin 64) :
    out0 i x0 x1 x3 x4 x5 x6 x7 (ix2 R d)
      = attn (fun j => masked r.val j.val ((∑ e : Fin 64, x1 (ix2 r (⟨64 * c.val + e.val, by omega⟩ : Fin 256)) * Ideal.ofBits .bf16 0x3E00#16 * win x3 x4 j (⟨e.val, by omega⟩ : Fin 128)) + x7 (ix3 (⟨c.val, by omega⟩ : Fin 8) r j)))
          (x0 (ix1 (⟨c.val, by omega⟩ : Fin 8))) (fun j => win x5 x6 j (⟨d.val, by omega⟩ : Fin 128)) := by
  unfold out0
  rw [pay13_at _ _ _ _ _ _ R c (by omega) d]
  have hs : ![sk x0 0 inb_S8_S1_0, sk x0 1 inb_S8_S1_1, sk x0 2 inb_S8_S1_2, sk x0 3 inb_S8_S1_3] c = x0 (ix1 (⟨c.val, by omega⟩ : Fin 8)) := by
    match c with
    | 0 => exact sk_at x0 0 _
    | 1 => exact sk_at x0 1 _
    | 2 => exact sk_at x0 2 _
    | 3 => exact sk_at x0 3 _
  rw [hs]
  refine congrArg₂ (fun s v => attn s _ v) (funext fun j => ?_) (funext fun j => two_at x5 x6 j _)
  rw [pay10_at _ _ _ _ c r j R hR, mask_at i hi R j r.val (by omega)]
  unfold masked
  refine congrArg (fun z => Scalar.select _ z _) (congrArg₂ (· + ·) (Finset.sum_congr rfl fun e _ => congrArg (_ * ·) (two_at x3 x4 j _)) ?_)
  exact View.ld_unit_apply_of x7 ![0, 0, 0] S4x128x256.size _ (ix3 c r j) _ fun a => by
    match a with
    | 0 => show c.val = 0 + c.val; omega
    | 1 => show r.val = 0 + r.val; omega
    | 2 => show j.val = 0 + j.val; omega

/-- The second group's entry. -/
theorem out1_at (i : grid0.Coords) (hi : 0 < (i 1).val) (x0 : Vec Ideal S8 .f32) (x2 : Vec Ideal S128x256 .bf16) (x3 x4 x5 x6 : Vec Ideal S128x128 .bf16) (x7 : Vec Ideal S8x128x256 .f32)
    (c : Fin 4) (r : Fin 128) (R : Fin 512) (hR : R.val = 128 * c.val + r.val) (d : Fin 64) :
    out1 i x0 x2 x3 x4 x5 x6 x7 (ix2 R d)
      = attn (fun j => masked r.val j.val ((∑ e : Fin 64, x2 (ix2 r (⟨64 * c.val + e.val, by omega⟩ : Fin 256)) * Ideal.ofBits .bf16 0x3E00#16 * win x3 x4 j (⟨64 + e.val, by omega⟩ : Fin 128)) + x7 (ix3 (⟨4 + c.val, by omega⟩ : Fin 8) r j)))
          (x0 (ix1 (⟨4 + c.val, by omega⟩ : Fin 8))) (fun j => win x5 x6 j (⟨64 + d.val, by omega⟩ : Fin 128)) := by
  unfold out1
  rw [pay1_at _ _ _ _ _ _ _ _ _ R c (by omega) d]
  have hs : ![sk x0 4 inb_S8_S1_4, sk x0 5 inb_S8_S1_5, sk x0 6 inb_S8_S1_6, sk x0 7 inb_S8_S1_7] c = x0 (ix1 (⟨4 + c.val, by omega⟩ : Fin 8)) := by
    match c with
    | 0 => exact sk_at x0 4 _
    | 1 => exact sk_at x0 5 _
    | 2 => exact sk_at x0 6 _
    | 3 => exact sk_at x0 7 _
  rw [hs]
  refine congrArg₂ (fun s v => attn s _ v) (funext fun j => ?_) (funext fun j => two_at x5 x6 j _)
  rw [pay18_at _ _ _ _ c r j R hR, mask_at i hi R j r.val (by omega)]
  unfold masked
  refine congrArg (fun z => Scalar.select _ z _) (congrArg₂ (· + ·) (Finset.sum_congr rfl fun e _ => congrArg (_ * ·) (two_at x3 x4 j _)) ?_)
  exact View.ld_unit_apply_of x7 ![4, 0, 0] S4x128x256.size _ (ix3 c r j) _ fun a => by
    match a with
    | 0 => show 4 + c.val = 4 + c.val; rfl
    | 1 => show r.val = 0 + r.val; omega
    | 2 => show j.val = 0 + j.val; omega

end Cert.Sw

end
-- ==== Proof.SwBias.lean ====
/- The bucket of a pair of a row and a key: the distance while it is short, the logarithm of the
distance from there on, always one of thirty-two. -/
module

public import proofs.«01_k».proof.Proof.SwVal
public import Idealize.ShloMosaic.Lib.IdealHost

@[expose] public section

namespace Cert.Sw

open Idealize Idealize.ShloMosaic

/-- How far the key lies behind the row, zero where it lies ahead. -/
def near (r j : ℕ) : BitVec 32 := IntOp.maxsi (dst r j) 0#32

/-- The bucket's logarithmic part before rounding. -/
noncomputable def far (r j : ℕ) : EReal :=
  Ideal.div (Ideal.log (Ideal.div (((IntOp.maxsi (near r j) 1#32).toInt : ℝ) : EReal) (Ideal.ofBits .f32 0x41800000#32)))
    (Ideal.ofBits .f32 0x40051592#32) * Ideal.ofBits .f32 0x41800000#32

/-- The bucket. -/
noncomputable def bucket (r j : ℕ) : BitVec 32 :=
  Scalar.select (IntOp.cmpi .slt (near r j) 16#32) (near r j)
    (IntOp.minsi (IntOp.addi 16#32 (Ideal.fptosi 32 (far r j))) 31#32)

theorem sixteen : Ideal.ofBits .f32 0x41800000#32 = ((16 : ℝ) : EReal) := by
  simp [Ideal.ofBits, Ideal.ieee, -EReal.coe_mul]; norm_num

theorem logEight : ∃ c : ℝ, 1 ≤ c ∧ Ideal.ofBits .f32 0x40051592#32 = (c : EReal) := by
  refine ⟨8721810 / 4194304, by norm_num, ?_⟩
  simp [Ideal.ofBits, Ideal.ieee, -EReal.coe_mul]; norm_num

theorem div_real (a b : ℝ) (hb : b ≠ 0) : Ideal.div (a : EReal) (b : EReal) = ((a / b : ℝ) : EReal) := by
  rw [Ideal.div, if_neg (by exact_mod_cast hb), div_eq_mul_inv, EReal.coe_mul, EReal.coe_inv]

theorem log_real (a : ℝ) (ha : 0 < a) : Ideal.log (a : EReal) = ((Real.log a : ℝ) : EReal) := by
  show (if a ≤ 0 then ⊥ else (Real.log a : EReal)) = _
  rw [if_neg (by linarith)]

theorem near_eq : ∀ r : Fin 128, ∀ j : Fin 256, near r.val j.val = BitVec.ofNat 32 (128 + r.val - j.val) := by
  decide +kernel

theorem near_short : ∀ m : Fin 16, IntOp.cmpi .slt (BitVec.ofNat 32 m.val) 16#32 = 1#1 := by decide +kernel

theorem near_long : ∀ m : Fin 256, 16 ≤ m.val → IntOp.cmpi .slt (BitVec.ofNat 32 m.val) 16#32 = 0#1
    ∧ (IntOp.maxsi (BitVec.ofNat 32 m.val) 1#32).toInt = (m.val : ℤ) := by decide +kernel

theorem last_lt : ∀ k : Fin 1001,
    (IntOp.minsi (IntOp.addi 16#32 (BitVec.ofNat 32 k.val)) 31#32).toNat < 32 := by decide +kernel

theorem round_real (y : ℝ) (h0 : 0 ≤ y) (h1 : y ≤ 1000) :
    ∃ k : Fin 1001, Ideal.fptosi 32 (y : EReal) = BitVec.ofNat 32 k.val := by
  have hf0 : 0 ≤ ⌊y⌋ := Int.floor_nonneg.mpr h0
  have hf1 : ⌊y⌋ ≤ 1000 := by
    have : (⌊y⌋ : ℝ) ≤ 1000 := le_trans (Int.floor_le y) h1
    exact_mod_cast this
  refine ⟨⟨⌊y⌋.toNat, by omega⟩, ?_⟩
  rw [Ideal.fptosi, Ideal.toIntClamped_coe, if_pos h0]
  have e : max (-((2 ^ (32 - 1) : ℕ) : ℤ)) (min (((2 ^ (32 - 1) : ℕ) : ℤ) - 1) ⌊y⌋) = ((⌊y⌋.toNat : ℕ) : ℤ) := by
    norm_num
    omega
  rw [e]
  exact BitVec.ofInt_natCast 32 _

theorem bucket_lt (r : Fin 128) (j : Fin 256) : (bucket r.val j.val).toNat < 32 := by
  have hn := near_eq r j
  have hr := r.isLt
  obtain ⟨m, hm⟩ : ∃ m : Fin 256, m.val = 128 + r.val - j.val := ⟨⟨128 + r.val - j.val, by omega⟩, rfl⟩
  rw [← hm] at hn
  by_cases hs : m.val < 16
  · have h := near_short ⟨m.val, hs⟩
    rw [bucket, hn, h]
    show (BitVec.ofNat 32 m.val).toNat < 32
    simp only [BitVec.toNat_ofNat]
    omega
  · have h := near_long m (by omega)
    have hm1 : (16 : ℝ) ≤ (m.val : ℝ) := by exact_mod_cast (by omega : 16 ≤ m.val)
    have hm2 : (m.val : ℝ) ≤ 256 := by exact_mod_cast (by omega : m.val ≤ 256)
    obtain ⟨c, hc, hce⟩ := logEight
    have hf : far r.val j.val = ((Real.log ((m.val : ℝ) / 16) / c * 16 : ℝ) : EReal) := by
      rw [far, hn, h.2, sixteen, hce, Int.cast_natCast, div_real _ _ (by norm_num),
        log_real _ (by positivity), div_real _ _ (by linarith), ← EReal.coe_mul]
    have hl0 : 0 ≤ Real.log ((m.val : ℝ) / 16) := Real.log_nonneg (by rw [le_div_iff₀ (by norm_num)]; linarith)
    have hl1 : Real.log ((m.val : ℝ) / 16) ≤ 16 := by
      refine le_trans (Real.log_le_self (by positivity)) ?_
      rw [div_le_iff₀ (by norm_num)]; linarith
    have hq : Real.log ((m.val : ℝ) / 16) / c ≤ 16 := by
      refine le_trans (div_le_self hl0 hc) hl1
    obtain ⟨k, hk⟩ := round_real (Real.log ((m.val : ℝ) / 16) / c * 16) (by positivity) (by linarith)
    rw [bucket, hn, h.1, hf, hk]
    exact last_lt k

/-- The bucket as a row of the table. -/
noncomputable def slot (r : Fin 128) (j : Fin 256) : Fin 32 := ⟨(bucket r.val j.val).toNat, bucket_lt r j⟩

theorem bucket_eq (r : Fin 128) (j : Fin 256) : bucket r.val j.val = BitVec.ofNat 32 (slot r j).val := by
  show _ = BitVec.ofNat 32 (bucket r.val j.val).toNat
  simp

/-- Picking a row of the table by a sum of products with one at the row and zero elsewhere. -/
theorem pick (T : Fin 32 → EReal) (B : BitVec 32) (b : Fin 32) (hB : B = BitVec.ofNat 32 b.val) :
    (∑ k : Fin 32, T k * (((IntOp.cmpi .eq B (BitVec.ofNat 32 k.val)).toNat : ℝ) : EReal)) = T b := by
  rw [Finset.sum_eq_single b]
  · have : (IntOp.cmpi .eq B (BitVec.ofNat 32 b.val)).toNat = 1 := by
      rw [hB]; clear hB; revert b; decide +kernel
    rw [this]; simp
  · intro k _ hk
    have : (IntOp.cmpi .eq B (BitVec.ofNat 32 k.val)).toNat = 0 := by
      rw [hB]
      have hne : k ≠ b := hk
      clear hB hk
      revert b k; decide +kernel
    rw [this]; simp
  · intro h; exact absurd (Finset.mem_univ b) h

theorem natural : ∀ b : Fin 32, IntOp.cmpi .slt (BitVec.ofNat 32 b.val) 0#32 = 0#1 := by decide +kernel

theorem eighth16 : Ideal.ofBits .bf16 0x3E00#16 = (((1 : ℝ) / 8 : ℝ) : EReal) := by
  simp [Ideal.ofBits, Ideal.ieee, -EReal.coe_mul]; norm_num

theorem eighth32 : Ideal.ofBits .f32 0x3E000000#32 = (((1 : ℝ) / 8 : ℝ) : EReal) := by
  simp [Ideal.ofBits, Ideal.ieee, -EReal.coe_mul]; norm_num

/-- The element of the projection at a row and a column. -/
noncomputable def pj (X : (⟨2, ![16384, 2304]⟩ : Shape).Idx → EReal) (r c : ℕ) : EReal :=
  if h : r < 16384 ∧ c < 2304 then X (ix2 ⟨r, h.1⟩ ⟨c, h.2⟩) else 0

theorem pj_eq (X : (⟨2, ![16384, 2304]⟩ : Shape).Idx → EReal) (i : (⟨2, ![16384, 2304]⟩ : Shape).Idx) (r c : ℕ)
    (hr : (i 0).val = r) (hc : (i 1).val = c) : X i = pj X r c := by
  have h : r < 16384 ∧ c < 2304 := ⟨hr ▸ (i 0).isLt, hc ▸ (i 1).isLt⟩
  rw [pj, dif_pos h]
  refine congrArg X (funext fun a => Fin.ext ?_)
  match a with
  | ⟨0, _⟩ => exact hr
  | ⟨1, _⟩ => exact hc

/-- The score of a row against a key of its window, in batch `b`, block `n`, group `g`, head `c` of the group. -/
noncomputable def scr (X : (⟨2, ![16384, 2304]⟩ : Shape).Idx → EReal) (T : (⟨2, ![32, 12]⟩ : Shape).Idx → EReal)
    (b : Fin 2) (n : Fin 64) (g : Fin 2) (c : Fin 4) (r : Fin 128) (j : Fin 256) : EReal :=
  masked r.val j.val ((∑ e : Fin 64, pj X (8192 * b.val + 128 * n.val + j.val - 128) (1280 + 64 * g.val + e.val)
      * pj X (8192 * b.val + 128 * n.val + r.val) (768 + 256 * g.val + 64 * c.val + e.val)) * (((1 : ℝ) / 8 : ℝ) : EReal)
    + T (ix2 (slot r j) ⟨4 * g.val + c.val, by omega⟩))

/-- The entry of the result. -/
noncomputable def ent (X : (⟨2, ![16384, 2304]⟩ : Shape).Idx → EReal) (s : (⟨1, ![8]⟩ : Shape).Idx → EReal)
    (T : (⟨2, ![32, 12]⟩ : Shape).Idx → EReal) (b : Fin 2) (n : Fin 64) (g : Fin 2) (c : Fin 4) (r : Fin 128) (d : Fin 64) : EReal :=
  attn (scr X T b n g c r) (s (ix1 ⟨4 * g.val + c.val, by omega⟩))
    (fun j => pj X (8192 * b.val + 128 * n.val + j.val - 128) (1408 + 64 * g.val + d.val))

end Cert.Sw
-- ==== Proof.SwTab.lean ====
/- The bias the lines before the call prepare: a row of the table for every pair of a row and a key. -/
module

public import proofs.«01_k».proof.Proof.SwBias
public import proofs.«01_k».proof.Proof.Gen.Kernel6Ideal.Frame

@[expose] public section

set_option maxRecDepth 16384
noncomputable section

namespace Cert.Kernel6Ideal.Sw

open Idealize.ShloMosaic Idealize.ShloMosaic.TcCoe Idealize.SL.Sem
open Cert.Kernel6Ideal Cert.Kernel6Ideal.Gen Cert.Sw

variable (m : (ℓ : Loc nD τ sig) → Buf (Elt Ideal) ℓ)

/-- The table of device `c`. -/
abbrev aT (c : Dev nD) : FVec Ideal S32x12 .f32 := m ((c.tc : Thread nD τ).loc main_arg2)

/-- The distances. -/
def near2 : IVec S128x256 32 :=
  maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))

/-- The buckets. -/
def bucket2 : IVec S128x256 32 :=
  select (cmpi .slt near2 (broadcastInDim S128x256 ![] bcast_S_S128x256 (constantI S_ 32 16#32))) near2
    (minsi (addi (broadcastInDim S128x256 ![] bcast_S_S128x256 (constantI S_ 32 16#32))
      (fptosi 32 (mulf (Host.divf (Host.log (Host.divf (sitofp (F := Ideal) .f32 (maxsi near2 (broadcastInDim S128x256 ![] bcast_S_S128x256 (constantI S_ 32 1#32)))) (broadcastInDim S128x256 ![] bcast_S_S128x256 (constant (F := Ideal) S_ .f32 0x41800000#32))))
        (broadcastInDim S128x256 ![] bcast_S_S128x256 (constant (F := Ideal) S_ .f32 0x40051592#32))) (broadcastInDim S128x256 ![] bcast_S_S128x256 (constant (F := Ideal) S_ .f32 0x41800000#32)))))
      (broadcastInDim S128x256 ![] bcast_S_S128x256 (constantI S_ 32 31#32)))

/-- One at the bucket, zero elsewhere. -/
def ones2 : FVec Ideal S128x256x32 .f32 :=
  uitofp .f32 (cmpi .eq (broadcastInDim S128x256x32 ![0, 1, 2] bcast_S128x256x1_S128x256x32_0_1_2 (broadcastInDim S128x256x1 ![0, 1] bcast_S128x256_S128x256x1_0_1 bucket2))
    (broadcastInDim S128x256x32 ![0, 1, 2] bcast_S1x1x32_S128x256x32_0_1_2 (broadcastInDim S1x1x32 ![2] bcast_S32_S1x1x32_2 (iotaInDim S32 32 0))))

/-- The bias as the call receives it. -/
def bias2 (T : FVec Ideal S32x12 .f32) : FVec Ideal S8x128x256 .f32 :=
  Host.dotGeneral dot_S32x8_S128x256x32_S8x128x256_0_2_1_01_n_n (some .fp32) (extractStridedSlice S32x8 ![0, 0] T slices_S32x12_S32x8_0_0) ones2

set_option maxHeartbeats 4000000 in
theorem V_v37 (c : Dev nD) : V m c main_v37 = bias2 (aT m c) := by
  rfl

theorem bucket2_at (r : Fin 128) (j : Fin 256) : bucket2 (ix2 r j) = bucket r.val j.val := rfl

theorem ones2_at (r : Fin 128) (j : Fin 256) (k : Fin 32) : ones2 (ix3 r j k)
    = (((IntOp.cmpi .eq (bucket r.val j.val) (BitVec.ofNat 32 k.val)).toNat : ℝ) : EReal) := by
  refine Eq.trans ?_ (congrArg (fun B => (((IntOp.cmpi .eq B (BitVec.ofNat 32 k.val)).toNat : ℝ) : EReal)) (bucket2_at r j))
  unfold ones2
  generalize bucket2 = B
  pointwise
  rfl

theorem bias2_at (T : FVec Ideal S32x12 .f32) (h : Fin 8) (r : Fin 128) (j : Fin 256) :
    bias2 T (ix3 h r j) = T (ix2 (slot r j) (⟨h.val, by omega⟩ : Fin 12)) := by
  have e : bias2 T (ix3 h r j) = ∑ k : Fin 32, T (ix2 k (⟨h.val, by omega⟩ : Fin 12)) * ones2 (ix3 r j k) := by
    unfold bias2
    generalize ones2 = O
    pointwise
  rw [e, ← pick (fun k => T (ix2 k (⟨h.val, by omega⟩ : Fin 12))) (bucket r.val j.val) (slot r j) (bucket_eq r j)]
  exact Finset.sum_congr rfl fun k _ => congrArg (_ * ·) (ones2_at r j k)

end Cert.Kernel6Ideal.Sw

end
-- ==== Proof.SwPre.lean ====
/- What the sliding-window attention's precondition says: its scores are below plus infinity and its sinks are real numbers. -/
module

public import proofs.«01_k».proof.Defs
public import proofs.«01_k».proof.Proof.Gen.Pre_swa_finite
public import proofs.«01_k».proof.Proof.SwBias
public import Idealize.ShloMosaic.Lib.ReduceAll
@[expose] public section

set_option maxRecDepth 16384
noncomputable section

namespace Cert.Pre_swa_finite

open Idealize.ShloMosaic Cert.Sw

/-- The number is real. -/
def IsR (a : EReal) : Prop := ∃ r : ℝ, a = r

theorem IsR.mul {a b : EReal} (ha : IsR a) (hb : IsR b) : IsR (a * b) := by
  obtain ⟨u, rfl⟩ := ha
  obtain ⟨v, rfl⟩ := hb
  exact ⟨u * v, (EReal.coe_mul u v).symm⟩
theorem IsR.add {a b : EReal} (ha : IsR a) (hb : IsR b) : IsR (a + b) := by
  obtain ⟨u, rfl⟩ := ha
  obtain ⟨v, rfl⟩ := hb
  exact ⟨u + v, (EReal.coe_add u v).symm⟩
theorem IsR.sum {ι : Type} (S : Finset ι) (f : ι → EReal) (h : ∀ i ∈ S, IsR (f i)) : IsR (∑ i ∈ S, f i) := by
  classical
  induction S using Finset.induction_on with
  | empty => exact ⟨0, by simp⟩
  | insert a S ha ih =>
    rw [Finset.sum_insert ha]
    exact IsR.add (h a (Finset.mem_insert_self a S)) (ih fun i hi => h i (Finset.mem_insert_of_mem hi))

theorem of_abs (a : EReal) (h : BitVec.ofBool (decide (max a (-a) < Ideal.ofBits .f32 0x7F800000#32)) = 1#1) : IsR a := by
  rw [show Ideal.ofBits .f32 0x7F800000#32 = ⊤ by simp [Ideal.ofBits, Ideal.ieee]] at h
  have h1 : max a (-a) < ⊤ := by
    by_contra hc
    rw [decide_eq_false hc] at h
    exact absurd h (by decide)
  obtain ⟨ha, hb⟩ := max_lt_iff.1 h1
  exact ⟨a.toReal, (EReal.coe_toReal ha.ne (fun hc => by rw [hc] at hb; exact absurd hb (by simp))).symm⟩

theorem andi_parts : ∀ a b : BitVec 1, IntOp.andi a b = 1#1 → a = 1#1 ∧ b = 1#1 := by decide

instance : Subsingleton S_.Idx := ⟨fun _ _ => funext fun a => a.elim0⟩

variable (x : FVec Ideal S16384x2304 .bf16) (s : FVec Ideal S8 .f32) (T : FVec Ideal S32x12 .f32)
variable (h : fn (F := Ideal) x s T = fun _ => 1#1)
include h

theorem parts : (∀ (R : Fin 16384) (C : Fin 640), IsR (x (ix2 R (⟨768 + C.val, by omega⟩ : Fin 2304)))) ∧ (∀ i, IsR (s i)) ∧ ∀ i, IsR (T i) := by
  have e := congrFun h ix0
  obtain ⟨e1, e2⟩ := andi_parts _ _ e
  obtain ⟨e3, e4⟩ := andi_parts _ _ e1
  refine ⟨fun R C => ?_, fun i => of_abs _ (Host.reduce_andi_all _ _ _ _ ix0 e4 i), fun i => of_abs _ (Host.reduce_andi_all _ _ _ _ ix0 e2 i)⟩
  have e5 := Host.reduce_andi_all _ _ _ _ ix0 e3 (ix2 R C)
  have hx : extractStridedSlice S16384x640 ![0, 768] x Facts.slices_S16384x2304_S16384x640_0_768 (ix2 R C) = x (ix2 R (⟨768 + C.val, by omega⟩ : Fin 2304)) :=
    congrArg x (funext fun a => Fin.ext (match a with | 0 => Nat.zero_add _ | 1 => rfl))
  rw [← hx]
  exact of_abs _ e5

theorem pj_real (r c : ℕ) (h0 : 768 ≤ c) (h1 : c < 1408) : IsR (pj x r c) := by
  unfold pj
  by_cases hc : r < 16384 ∧ c < 2304
  · rw [dif_pos hc]
    have := (parts x s T h).1 ⟨r, hc.1⟩ ⟨c - 768, by omega⟩
    refine (congrArg IsR (congrArg x (congrArg (ix2 (⟨r, hc.1⟩ : Fin 16384)) (Fin.ext ?_)))).mp this
    show 768 + (c - 768) = c
    omega
  · rw [dif_neg hc]; exact ⟨0, rfl⟩

/-- No score is plus infinity. -/
theorem scr_ne (b : Fin 2) (n : Fin 64) (g : Fin 2) (c : Fin 4) (r : Fin 128) (j : Fin 256) : scr x T b n g c r j ≠ ⊤ := by
  have hR : IsR ((∑ e : Fin 64, pj x (8192 * b.val + 128 * n.val + j.val - 128) (1280 + 64 * g.val + e.val)
      * pj x (8192 * b.val + 128 * n.val + r.val) (768 + 256 * g.val + 64 * c.val + e.val)) * (((1 : ℝ) / 8 : ℝ) : EReal)
    + T (ix2 (slot r j) ⟨4 * g.val + c.val, by omega⟩)) := by
    refine IsR.add (IsR.mul (IsR.sum _ _ fun e _ => IsR.mul (pj_real x s T h _ _ (by omega) (by omega)) (pj_real x s T h _ _ (by omega) (by omega))) ⟨_, rfl⟩) ((parts x s T h).2.2 _)
  obtain ⟨y, hy⟩ := hR
  unfold scr masked
  rw [hy]
  show (if msk r.val j.val = 1#1 then (y : EReal) else Ideal.ofBits .f32 0xF149F2CA#32) ≠ ⊤
  split
  · exact EReal.coe_ne_top y
  · simp [Ideal.ofBits, Ideal.ieee, -EReal.coe_mul, -EReal.coe_neg]

end Cert.Pre_swa_finite

end
-- ==== Proof.SwRef.lean ====
/- The reference's sliding-window attention read at an index, of the blocks with one before them. -/
module

public import proofs.«01_k».proof.Proof.SwBias
public import proofs.«01_k».proof.Proof.Gen.Reference6Ideal.Read
public import Idealize.ShloMosaic.Lib.KernelVsHost
@[expose] public section

set_option maxRecDepth 16384
noncomputable section

namespace Cert.Reference6Ideal.Sw

open Idealize.ShloMosaic Cert.Reference6Ideal Cert.Reference6Ideal.Gen Cert.Reference6Ideal.Read Cert.Sw

variable (x : S16384x2304.Idx → EReal) (s : S8.Idx → EReal) (T : S32x12.Idx → EReal)

/-- The left side is found where this is used. -/
theorem eqTo {α : Type} {i : α} (j : α) (h : i = j) : i = j := h

theorem v2_at (b : Fin 2) (t : Fin 8192) (C : Fin 768) : val_main_v2 (F := Ideal) x (ix3 b t C) = pj x (8192 * b.val + t.val) (768 + C.val) := by
  rw [val_main_v2_apply, val_main_v1_apply, val_main_v0_apply]
  refine pj_eq x _ _ _ ?_ ?_
  · show ((b.val * 8192 + t.val) * 2304 + (768 + C.val)) / 2304 = 8192 * b.val + t.val; omega
  · show ((b.val * 8192 + t.val) * 2304 + (768 + C.val)) % 2304 = 768 + C.val; omega

/-- The queries. -/
theorem v4_at (b : Fin 2) (n : Fin 64) (r : Fin 128) (g : Fin 2) (c : Fin 4) (e : Fin 64) :
    val_main_v4 (F := Ideal) x (ix6 b n r g c e) = pj x (8192 * b.val + 128 * n.val + r.val) (768 + 256 * g.val + 64 * c.val + e.val) := by
  unfold val_main_v4
  rw [shapeCast_apply (val_main_v3 (F := Ideal) x) _ (ix6 b n r g c e) (ix3 b (⟨128 * n.val + r.val, by omega⟩ : Fin 8192) (⟨256 * g.val + 64 * c.val + e.val, by omega⟩ : Fin 512)), val_main_v3_apply]
  · refine (congrArg (val_main_v2 (F := Ideal) x) (funext fun a => match a with | 0 => rfl | 1 => rfl | 2 => rfl)).trans
      ((v2_at x b (⟨128 * n.val + r.val, by omega⟩ : Fin 8192) (⟨256 * g.val + 64 * c.val + e.val, by omega⟩ : Fin 768)).trans ?_)
    exact congrArg₂ (pj x) (by show 8192 * b.val + (128 * n.val + r.val) = _; omega) (by show 768 + (256 * g.val + 64 * c.val + e.val) = _; omega)
  · rw [Shape.rowMajor_val_three, rowMajor_val6 _ 4194304 65536 512 256 64 rfl rfl rfl rfl rfl]
    show (b.val * 8192 + (128 * n.val + r.val)) * 512 + (256 * g.val + 64 * c.val + e.val) = b.val * 4194304 + n.val * 65536 + r.val * 512 + g.val * 256 + c.val * 64 + e.val
    omega

theorem v6_at (b : Fin 2) (t : Fin 8192) (g : Fin 2) (e : Fin 64) : val_main_v6 (F := Ideal) x (ix4 b t g e) = pj x (8192 * b.val + t.val) (1280 + 64 * g.val + e.val) := by
  rw [val_main_v6_apply, val_main_v5_apply]
  refine (congrArg (val_main_v2 (F := Ideal) x) (funext fun a => Fin.ext ?_)).trans
    ((v2_at x b t (⟨512 + (64 * g.val + e.val), by omega⟩ : Fin 768)).trans (congrArg (pj x _) (by show 768 + (512 + (64 * g.val + e.val)) = _; omega)))
  match a with
  | 0 => show (((b.val * 8192 + t.val) * 2 + g.val) * 64 + e.val) / 1048576 = b.val; omega
  | 1 => show (((b.val * 8192 + t.val) * 2 + g.val) * 64 + e.val) / 128 % 8192 = t.val; omega
  | 2 => show 512 + (((b.val * 8192 + t.val) * 2 + g.val) * 64 + e.val) % 128 = 512 + (64 * g.val + e.val); omega

theorem v8_at (b : Fin 2) (t : Fin 8192) (g : Fin 2) (e : Fin 64) : val_main_v8 (F := Ideal) x (ix4 b t g e) = pj x (8192 * b.val + t.val) (1408 + 64 * g.val + e.val) := by
  rw [val_main_v8_apply, val_main_v7_apply]
  refine (congrArg (val_main_v2 (F := Ideal) x) (funext fun a => Fin.ext ?_)).trans
    ((v2_at x b t (⟨640 + (64 * g.val + e.val), by omega⟩ : Fin 768)).trans (congrArg (pj x _) (by show 768 + (640 + (64 * g.val + e.val)) = _; omega)))
  match a with
  | 0 => show (((b.val * 8192 + t.val) * 2 + g.val) * 64 + e.val) / 1048576 = b.val; omega
  | 1 => show (((b.val * 8192 + t.val) * 2 + g.val) * 64 + e.val) / 128 % 8192 = t.val; omega
  | 2 => show 640 + (((b.val * 8192 + t.val) * 2 + g.val) * 64 + e.val) % 128 = 640 + (64 * g.val + e.val); omega

theorem pad_at (v : S2x8192x2x64.Idx → EReal) (z : S_.Idx → EReal) (b : Fin 2) (t : Fin 8320) (ht : 128 ≤ t.val) (g : Fin 2) (e : Fin 64) :
    pad S2x8320x2x64 ![0, 128, 0, 0] ![0, 0, 0, 0] ![0, 0, 0, 0] v z pads_S2x8192x2x64_S2x8320x2x64_000_12800_000_000 h_S_ (ix4 b t g e)
      = v (ix4 b (⟨t.val - 128, by omega⟩ : Fin 8192) g e) := by
  refine pad_apply_of_inside _ _ _ _ _ _ _ _ _ fun a => ?_
  match a with
  | 0 => show b.val = 0 + b.val * (0 + 1); omega
  | 1 => show t.val = 128 + (t.val - 128) * (0 + 1); omega
  | 2 => show g.val = 0 + g.val * (0 + 1); omega
  | 3 => show e.val = 0 + e.val * (0 + 1); omega

theorem v10_at (b : Fin 2) (m : Fin 65) (hm : 1 ≤ m.val) (r : Fin 128) (g : Fin 2) (e : Fin 64) :
    val_main_v10 (F := Ideal) x (ix5 b m r g e) = pj x (8192 * b.val + 128 * (m.val - 1) + r.val) (1280 + 64 * g.val + e.val) := by
  rw [val_main_v10_apply]
  refine (congrArg (val_main_v9 (F := Ideal) x) (eqTo (ix4 b (⟨128 * m.val + r.val, by omega⟩ : Fin 8320) g e) (funext fun a => Fin.ext ?_))).trans ?_
  · match a with
    | 0 => show ((((b.val * 65 + m.val) * 128 + r.val) * 2 + g.val) * 64 + e.val) / 1064960 = b.val; omega
    | 1 => show ((((b.val * 65 + m.val) * 128 + r.val) * 2 + g.val) * 64 + e.val) / 128 % 8320 = 128 * m.val + r.val; omega
    | 2 => show ((((b.val * 65 + m.val) * 128 + r.val) * 2 + g.val) * 64 + e.val) / 64 % 2 = g.val; omega
    | 3 => show ((((b.val * 65 + m.val) * 128 + r.val) * 2 + g.val) * 64 + e.val) % 64 = e.val; omega
  · unfold val_main_v9
    rw [pad_at _ _ _ _ (by show 128 ≤ 128 * m.val + r.val; omega), v6_at]
    exact congrArg (pj x · _) (by show 8192 * b.val + (128 * m.val + r.val - 128) = _; omega)

theorem v15_at (b : Fin 2) (m : Fin 65) (hm : 1 ≤ m.val) (r : Fin 128) (g : Fin 2) (e : Fin 64) :
    val_main_v15 (F := Ideal) x (ix5 b m r g e) = pj x (8192 * b.val + 128 * (m.val - 1) + r.val) (1408 + 64 * g.val + e.val) := by
  rw [val_main_v15_apply]
  refine (congrArg (val_main_v14 (F := Ideal) x) (eqTo (ix4 b (⟨128 * m.val + r.val, by omega⟩ : Fin 8320) g e) (funext fun a => Fin.ext ?_))).trans ?_
  · match a with
    | 0 => show ((((b.val * 65 + m.val) * 128 + r.val) * 2 + g.val) * 64 + e.val) / 1064960 = b.val; omega
    | 1 => show ((((b.val * 65 + m.val) * 128 + r.val) * 2 + g.val) * 64 + e.val) / 128 % 8320 = 128 * m.val + r.val; omega
    | 2 => show ((((b.val * 65 + m.val) * 128 + r.val) * 2 + g.val) * 64 + e.val) / 64 % 2 = g.val; omega
    | 3 => show ((((b.val * 65 + m.val) * 128 + r.val) * 2 + g.val) * 64 + e.val) % 64 = e.val; omega
  · unfold val_main_v14
    rw [pad_at _ _ _ _ (by show 128 ≤ 128 * m.val + r.val; omega), v8_at]
    exact congrArg (pj x · _) (by show 8192 * b.val + (128 * m.val + r.val - 128) = _; omega)

theorem two_at (u v : S2x64x128x2x64.Idx → EReal) (b : Fin 2) (n : Fin 64) (j : Fin 256) (g : Fin 2) (e : Fin 64) :
    concatenate S2x64x256x2x64 2 [⟨S2x64x128x2x64, u⟩, ⟨S2x64x128x2x64, v⟩] concatenates_S2x64x128x2x64_S2x64x128x2x64_S2x64x256x2x64_d2 (ix5 b n j g e)
      = if h : j.val < 128 then u (ix5 b n (⟨j.val, h⟩ : Fin 128) g e) else v (ix5 b n (⟨j.val - 128, by omega⟩ : Fin 128) g e) := by
  by_cases h : j.val < 128
  · rw [dif_pos h]
    refine concatenate_apply_piece (t := S2x64x256x2x64) 2 [⟨S2x64x128x2x64, u⟩, ⟨S2x64x128x2x64, v⟩] _ _ 0 (by show 0 < 2; decide) S2x64x128x2x64 u rfl rfl 0 rfl
      (ix5 b n (⟨j.val, h⟩ : Fin 128) g e) (fun a ha => ?_) (by show 0 + j.val = j.val; omega)
    match a with
    | 0 => rfl
    | 1 => rfl
    | 2 => exact absurd rfl ha
    | 3 => rfl
    | 4 => rfl
  · rw [dif_neg h]
    refine concatenate_apply_piece (t := S2x64x256x2x64) 2 [⟨S2x64x128x2x64, u⟩, ⟨S2x64x128x2x64, v⟩] _ _ 1 (by show 1 < 2; decide) S2x64x128x2x64 v rfl rfl 128 rfl
      (ix5 b n (⟨j.val - 128, by omega⟩ : Fin 128) g e) (fun a ha => ?_) (by show 128 + (j.val - 128) = j.val; omega)
    match a with
    | 0 => rfl
    | 1 => rfl
    | 2 => exact absurd rfl ha
    | 3 => rfl
    | 4 => rfl

/-- The keys of a window. -/
theorem v13_at (b : Fin 2) (n : Fin 64) (hn : 1 ≤ n.val) (j : Fin 256) (g : Fin 2) (e : Fin 64) :
    val_main_v13 (F := Ideal) x (ix5 b n j g e) = pj x (8192 * b.val + 128 * n.val + j.val - 128) (1280 + 64 * g.val + e.val) := by
  unfold val_main_v13
  rw [two_at]
  by_cases h : j.val < 128
  · rw [dif_pos h, val_main_v11_apply]
    refine (congrArg (val_main_v10 (F := Ideal) x) (eqTo (ix5 b (⟨n.val, by omega⟩ : Fin 65) (⟨j.val, h⟩ : Fin 128) g e) (by exact (funext fun a => match a with
      | 0 => rfl | 1 => rfl | 2 => rfl | 3 => rfl | 4 => rfl)))).trans ((v10_at x b _ hn _ g e).trans (congrArg (pj x · _) ?_))
    show 8192 * b.val + 128 * (n.val - 1) + j.val = _
    omega
  · rw [dif_neg h, val_main_v12_apply]
    refine (congrArg (val_main_v10 (F := Ideal) x) (eqTo (ix5 b (⟨1 + n.val, by omega⟩ : Fin 65) (⟨j.val - 128, by omega⟩ : Fin 128) g e) (by exact (funext fun a => match a with
      | 0 => rfl | 1 => rfl | 2 => rfl | 3 => rfl | 4 => rfl)))).trans ((v10_at x b _ (by show 1 ≤ 1 + n.val; omega) _ g e).trans (congrArg (pj x · _) ?_))
    show 8192 * b.val + 128 * (1 + n.val - 1) + (j.val - 128) = _
    omega

/-- The values of a window. -/
theorem v18_at (b : Fin 2) (n : Fin 64) (hn : 1 ≤ n.val) (j : Fin 256) (g : Fin 2) (e : Fin 64) :
    val_main_v18 (F := Ideal) x (ix5 b n j g e) = pj x (8192 * b.val + 128 * n.val + j.val - 128) (1408 + 64 * g.val + e.val) := by
  unfold val_main_v18
  rw [two_at]
  by_cases h : j.val < 128
  · rw [dif_pos h, val_main_v16_apply]
    refine (congrArg (val_main_v15 (F := Ideal) x) (eqTo (ix5 b (⟨n.val, by omega⟩ : Fin 65) (⟨j.val, h⟩ : Fin 128) g e) (by exact (funext fun a => match a with
      | 0 => rfl | 1 => rfl | 2 => rfl | 3 => rfl | 4 => rfl)))).trans ((v15_at x b _ hn _ g e).trans (congrArg (pj x · _) ?_))
    show 8192 * b.val + 128 * (n.val - 1) + j.val = _
    omega
  · rw [dif_neg h, val_main_v17_apply]
    refine (congrArg (val_main_v15 (F := Ideal) x) (eqTo (ix5 b (⟨1 + n.val, by omega⟩ : Fin 65) (⟨j.val - 128, by omega⟩ : Fin 128) g e) (by exact (funext fun a => match a with
      | 0 => rfl | 1 => rfl | 2 => rfl | 3 => rfl | 4 => rfl)))).trans ((v15_at x b _ (by show 1 ≤ 1 + n.val; omega) _ g e).trans (congrArg (pj x · _) ?_))
    show 8192 * b.val + 128 * (1 + n.val - 1) + (j.val - 128) = _
    omega

end Cert.Reference6Ideal.Sw
-- ==== Proof.SwRefBias.lean ====
/- The reference's mask and bias read at an index. -/
module

public import proofs.«01_k».proof.Proof.SwBias
public import proofs.«01_k».proof.Proof.Gen.Reference6Ideal.Read
public import Idealize.ShloMosaic.Lib.KernelVsHost
@[expose] public section

set_option maxRecDepth 16384
noncomputable section

namespace Cert.Reference6Ideal.Sw

open Idealize.ShloMosaic Cert.Reference6Ideal Cert.Reference6Ideal.Gen Cert.Reference6Ideal.Read Cert.Sw

variable (x : S16384x2304.Idx → EReal) (s : S8.Idx → EReal) (T : S32x12.Idx → EReal)

/-- The left side is found where this is used. -/
theorem eqTo' {α : Type} {i : α} (j : α) (h : i = j) : i = j := h

/-- A key's position is not negative where a block lies before. -/
theorem behind : ∀ n : Fin 64, ∀ j : Fin 256, 1 ≤ n.val → IntOp.cmpi .sge (IntOp.addi (IntOp.muli (IntOp.subi (BitVec.ofNat 32 n.val) 1#32) 128#32) (BitVec.ofNat 32 j.val)) 0#32 = 1#1 := by
  decide +kernel

theorem andi_one : ∀ m : BitVec 1, IntOp.andi m 1#1 = m := by decide

theorem v27_at (r : Fin 128) (j : Fin 256) : val_main_v27 (F := Ideal) (ix2 r j) = dst r.val j.val := rfl

theorem v44_at (n : Fin 64) (j : Fin 256) (hn : 1 ≤ n.val) : val_main_v44 (F := Ideal) (ix3 n (0 : Fin 1) j) = 1#1 := behind n j hn

theorem mask_at (b : Fin 2) (n : Fin 64) (hn : 1 ≤ n.val) (g : Fin 2) (c : Fin 4) (r : Fin 128) (j : Fin 256) :
    val_main_call3_v1 (F := Ideal) (ix6 b n g c r j) = msk r.val j.val := by
  rw [val_main_call3_v1_apply, val_main_v83_apply, val_main_v48_apply, val_main_v47_apply]
  refine (congrArg (IntOp.andi _) ((congrArg (val_main_v44 (F := Ideal)) (funext fun a => match a with | 0 => rfl | 1 => rfl | 2 => rfl)).trans (v44_at n j hn))).trans ?_
  rw [andi_one]
  rfl

theorem v69_at (r : Fin 128) (j : Fin 256) : val_main_v69 (F := Ideal) (ix2 r j) = bucket r.val j.val := rfl

theorem v74_at (r : Fin 128) (j : Fin 256) : val_main_v74 (F := Ideal) (ix2 r j) = BitVec.ofNat 32 (slot r j).val := by
  rw [val_main_v74_apply, val_main_v71_apply, v69_at, bucket_eq]
  rw [show val_main_v70 (F := Ideal) (ix2 r j) = 0#32 from rfl, natural]
  rfl

theorem slot_toNat : ∀ b : Fin 32, (BitVec.ofNat 32 b.val).toInt.toNat = b.val := by decide +kernel

theorem v75_at (r : Fin 128) (j : Fin 256) (z : Fin 1) : (val_main_v75 (F := Ideal) (ix3 r j z)).toInt.toNat = (slot r j).val := by
  have h : val_main_v75 (F := Ideal) (ix3 r j z) = BitVec.ofNat 32 (slot r j).val := by
    rw [val_main_v75_apply]
    exact (congrArg (val_main_v74 (F := Ideal)) (eqTo' (ix2 r j) (by exact funext fun a => match a with | 0 => rfl | 1 => rfl))).trans (v74_at r j)
  rw [h]
  exact slot_toNat _

theorem gather_at (t : S32x8.Idx → EReal) (I : IVec S128x256x1 32) (k : Fin 32) (r : Fin 128) (j : Fin 256) (h : Fin 8)
    (hI : (I (ix3 r j (0 : Fin 1))).toInt.toNat = k.val) :
    Host.gather gather_S32x8_S128x256x1_S128x256x8_2_0_n_n_0_2_18 t I (ix3 r j h) = t (ix2 k h) := by
  have hk := k.isLt
  refine congrArg t (funext fun a => Fin.ext ?_)
  match a with
  | 0 =>
    show min (I _).toInt.toNat 31 + 0 + 0 = k.val
    refine Eq.trans (congrArg (fun i => min (I i).toInt.toNat 31) (funext fun b => Fin.ext ?_)) (show min (I (ix3 r j (0 : Fin 1))).toInt.toNat 31 = k.val by rw [hI]; omega)
    match b with
    | 0 => rfl
    | 1 => rfl
    | 2 => rfl
  | 1 => show 0 + 0 + h.val = h.val; omega

theorem v78_at (g : Fin 2) (c : Fin 4) (r : Fin 128) (j : Fin 256) :
    val_main_v78 (F := Ideal) T (ix4 g c r j) = T (ix2 (slot r j) (⟨4 * g.val + c.val, by omega⟩ : Fin 12)) := by
  rw [val_main_v78_apply, val_main_v77_apply]
  refine (congrArg (val_main_v76 (F := Ideal) T) (eqTo' (ix3 r j (⟨4 * g.val + c.val, by omega⟩ : Fin 8)) (funext fun a => Fin.ext ?_))).trans ?_
  · match a with
    | 0 => show (((g.val * 4 + c.val) * 128 + r.val) * 256 + j.val) / 256 % 128 = r.val; omega
    | 1 => show (((g.val * 4 + c.val) * 128 + r.val) * 256 + j.val) % 256 = j.val; omega
    | 2 => show (((g.val * 4 + c.val) * 128 + r.val) * 256 + j.val) / 32768 = 4 * g.val + c.val; omega
  · unfold val_main_v76
    rw [gather_at (val_main_v49 (F := Ideal) T) _ (slot r j) r j _ (v75_at r j 0), val_main_v49_apply]
    exact congrArg T (funext fun a => match a with | 0 => rfl | 1 => rfl)

end Cert.Reference6Ideal.Sw
-- ==== Proof.SwRefAll.lean ====
/- The reference's sliding-window attention read at an index, the whole of it, of the blocks with one before them. -/
module

public import proofs.«01_k».proof.Proof.SwRef
public import proofs.«01_k».proof.Proof.SwRefBias
public import proofs.«01_k».proof.Proof.Gen.Reference6Ideal.Read
public import Idealize.ShloMosaic.Lib.KernelVsHost
@[expose] public section

set_option maxRecDepth 16384
noncomputable section

namespace Cert.Reference6Ideal.Sw

open Idealize.ShloMosaic Cert.Reference6Ideal Cert.Reference6Ideal.Gen Cert.Reference6Ideal.Read Cert.Sw

variable (x : S16384x2304.Idx → EReal) (s : S8.Idx → EReal) (T : S32x12.Idx → EReal)

theorem v79_at (b : Fin 2) (n : Fin 64) (hn : 1 ≤ n.val) (g : Fin 2) (c : Fin 4) (r : Fin 128) (j : Fin 256) :
    val_main_v79 (F := Ideal) x (ix6 b n g j r c) = ∑ e : Fin 64, pj x (8192 * b.val + 128 * n.val + j.val - 128) (1280 + 64 * g.val + e.val)
      * pj x (8192 * b.val + 128 * n.val + r.val) (768 + 256 * g.val + 64 * c.val + e.val) := by
  rw [val_main_v79_apply]
  refine Finset.sum_congr rfl fun e _ => congrArg₂ (· * ·) ?_ ?_
  · exact (congrArg (val_main_v13 (F := Ideal) x) (eqTo (ix5 b n j g e) (by exact (funext fun a => match a with | 0 => rfl | 1 => rfl | 2 => rfl | 3 => rfl | 4 => rfl)))).trans (v13_at x b n hn j g e)
  · exact (congrArg (val_main_v4 (F := Ideal) x) (eqTo (ix6 b n r g c e) (by exact (funext fun a => match a with | 0 => rfl | 1 => rfl | 2 => rfl | 3 => rfl | 4 => rfl | 5 => rfl)))).trans (v4_at x b n r g c e)

/-- The scores of a window. -/
theorem v87_at (b : Fin 2) (n : Fin 64) (hn : 1 ≤ n.val) (g : Fin 2) (c : Fin 4) (r : Fin 128) (j : Fin 256) :
    val_main_v87 (F := Ideal) x T (ix6 b n g c r j) = scr x T b n g c r j := by
  rw [val_main_v87_apply, mask_at b n hn, val_main_v86_apply, val_main_v82_apply, val_main_v80_apply, val_main_v85_apply, val_main_v84_apply]
  refine congrArg (fun z => Scalar.select (msk r.val j.val) z (Ideal.ofBits .f32 0xF149F2CA#32)) ?_
  refine congrArg₂ (· + ·) (congrArg₂ (· * ·) ?_ eighth32) ?_
  · exact (congrArg (val_main_v79 (F := Ideal) x) (eqTo (ix6 b n g j r c) (by exact (funext fun a => match a with | 0 => rfl | 1 => rfl | 2 => rfl | 3 => rfl | 4 => rfl | 5 => rfl)))).trans (v79_at x b n hn g c r j)
  · exact (congrArg (val_main_v78 (F := Ideal) T) (eqTo (ix4 g c r j) (by exact (funext fun a => match a with | 0 => rfl | 1 => rfl | 2 => rfl | 3 => rfl)))).trans (v78_at T g c r j)

theorem v88_at (g : Fin 2) (c : Fin 4) (u v w y : Fin 1) :
    val_main_v88 (F := Ideal) s (ix6 u v g c w y) = s (ix1 (⟨4 * g.val + c.val, by omega⟩ : Fin 8)) := by
  unfold val_main_v88
  refine shapeCast_apply s _ _ _ ?_
  rw [Shape.rowMajor_val_one, rowMajor_val6 _ 8 8 4 1 1 rfl rfl rfl rfl rfl]
  have := u.isLt; have := v.isLt; have := w.isLt; have := y.isLt
  show 4 * g.val + c.val = u.val * 8 + v.val * 8 + g.val * 4 + c.val * 1 + w.val * 1 + y.val
  omega

theorem v90_at (b : Fin 2) (n : Fin 64) (hn : 1 ≤ n.val) (g : Fin 2) (c : Fin 4) (r : Fin 128) (k : Fin 257) :
    val_main_v90 (F := Ideal) x s T (ix6 b n g c r k) = withSink (scr x T b n g c r) (s (ix1 (⟨4 * g.val + c.val, by omega⟩ : Fin 8))) k := by
  unfold val_main_v90
  by_cases h : k.val < 256
  · rw [withSink_lt _ _ k (⟨k.val, h⟩ : Fin 256) rfl, ← v87_at x T b n hn]
    refine concatenate_apply_piece (t := S2x64x2x4x128x257) 5 [⟨S2x64x2x4x128x256, val_main_v87 (F := Ideal) x T⟩, ⟨S2x64x2x4x128x1, val_main_v89 (F := Ideal) s⟩] _ _ 0 (by show 0 < 2; decide) S2x64x2x4x128x256 _ rfl rfl 0 rfl
      (ix6 b n g c r (⟨k.val, h⟩ : Fin 256)) (fun a ha => ?_) (by show 0 + k.val = k.val; omega)
    match a with
    | 0 => rfl
    | 1 => rfl
    | 2 => rfl
    | 3 => rfl
    | 4 => rfl
    | 5 => exact absurd rfl ha
  · have hk : k.val = 256 := by omega
    rw [withSink_last _ _ k hk]
    refine (concatenate_apply_piece (t := S2x64x2x4x128x257) 5 [⟨S2x64x2x4x128x256, val_main_v87 (F := Ideal) x T⟩, ⟨S2x64x2x4x128x1, val_main_v89 (F := Ideal) s⟩] _ _ 1 (by show 1 < 2; decide) S2x64x2x4x128x1 (val_main_v89 (F := Ideal) s) rfl rfl 256 rfl
      (ix6 b n g c r (0 : Fin 1)) (fun a ha => ?_) (by show 256 + 0 = k.val; omega)).trans ?_
    · match a with
      | 0 => rfl
      | 1 => rfl
      | 2 => rfl
      | 3 => rfl
      | 4 => rfl
      | 5 => exact absurd rfl ha
    · rw [val_main_v89_apply]
      exact (congrArg (val_main_v88 (F := Ideal) s) (eqTo (ix6 (0 : Fin 1) (0 : Fin 1) g c (0 : Fin 1) (0 : Fin 1)) (by exact (funext fun a => match a with
        | 0 => rfl | 1 => rfl | 2 => rfl | 3 => rfl | 4 => rfl | 5 => rfl)))).trans (v88_at s g c 0 0 0 0)

/-- The largest score. -/
theorem v93_at (b : Fin 2) (n : Fin 64) (hn : 1 ≤ n.val) (g : Fin 2) (c : Fin 4) (r : Fin 128) :
    val_main_v93 (F := Ideal) x s T (ix5 b n g c r) = max low (Finset.fold max low (withSink (scr x T b n g c r) (s (ix1 (⟨4 * g.val + c.val, by omega⟩ : Fin 8)))) Finset.univ) := by
  rw [val_main_v93_apply]
  refine congrArg (max low) ?_
  unfold val_main_v91
  refine (Host.reduce_eq_fold_single (FloatOps.maximumf (F := Ideal)) (val_main_v90 (F := Ideal) x s T) (val_main_cst_18 (F := Ideal)) reducesTo_S2x64x2x4x128x257_S2x64x2x4x128_d5 (by decide) h_S_ (ix5 b n g c r)).trans ?_
  refine congrArg (fun f => Finset.fold max low f Finset.univ) (funext fun k => ?_)
  exact (congrArg (val_main_v90 (F := Ideal) x s T) (eqTo (ix6 b n g c r k) (by exact (funext fun a => Fin.ext (match a with
    | 0 => rfl | 1 => rfl | 2 => rfl | 3 => rfl | 4 => rfl | 5 => rfl))))).trans (v90_at x s T b n hn g c r k)

theorem v97_at (b : Fin 2) (n : Fin 64) (hn : 1 ≤ n.val) (g : Fin 2) (c : Fin 4) (r : Fin 128) (k : Fin 257) :
    val_main_v97 (F := Ideal) x s T (ix6 b n g c r k) = Ideal.exp (withSink (scr x T b n g c r) (s (ix1 (⟨4 * g.val + c.val, by omega⟩ : Fin 8))) k
      - max low (Finset.fold max low (withSink (scr x T b n g c r) (s (ix1 (⟨4 * g.val + c.val, by omega⟩ : Fin 8)))) Finset.univ)) := by
  rw [val_main_v97_apply, val_main_v96_apply, v90_at x s T b n hn, val_main_v95_apply, val_main_v94_apply]
  exact congrArg (fun z => Ideal.exp (_ - z)) ((congrArg (val_main_v93 (F := Ideal) x s T) (eqTo (ix5 b n g c r) (by exact (funext fun a => match a with
    | 0 => rfl | 1 => rfl | 2 => rfl | 3 => rfl | 4 => rfl)))).trans (v93_at x s T b n hn g c r))

theorem v98_at (b : Fin 2) (n : Fin 64) (hn : 1 ≤ n.val) (g : Fin 2) (c : Fin 4) (r : Fin 128) :
    val_main_v98 (F := Ideal) x s T (ix5 b n g c r) = ∑ k : Fin 257, Ideal.exp (withSink (scr x T b n g c r) (s (ix1 (⟨4 * g.val + c.val, by omega⟩ : Fin 8))) k
      - max low (Finset.fold max low (withSink (scr x T b n g c r) (s (ix1 (⟨4 * g.val + c.val, by omega⟩ : Fin 8)))) Finset.univ)) := by
  rw [val_main_v98_apply, val_main_cst_20_apply]
  refine (congrArg₂ (· + ·) Ideal.ofBits_zero_f32 rfl).trans ((zero_add _).trans (Finset.sum_congr rfl fun k _ => ?_))
  exact (congrArg (val_main_v97 (F := Ideal) x s T) (eqTo (ix6 b n g c r k) (by exact (funext fun a => match a with
    | 0 => rfl | 1 => rfl | 2 => rfl | 3 => rfl | 4 => rfl | 5 => rfl)))).trans (v97_at x s T b n hn g c r k)

/-- The weights of a window. -/
theorem v102_at (b : Fin 2) (n : Fin 64) (hn : 1 ≤ n.val) (g : Fin 2) (c : Fin 4) (r : Fin 128) (j : Fin 256) :
    val_main_v102 (F := Ideal) x s T (ix6 b n g c r j)
      = Ideal.div (Ideal.exp (scr x T b n g c r j - max low (Finset.fold max low (withSink (scr x T b n g c r) (s (ix1 (⟨4 * g.val + c.val, by omega⟩ : Fin 8)))) Finset.univ)))
          (∑ k : Fin 257, Ideal.exp (withSink (scr x T b n g c r) (s (ix1 (⟨4 * g.val + c.val, by omega⟩ : Fin 8))) k
            - max low (Finset.fold max low (withSink (scr x T b n g c r) (s (ix1 (⟨4 * g.val + c.val, by omega⟩ : Fin 8)))) Finset.univ))) := by
  rw [val_main_v102_apply]
  refine (congrArg (val_main_v101 (F := Ideal) x s T) (eqTo (ix6 b n g c r (⟨j.val, by omega⟩ : Fin 257)) (by exact (funext fun a => match a with
    | 0 => rfl | 1 => rfl | 2 => rfl | 3 => rfl | 4 => rfl | 5 => rfl)))).trans ?_
  rw [val_main_v101_apply, val_main_v100_apply, val_main_v99_apply, v97_at x s T b n hn, withSink_lt _ _ (⟨j.val, by omega⟩ : Fin 257) j rfl]
  exact congrArg (Ideal.div _) ((congrArg (val_main_v98 (F := Ideal) x s T) (eqTo (ix5 b n g c r) (by exact (funext fun a => match a with
    | 0 => rfl | 1 => rfl | 2 => rfl | 3 => rfl | 4 => rfl)))).trans (v98_at x s T b n hn g c r))

theorem v103_at (b : Fin 2) (n : Fin 64) (hn : 1 ≤ n.val) (g : Fin 2) (c : Fin 4) (r : Fin 128) (d : Fin 64)
    (hs : ∀ j, scr x T b n g c r j ≠ ⊤) (a : ℝ) (ha : s (ix1 (⟨4 * g.val + c.val, by omega⟩ : Fin 8)) = a) :
    val_main_v103 (F := Ideal) x s T (ix6 b n g d c r) = ent x s T b n g c r d := by
  rw [val_main_v103_apply]
  refine (Finset.sum_congr rfl fun j _ => congrArg₂ (· * ·)
    ((congrArg (val_main_v18 (F := Ideal) x) (eqTo (ix5 b n j g d) (by exact (funext fun a => match a with | 0 => rfl | 1 => rfl | 2 => rfl | 3 => rfl | 4 => rfl)))).trans (v18_at x b n hn j g d))
    ((congrArg (val_main_v102 (F := Ideal) x s T) (eqTo (ix6 b n g c r j) (by exact (funext fun a => match a with | 0 => rfl | 1 => rfl | 2 => rfl | 3 => rfl | 4 => rfl | 5 => rfl)))).trans (v102_at x s T b n hn g c r j))).trans ?_
  rw [ent, ha]
  exact attn_eq (scr x T b n g c r) a _ hs

/-- The reference's result. -/
theorem result_at (b : Fin 2) (n : Fin 64) (hn : 1 ≤ n.val) (g : Fin 2) (c : Fin 4) (r : Fin 128) (d : Fin 64)
    (hs : ∀ j, scr x T b n g c r j ≠ ⊤) (a : ℝ) (ha : s (ix1 (⟨4 * g.val + c.val, by omega⟩ : Fin 8)) = a)
    (t : Fin 8064) (ht : 128 + t.val = 128 * n.val + r.val) (C : Fin 512) (hC : C.val = 256 * g.val + 64 * c.val + d.val) :
    val_main_v106 (F := Ideal) x s T (ix3 b t C) = ent x s T b n g c r d := by
  rw [val_main_v106_apply]
  refine (congrArg (val_main_v105 (F := Ideal) x s T) (eqTo (ix3 b (⟨128 + t.val, by omega⟩ : Fin 8192) C) (by exact (funext fun a => match a with | 0 => rfl | 1 => rfl | 2 => rfl)))).trans ?_
  unfold val_main_v105
  rw [shapeCast_apply (val_main_v104 (F := Ideal) x s T) _ _ (ix6 b n r g c d), val_main_v104_apply]
  · exact (congrArg (val_main_v103 (F := Ideal) x s T) (eqTo (ix6 b n g d c r) (by exact (funext fun a => match a with | 0 => rfl | 1 => rfl | 2 => rfl | 3 => rfl | 4 => rfl | 5 => rfl)))).trans
      (v103_at x s T b n hn g c r d hs a ha)
  · rw [Shape.rowMajor_val_three, rowMajor_val6 _ 4194304 65536 512 256 64 rfl rfl rfl rfl rfl]
    show b.val * 4194304 + n.val * 65536 + r.val * 512 + g.val * 256 + c.val * 64 + d.val = (b.val * 8192 + (128 + t.val)) * 512 + C.val
    omega

end Cert.Reference6Ideal.Sw
-- ==== Proof.SwFin.lean ====
/- The sliding-window attention's result is the reference's. -/
module

public import proofs.«01_k».proof.Proof.SwTab
public import proofs.«01_k».proof.Proof.SwPre
public import proofs.«01_k».proof.Proof.SwRefAll

@[expose] public section

set_option maxRecDepth 16384
noncomputable section

namespace Cert.Kernel6Ideal.Sw

open Idealize.ShloMosaic Idealize.ShloMosaic.TcCoe Idealize.SL.Sem
open Idealize.ShloMosaic.Pipeline (Dat)
open Cert.Kernel6Ideal Cert.Kernel6Ideal.Gen Cert.Sw

variable (m : (ℓ : Loc nD τ sig) → Buf (Elt Ideal) ℓ) (ρ : Dev nD → PrngReg)

/-- The projection of device `c`. -/
abbrev aP (c : Dev nD) : FVec Ideal S16384x2304 .bf16 := m ((c.tc : Thread nD τ).loc main_arg0)
/-- The sinks of device `c`. -/
abbrev aS (c : Dev nD) : FVec Ideal S8 .f32 := m ((c.tc : Thread nD τ).loc main_arg1)

theorem idx_all : ∀ t : Fin cfg0.N,
    (win0_0.index t 0 = 0)
    ∧ (win0_1.index t 0 = t.val ∧ win0_1.index t 1 = 3)
    ∧ (win0_2.index t 0 = t.val ∧ win0_2.index t 1 = 4)
    ∧ (win0_3.index t 0 = t.val / 64 * 64 + (t.val % 64 - 1) ∧ win0_3.index t 1 = 10)
    ∧ (win0_4.index t 0 = t.val ∧ win0_4.index t 1 = 10)
    ∧ (win0_5.index t 0 = t.val / 64 * 64 + (t.val % 64 - 1) ∧ win0_5.index t 1 = 11)
    ∧ (win0_6.index t 0 = t.val ∧ win0_6.index t 1 = 11)
    ∧ (win0_7.index t 0 = 0 ∧ win0_7.index t 1 = 0 ∧ win0_7.index t 2 = 0)
    ∧ (win0_8.index t 0 = t.val ∧ win0_8.index t 1 = 0)
    ∧ (grid0.coords t 1).val = t.val % 64 := by
  show ∀ t : Fin grid0.N, _
  decide +kernel

section
variable (c : Dev nD) (t : Fin cfg0.N)

theorem iblk0_at (h : Fin 8) : iblk (F := Ideal) m c 0 t (ix1 h) = aS m c (ix1 h) := by
  unfold iblk; rw [View.read_apply, cast_eq]
  have e := (idx_all t).1
  refine (congrFun (V_main_arg1 m c) _).trans (congrArg (aS m c) (funext fun (a : Fin 1) => Fin.ext ?_))
  match a with
  | 0 => refine (win0_0.rect_emb_val t (ix1 h) 0).trans ?_; rw [e]; show 0 * 8 + h.val = h.val; omega

theorem iblk1_at (r : Fin 128) (q : Fin 256) : iblk (F := Ideal) m c 1 t (ix2 r q) = pj (aP m c) (128 * t.val + r.val) (768 + q.val) := by
  unfold iblk; rw [View.read_apply, cast_eq]
  have e := (idx_all t).2.1
  refine (congrFun (V_main_arg0 m c) _).trans (pj_eq (aP m c) _ _ _ ?_ ?_)
  · refine (win0_1.rect_emb_val t (ix2 r q) 0).trans ?_; rw [e.1]; show t.val * 128 + r.val = _; omega
  · refine (win0_1.rect_emb_val t (ix2 r q) 1).trans ?_; rw [e.2]; show 3 * 256 + q.val = _; omega

theorem iblk2_at (r : Fin 128) (q : Fin 256) : iblk (F := Ideal) m c 2 t (ix2 r q) = pj (aP m c) (128 * t.val + r.val) (1024 + q.val) := by
  unfold iblk; rw [View.read_apply, cast_eq]
  have e := (idx_all t).2.2.1
  refine (congrFun (V_main_arg0 m c) _).trans (pj_eq (aP m c) _ _ _ ?_ ?_)
  · refine (win0_2.rect_emb_val t (ix2 r q) 0).trans ?_; rw [e.1]; show t.val * 128 + r.val = _; omega
  · refine (win0_2.rect_emb_val t (ix2 r q) 1).trans ?_; rw [e.2]; show 4 * 256 + q.val = _; omega

theorem iblk3_at (ht : 1 ≤ t.val % 64) (r q : Fin 128) : iblk (F := Ideal) m c 3 t (ix2 r q) = pj (aP m c) (128 * t.val + r.val - 128) (1280 + q.val) := by
  unfold iblk; rw [View.read_apply, cast_eq]
  have e := (idx_all t).2.2.2.1
  refine (congrFun (V_main_arg0 m c) _).trans (pj_eq (aP m c) _ _ _ ?_ ?_)
  · refine (win0_3.rect_emb_val t (ix2 r q) 0).trans ?_; rw [e.1]; show (t.val / 64 * 64 + (t.val % 64 - 1)) * 128 + r.val = _; omega
  · refine (win0_3.rect_emb_val t (ix2 r q) 1).trans ?_; rw [e.2]; show 10 * 128 + q.val = _; omega

theorem iblk4_at (r q : Fin 128) : iblk (F := Ideal) m c 4 t (ix2 r q) = pj (aP m c) (128 * t.val + r.val) (1280 + q.val) := by
  unfold iblk; rw [View.read_apply, cast_eq]
  have e := (idx_all t).2.2.2.2.1
  refine (congrFun (V_main_arg0 m c) _).trans (pj_eq (aP m c) _ _ _ ?_ ?_)
  · refine (win0_4.rect_emb_val t (ix2 r q) 0).trans ?_; rw [e.1]; show t.val * 128 + r.val = _; omega
  · refine (win0_4.rect_emb_val t (ix2 r q) 1).trans ?_; rw [e.2]; show 10 * 128 + q.val = _; omega

theorem iblk5_at (ht : 1 ≤ t.val % 64) (r q : Fin 128) : iblk (F := Ideal) m c 5 t (ix2 r q) = pj (aP m c) (128 * t.val + r.val - 128) (1408 + q.val) := by
  unfold iblk; rw [View.read_apply, cast_eq]
  have e := (idx_all t).2.2.2.2.2.1
  refine (congrFun (V_main_arg0 m c) _).trans (pj_eq (aP m c) _ _ _ ?_ ?_)
  · refine (win0_5.rect_emb_val t (ix2 r q) 0).trans ?_; rw [e.1]; show (t.val / 64 * 64 + (t.val % 64 - 1)) * 128 + r.val = _; omega
  · refine (win0_5.rect_emb_val t (ix2 r q) 1).trans ?_; rw [e.2]; show 11 * 128 + q.val = _; omega

theorem iblk6_at (r q : Fin 128) : iblk (F := Ideal) m c 6 t (ix2 r q) = pj (aP m c) (128 * t.val + r.val) (1408 + q.val) := by
  unfold iblk; rw [View.read_apply, cast_eq]
  have e := (idx_all t).2.2.2.2.2.2.1
  refine (congrFun (V_main_arg0 m c) _).trans (pj_eq (aP m c) _ _ _ ?_ ?_)
  · refine (win0_6.rect_emb_val t (ix2 r q) 0).trans ?_; rw [e.1]; show t.val * 128 + r.val = _; omega
  · refine (win0_6.rect_emb_val t (ix2 r q) 1).trans ?_; rw [e.2]; show 11 * 128 + q.val = _; omega

theorem iblk7_at (h : Fin 8) (r : Fin 128) (j : Fin 256) : iblk (F := Ideal) m c 7 t (ix3 h r j) = aT m c (ix2 (slot r j) (⟨h.val, by omega⟩ : Fin 12)) := by
  unfold iblk; rw [View.read_apply, cast_eq]
  have e := (idx_all t).2.2.2.2.2.2.2.1
  refine (congrFun (V_v37 m c) _).trans (Eq.trans (congrArg (bias2 (aT m c)) (funext fun (a : Fin 3) => Fin.ext ?_)) (bias2_at (aT m c) h r j))
  match a with
  | 0 => refine (win0_7.rect_emb_val t (ix3 h r j) 0).trans ?_; rw [e.1]; show 0 * 8 + h.val = h.val; omega
  | 1 => refine (win0_7.rect_emb_val t (ix3 h r j) 1).trans ?_; rw [e.2.1]; show 0 * 128 + r.val = r.val; omega
  | 2 => refine (win0_7.rect_emb_val t (ix3 h r j) 2).trans ?_; rw [e.2.2]; show 0 * 256 + j.val = j.val; omega

theorem keys_at (ht : 1 ≤ t.val % 64) (j : Fin 256) (k : Fin 128) : win (iblk (F := Ideal) m c 3 t) (iblk (F := Ideal) m c 4 t) j k = pj (aP m c) (128 * t.val + j.val - 128) (1280 + k.val) := by
  unfold win
  by_cases h : j.val < 128
  · rw [dif_pos h]; exact iblk3_at m c t ht _ k
  · rw [dif_neg h]
    refine (iblk4_at m c t _ k).trans (congrArg (pj (aP m c) · _) ?_)
    show 128 * t.val + (j.val - 128) = _
    omega

theorem vals_at (ht : 1 ≤ t.val % 64) (j : Fin 256) (k : Fin 128) : win (iblk (F := Ideal) m c 5 t) (iblk (F := Ideal) m c 6 t) j k = pj (aP m c) (128 * t.val + j.val - 128) (1408 + k.val) := by
  unfold win
  by_cases h : j.val < 128
  · rw [dif_pos h]; exact iblk5_at m c t ht _ k
  · rw [dif_neg h]
    refine (iblk6_at m c t _ k).trans (congrArg (pj (aP m c) · _) ?_)
    show 128 * t.val + (j.val - 128) = _
    omega

/-- What a point leaves in its block. -/
def point (c : Dev nD) (t : Fin cfg0.N) : FVec Ideal S128x512 .f32 :=
  left (out0 (grid0.coords t) (iblk m c 0 t) (iblk m c 1 t) (iblk m c 3 t) (iblk m c 4 t) (iblk m c 5 t) (iblk m c 6 t) (iblk m c 7 t))
    (out1 (grid0.coords t) (iblk m c 0 t) (iblk m c 2 t) (iblk m c 3 t) (iblk m c 4 t) (iblk m c 5 t) (iblk m c 6 t) (iblk m c 7 t))

/-- A scaled query against a key is the product, scaled. -/
theorem scaled (q k : Fin 64 → EReal) : (∑ e : Fin 64, q e * Ideal.ofBits .bf16 0x3E00#16 * k e) = (∑ e : Fin 64, k e * q e) * (((1 : ℝ) / 8 : ℝ) : EReal) := by
  rw [eighth16, sum_mul_of _ _ (by exact_mod_cast (by norm_num : (0 : ℝ) ≤ 1 / 8)) (EReal.coe_ne_top _)]
  refine Finset.sum_congr rfl fun e _ => ?_
  rw [mul_right_comm, mul_comm (q e) (k e)]

/-- What a point with a block before it leaves is the attention's entry, by its blocks. -/
theorem left_at (i : grid0.Coords) (hi : 0 < (i 1).val) (tv : ℕ) (P : S16384x2304.Idx → EReal) (s : S8.Idx → EReal) (T : S32x12.Idx → EReal)
    (x0 : Vec Ideal S8 .f32) (x1 x2 : Vec Ideal S128x256 .bf16) (x3 x4 x5 x6 : Vec Ideal S128x128 .bf16) (x7 : Vec Ideal S8x128x256 .f32)
    (e0 : ∀ h : Fin 8, x0 (ix1 h) = s (ix1 h))
    (e1 : ∀ (r : Fin 128) (q : Fin 256), x1 (ix2 r q) = pj P (128 * tv + r.val) (768 + q.val))
    (e2 : ∀ (r : Fin 128) (q : Fin 256), x2 (ix2 r q) = pj P (128 * tv + r.val) (1024 + q.val))
    (ek : ∀ (j : Fin 256) (k : Fin 128), win x3 x4 j k = pj P (128 * tv + j.val - 128) (1280 + k.val))
    (ev : ∀ (j : Fin 256) (k : Fin 128), win x5 x6 j k = pj P (128 * tv + j.val - 128) (1408 + k.val))
    (e7 : ∀ (h : Fin 8) (r : Fin 128) (j : Fin 256), x7 (ix3 h r j) = T (ix2 (slot r j) (⟨h.val, by omega⟩ : Fin 12)))
    (b : Fin 2) (n : Fin 64) (htv : tv = 64 * b.val + n.val) (g : Fin 2) (cc : Fin 4) (r : Fin 128) (d : Fin 64) (C : Fin 512) (hC : C.val = 256 * g.val + 64 * cc.val + d.val) :
    left (out0 i x0 x1 x3 x4 x5 x6 x7) (out1 i x0 x2 x3 x4 x5 x6 x7) (ix2 r C) = ent P s T b n g cc r d := by
  have hcc := cc.isLt
  have hd := d.isLt
  have hv : ∀ j : Fin 256, ∀ k : ℕ, pj P (128 * tv + j.val - 128) k = pj P (8192 * b.val + 128 * n.val + j.val - 128) k := fun j k =>
    congrArg (pj P · k) (by omega)
  have hq : ∀ k : ℕ, pj P (128 * tv + r.val) k = pj P (8192 * b.val + 128 * n.val + r.val) k := fun k =>
    congrArg (pj P · k) (by omega)
  unfold left ent
  match g, hC with
  | 0, hC =>
    have hC' : C.val = 64 * cc.val + d.val := by
      have : C.val = 256 * 0 + 64 * cc.val + d.val := hC
      omega
    have h1 : C.val < 256 := by omega
    refine (dif_pos h1).trans ?_
    refine (congrArg _ (congrArg₂ ix2 (Fin.ext (by show 128 * (C.val / 64) + r.val = 128 * cc.val + r.val; omega) : _ = (⟨128 * cc.val + r.val, by omega⟩ : Fin 512)) (Fin.ext (by show C.val % 64 = d.val; omega) : _ = d))).trans ?_
    refine (out0_at _ hi _ _ _ _ _ _ _ cc r _ rfl d).trans ?_
    have a1 : ∀ j : Fin 256, masked r.val j.val ((∑ e : Fin 64, x1 (ix2 r (⟨64 * cc.val + e.val, by omega⟩ : Fin 256)) * Ideal.ofBits .bf16 0x3E00#16 * win x3 x4 j (⟨e.val, by omega⟩ : Fin 128))
        + x7 (ix3 (⟨cc.val, by omega⟩ : Fin 8) r j)) = scr P T b n 0 cc r j := fun j => by
      rw [scaled]
      refine congrArg (masked r.val j.val) (congrArg₂ (· + ·) (congrArg (· * _) (Finset.sum_congr rfl fun e _ => congrArg₂ (· * ·) ?_ ?_)) ?_)
      · refine (ek j _).trans ((hv j _).trans (congrArg (pj P _) ?_))
        show 1280 + e.val = 1280 + 64 * 0 + e.val
        omega
      · refine (e1 r _).trans ((hq _).trans (congrArg (pj P _) ?_))
        show 768 + (64 * cc.val + e.val) = 768 + 256 * 0 + 64 * cc.val + e.val
        omega
      · refine (e7 _ r j).trans (congrArg T (congrArg (ix2 (slot r j)) (Fin.ext ?_)))
        show cc.val = 4 * 0 + cc.val
        omega
    have a2 : x0 (ix1 (⟨cc.val, by omega⟩ : Fin 8)) = s (ix1 (⟨4 * (0 : Fin 2).val + cc.val, by show 4 * 0 + cc.val < 8; omega⟩ : Fin 8)) := by
      refine (e0 _).trans (congrArg s (congrArg ix1 (Fin.ext ?_)))
      show cc.val = 4 * 0 + cc.val
      omega
    have a3 : ∀ j : Fin 256, win x5 x6 j (⟨d.val, by omega⟩ : Fin 128) = pj P (8192 * b.val + 128 * n.val + j.val - 128) (1408 + 64 * (0 : Fin 2).val + d.val) := fun j => by
      refine (ev j _).trans ((hv j _).trans (congrArg (pj P _) ?_))
      show 1408 + d.val = 1408 + 64 * 0 + d.val
      omega
    exact congr (congr (congrArg attn (funext a1)) a2) (funext a3)
  | 1, hC =>
    have hC' : C.val = 256 + 64 * cc.val + d.val := by
      have : C.val = 256 * 1 + 64 * cc.val + d.val := hC
      omega
    have h1 : ¬ C.val < 256 := by omega
    refine (dif_neg h1).trans ?_
    refine (congrArg _ (congrArg₂ ix2 (Fin.ext (by show 128 * ((C.val - 256) / 64) + r.val = 128 * cc.val + r.val; omega) : _ = (⟨128 * cc.val + r.val, by omega⟩ : Fin 512)) (Fin.ext (by show C.val % 64 = d.val; omega) : _ = d))).trans ?_
    refine (out1_at _ hi _ _ _ _ _ _ _ cc r _ rfl d).trans ?_
    have a1 : ∀ j : Fin 256, masked r.val j.val ((∑ e : Fin 64, x2 (ix2 r (⟨64 * cc.val + e.val, by omega⟩ : Fin 256)) * Ideal.ofBits .bf16 0x3E00#16 * win x3 x4 j (⟨64 + e.val, by omega⟩ : Fin 128))
        + x7 (ix3 (⟨4 + cc.val, by omega⟩ : Fin 8) r j)) = scr P T b n 1 cc r j := fun j => by
      rw [scaled]
      refine congrArg (masked r.val j.val) (congrArg₂ (· + ·) (congrArg (· * _) (Finset.sum_congr rfl fun e _ => congrArg₂ (· * ·) ?_ ?_)) ?_)
      · refine (ek j _).trans ((hv j _).trans (congrArg (pj P _) ?_))
        show 1280 + (64 + e.val) = 1280 + 64 * 1 + e.val
        omega
      · refine (e2 r _).trans ((hq _).trans (congrArg (pj P _) ?_))
        show 1024 + (64 * cc.val + e.val) = 768 + 256 * 1 + 64 * cc.val + e.val
        omega
      · refine (e7 _ r j).trans (congrArg T (congrArg (ix2 (slot r j)) (Fin.ext ?_)))
        show 4 + cc.val = 4 * 1 + cc.val
        omega
    have a2 : x0 (ix1 (⟨4 + cc.val, by omega⟩ : Fin 8)) = s (ix1 (⟨4 * (1 : Fin 2).val + cc.val, by show 4 * 1 + cc.val < 8; omega⟩ : Fin 8)) := by
      refine (e0 _).trans (congrArg s (congrArg ix1 (Fin.ext ?_)))
      show 4 + cc.val = 4 * 1 + cc.val
      omega
    have a3 : ∀ j : Fin 256, win x5 x6 j (⟨64 + d.val, by omega⟩ : Fin 128) = pj P (8192 * b.val + 128 * n.val + j.val - 128) (1408 + 64 * (1 : Fin 2).val + d.val) := fun j => by
      refine (ev j _).trans ((hv j _).trans (congrArg (pj P _) ?_))
      show 1408 + (64 + d.val) = 1408 + 64 * 1 + d.val
      omega
    exact congr (congr (congrArg attn (funext a1)) a2) (funext a3)

/-- What a point with a block before it leaves is the attention's entry. -/
theorem point_at (b : Fin 2) (n : Fin 64) (hn : 1 ≤ n.val) (htv : t.val = 64 * b.val + n.val) (g : Fin 2) (cc : Fin 4) (r : Fin 128) (d : Fin 64) (C : Fin 512) (hC : C.val = 256 * g.val + 64 * cc.val + d.val) :
    point m c t (ix2 r C) = ent (aP m c) (aS m c) (aT m c) b n g cc r d := by
  have ht : 1 ≤ t.val % 64 := by omega
  have hi : 0 < (grid0.coords t 1).val := by
    rw [(idx_all t).2.2.2.2.2.2.2.2.2]; omega
  unfold point
  exact left_at (grid0.coords t) hi t.val (aP m c) (aS m c) (aT m c) _ _ _ _ _ _ _ _ (iblk0_at m c t) (iblk1_at m c t) (iblk2_at m c t) (keys_at m c t ht) (vals_at m c t ht) (iblk7_at m c t) b n htv g cc r d C hC
end

/-- The array the call leaves, block after block. -/
def full (c : Dev nD) (i : S16384x512.Idx) : EReal :=
  point m c (⟨(i 0).val / 128, by have h0 : (i 0).val < 16384 := (i 0).isLt; have : cfg0.N = 128 := N_0; omega⟩ : Fin cfg0.N)
    (ix2 (⟨(i 0).val % 128, by omega⟩ : Fin 128) (⟨(i 1).val, (i 1).isLt⟩ : Fin 512))

theorem outs_eq (c : Dev nD) (t : Fin cfg0.N) : outsAt0 m c t = point m c t := by
  unfold outsAt0 point
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact out_eq ..

theorem flushed_eq (c : Dev nD) (t : Fin cfg0.N) :
    (dats m 0 c).flushed 8 t = ((cfg0.win 8).blk t).view.read (Elt Ideal) (full m c) := by
  have f : (dats m 0 c).flushed 8 t = (cfg0.win 8).cut (grid0.coords t) (point m c t) := by
    show (cfg0.win 8).cut (grid0.coords t) ((dats m 0 c).after 8 t) = _
    rw [after0_8, outs_eq]
  rw [f]
  funext y
  rw [View.read_apply, cast_eq]
  have e := (idx_all t).2.2.2.2.2.2.2.2.1
  have y0 : (y 0).val < 128 := (y 0).isLt
  have y1 : (y 1).val < 512 := (y 1).isLt
  have e0 : ((win0_8.rect t).emb y 0).val = t.val * 128 + (y 0).val := by
    refine (win0_8.rect_emb_val t y 0).trans ?_
    rw [e.1]; rfl
  have e1 : ((win0_8.rect t).emb y 1).val = (y 1).val := by
    refine (win0_8.rect_emb_val t y 1).trans ?_
    rw [e.2]; show 0 * 512 + (y 1).val = _; omega
  have g : ∀ (i : S16384x512.Idx), (i 0).val = t.val * 128 + (y 0).val → (i 1).val = (y 1).val → point m c t (ix2 (⟨(y 0).val, y0⟩ : Fin 128) (⟨(y 1).val, y1⟩ : Fin 512)) = full m c i := fun i h0 h1 => by
    unfold full
    refine congr (congrArg (point m c) (Fin.ext ?_)) (congrArg₂ ix2 (Fin.ext ?_) (Fin.ext h1.symm))
    · show t.val = (i 0).val / 128; omega
    · show (y 0).val = (i 0).val % 128; omega
  refine Eq.trans ?_ (g _ e0 e1)
  exact congrArg (point m c t) (funext fun a => match a with | 0 => rfl | 1 => rfl)

/-- The blocks cover the array. -/
theorem cover (i : S16384x512.Idx) : ∃ t : Fin cfg0.N, (cfg0.win 8).flush t = true ∧ i ∈ ((cfg0.win 8).blk t).view.set := by
  have h0 : (i 0).val < 16384 := (i 0).isLt
  have h1 : (i 1).val < 512 := (i 1).isLt
  have hN : cfg0.N = 128 := N_0
  obtain ⟨t, ht⟩ : ∃ t : Fin cfg0.N, t.val = (i 0).val / 128 := ⟨⟨(i 0).val / 128, by omega⟩, rfl⟩
  refine ⟨t, flush0_8 t, ?_⟩
  show i ∈ ((View.whole main_v38).slice (win0_8.rect t)).set
  rw [View.set_slice_whole, Rect.mem_set_unit]
  have e := (idx_all t).2.2.2.2.2.2.2.2.1
  intro a
  match a with
  | 0 => show win0_8.index t 0 * 128 ≤ (i 0).val ∧ (i 0).val < win0_8.index t 0 * 128 + 128
         rw [e.1]; omega
  | 1 => show win0_8.index t 1 * 512 ≤ (i 1).val ∧ (i 1).val < win0_8.index t 1 * 512 + 512
         rw [e.2]; omega

theorem final_eq (c : Dev nD) : (dats m 0 c).arrAt 8 cfg0.N = full m c :=
  (dats m 0 c).arrAt_eq_of_cover 8 (full m c) (fun t _ => flushed_eq m c t) cover

/-- The lines after the call split the rows by batch and leave out the first block of each. -/
theorem tail_eq (c : Dev nD) : Pipeline.afterTail₀ cfgs (dats m) 0 (V0 m) [hostOps1] c main_v40
    = extractStridedSlice S2x8064x512 ![0, 128, 0] (shapeCast S2x8192x512 (full m c : FVec Ideal S16384x512 .f32) shapeCasts_S16384x512_S2x8192x512) slices_S2x8192x512_S2x8064x512_0_128_0 := by
  have w : Pipeline.withArrays (cfgs 0).spec c (V0 m c) (fun w => (dats m 0 c).arrAt w cfg0.N) (Proc.devRef .tc main_v38) = full m c :=
    ((dats m 0 c).withArrays_arrAt sharedIn0 (V0 m c) (A_eq m c) 8).trans (final_eq m c)
  rw [← w]
  rfl

theorem entry_at (c : Dev nD) (b : Fin 2) (t : Fin 8064) (C : Fin 512)
    (hpre : Cert.Pre_swa_finite.fn (F := Ideal) (aP m c) (aS m c) (aT m c) = fun _ => 1#1) :
    extractStridedSlice S2x8064x512 ![0, 128, 0] (shapeCast S2x8192x512 (full m c : FVec Ideal S16384x512 .f32) shapeCasts_S16384x512_S2x8192x512) slices_S2x8192x512_S2x8064x512_0_128_0 (ix3 b t C)
      = Cert.Reference6Ideal.Read.val_main_v106 (F := Ideal) (aP m c) (aS m c) (aT m c) (ix3 b t C) := by
  have hb := b.isLt
  have ht := t.isLt
  have hC := C.isLt
  obtain ⟨n, hn⟩ : ∃ n : Fin 64, n.val = (128 + t.val) / 128 := ⟨⟨(128 + t.val) / 128, by omega⟩, rfl⟩
  obtain ⟨r, hr⟩ : ∃ r : Fin 128, r.val = (128 + t.val) % 128 := ⟨⟨(128 + t.val) % 128, by omega⟩, rfl⟩
  obtain ⟨g, hg⟩ : ∃ g : Fin 2, g.val = C.val / 256 := ⟨⟨C.val / 256, by omega⟩, rfl⟩
  obtain ⟨q, hq⟩ : ∃ q : Fin 4, q.val = C.val / 64 % 4 := ⟨⟨C.val / 64 % 4, by omega⟩, rfl⟩
  obtain ⟨d, hd⟩ : ∃ d : Fin 64, d.val = C.val % 64 := ⟨⟨C.val % 64, by omega⟩, rfl⟩
  have hN : cfg0.N = 128 := N_0
  obtain ⟨a, ha⟩ := (Cert.Pre_swa_finite.parts (aP m c) (aS m c) (aT m c) hpre).2.1 (ix1 (⟨4 * g.val + q.val, by omega⟩ : Fin 8))
  refine Eq.trans ?_ (Cert.Reference6Ideal.Sw.result_at (aP m c) (aS m c) (aT m c) b n (by omega) g q r d
    (fun j => Cert.Pre_swa_finite.scr_ne (aP m c) (aS m c) (aT m c) hpre b n g q r j) a ha t (by omega) C (by omega)).symm
  refine Eq.trans ?_ (point_at m c (⟨64 * b.val + n.val, by omega⟩ : Fin cfg0.N) b n (by omega) rfl g q r d C (by omega))
  generalize hG : full m c = G
  refine (extractStridedSlice_apply ![0, 128, 0] _ slices_S2x8192x512_S2x8064x512_0_128_0 (ix3 b t C) (ix3 b (⟨128 + t.val, by omega⟩ : Fin 8192) C) (fun a => match a with
    | 0 => (Nat.zero_add _).symm
    | 1 => rfl
    | 2 => (Nat.zero_add _).symm)).trans ?_
  refine (shapeCast_apply (G : FVec Ideal S16384x512 .f32) _ _ (ix2 (⟨8192 * b.val + 128 + t.val, by omega⟩ : Fin 16384) C) ?_).trans ?_
  · rw [Shape.rowMajor_val_two, Shape.rowMajor_val_three]
    show (8192 * b.val + 128 + t.val) * 512 + C.val = (b.val * 8192 + (128 + t.val)) * 512 + C.val
    omega
  · rw [← hG]
    unfold full
    refine congr (congrArg (point m c) (Fin.ext ?_)) (congrArg₂ ix2 (Fin.ext ?_) rfl)
    · show (8192 * b.val + 128 + t.val) / 128 = 64 * b.val + n.val; omega
    · show (8192 * b.val + 128 + t.val) % 128 = r.val; omega

theorem result_eq (c : Dev nD) (hpre : Cert.Pre_swa_finite.fn (F := Ideal) (aP m c) (aS m c) (aT m c) = fun _ => 1#1) :
    Pipeline.afterTail₀ cfgs (dats m) 0 (V0 m) [hostOps1] c main_v40
    = Cert.Reference6Ideal.Read.val_main_v106 (F := Ideal) (aP m c) (aS m c) (aT m c) := by
  refine (tail_eq m c).trans (funext fun y => ?_)
  have hy : y = ix3 (⟨(y 0).val, (y 0).isLt⟩ : Fin 2) (⟨(y 1).val, (y 1).isLt⟩ : Fin 8064) (⟨(y 2).val, (y 2).isLt⟩ : Fin 512) :=
    funext fun a => match a with | 0 => rfl | 1 => rfl | 2 => rfl
  rw [hy]
  exact entry_at m c _ _ _ hpre

/-- The call with the lines around it ends with the reference's result, its arguments as they were. -/
theorem run_end (hpre : ∀ c : Dev nD, Cert.Pre_swa_finite.fn (F := Ideal) (aP m c) (aS m c) (aT m c) = fun _ => 1#1) :
    θ_run defs (onTc (τ := τ) (main (F := Ideal))) ⟨m, fun _ => 0, ρ⟩ fun r => ∀ c : Dev nD,
      r.2.mem ((c.tc : Thread nD τ).loc main_v40) = Cert.Reference6Ideal.Read.val_main_v106 (F := Ideal) (aP m c) (aS m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v40 (Pipeline.mem_restRefs_of main_v40 (by decide) (by decide))).trans (result_eq m c (hpre c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩) (run_main m ρ)

end Cert.Kernel6Ideal.Sw

end
-- ==== Proof.SbMath.lean ====
/- Sums over a block of key positions in four pieces, and the logarithm of the sigmoid on real scores. -/
module

public import Idealize.ShloMosaic.Lib.Pointwise

@[expose] public section

noncomputable section

namespace Cert.Sb

open Idealize.ShloMosaic

/-- The sum of the entries of a block that lie after position `c`. -/
def after {n : ℕ} (L : Fin n → EReal) (c : Fin n) : EReal := ∑ j : Fin n, if c < j then L j else 0

theorem sum_block {M : Type*} [AddCommMonoid M] (f : Fin 512 → M) :
    ∑ j, f j = ∑ x : Fin 128, f ⟨↑x, by omega⟩ + (∑ x : Fin 128, f ⟨128 + ↑x, by omega⟩
      + (∑ x : Fin 128, f ⟨256 + ↑x, by omega⟩ + ∑ x : Fin 128, f ⟨384 + ↑x, by omega⟩)) := by
  rw [Fin.sum_univ_two_halves 128 384 rfl f, Fin.sum_univ_two_halves 128 256 rfl _, Fin.sum_univ_two_halves 128 128 rfl _]
  refine congrArg₂ (· + ·) rfl (congrArg₂ (· + ·) rfl (congrArg₂ (· + ·) ?_ ?_)) <;>
  · refine Finset.sum_congr rfl fun x _ => congrArg f (Fin.ext ?_)
    simp only []
    omega

theorem tri_sum (L : Fin 512 → EReal) (o : ℕ) (ho : o + 128 ≤ 512) (c : Fin 128) :
    (∑ x : Fin 128, L ⟨o + ↑x, by omega⟩ * (if c < x then (1 : EReal) else 0))
      = ∑ x : Fin 128, if (⟨o + ↑c, by omega⟩ : Fin 512) < ⟨o + ↑x, by omega⟩ then L ⟨o + ↑x, by omega⟩ else 0 := by
  refine Finset.sum_congr rfl fun x _ => ?_
  by_cases h : c < x
  · rw [if_pos h, if_pos (by rw [Fin.lt_def] at h ⊢; simp only []; omega), mul_one]
  · rw [if_neg h, if_neg (by rw [Fin.lt_def] at h ⊢; simp only []; omega), mul_zero]

theorem piece_all (L : Fin 512 → EReal) (o p : ℕ) (ho : o + 128 ≤ 512) (hp : p + 128 ≤ 512) (c : Fin 128) (h : o + 128 ≤ p) :
    (∑ x : Fin 128, if (⟨o + ↑c, by omega⟩ : Fin 512) < ⟨p + ↑x, by omega⟩ then L ⟨p + ↑x, by omega⟩ else 0)
      = ∑ x : Fin 128, L ⟨p + ↑x, by omega⟩ :=
  Finset.sum_congr rfl fun x _ => if_pos (by rw [Fin.lt_def]; simp only []; omega)

theorem piece_none (L : Fin 512 → EReal) (o p : ℕ) (ho : o + 128 ≤ 512) (hp : p + 128 ≤ 512) (c : Fin 128) (h : p + 128 ≤ o) :
    (∑ x : Fin 128, if (⟨o + ↑c, by omega⟩ : Fin 512) < ⟨p + ↑x, by omega⟩ then L ⟨p + ↑x, by omega⟩ else 0) = 0 :=
  Finset.sum_eq_zero fun x _ => if_neg (by rw [Fin.lt_def]; simp only []; omega)

theorem zero_idx (L : Fin 512 → EReal) (x : Fin 128) : L ⟨↑x, by omega⟩ = L ⟨0 + ↑x, by omega⟩ :=
  congrArg L (Fin.ext (Nat.zero_add _).symm)

theorem after_block (L : Fin 512 → EReal) (c : Fin 512) :
    after L c = (∑ x : Fin 128, if c < ⟨0 + ↑x, by omega⟩ then L ⟨0 + ↑x, by omega⟩ else 0)
      + ((∑ x : Fin 128, if c < ⟨128 + ↑x, by omega⟩ then L ⟨128 + ↑x, by omega⟩ else 0)
      + ((∑ x : Fin 128, if c < ⟨256 + ↑x, by omega⟩ then L ⟨256 + ↑x, by omega⟩ else 0)
      + (∑ x : Fin 128, if c < ⟨384 + ↑x, by omega⟩ then L ⟨384 + ↑x, by omega⟩ else 0))) := by
  unfold after
  rw [sum_block]
  simp only [Nat.zero_add]

/-- The entries after position `c` of the last piece, from a product with a triangle of ones. -/
theorem after3 (L : Fin 512 → EReal) (run : EReal) (c : Fin 128) :
    (∑ x : Fin 128, L ⟨384 + ↑x, by omega⟩ * (if c < x then (1 : EReal) else 0)) + run
      = after L ⟨384 + ↑c, by omega⟩ + run := by
  rw [tri_sum L 384 (by omega) c, after_block, piece_none L 384 0 (by omega) (by omega) c (by omega),
    piece_none L 384 128 (by omega) (by omega) c (by omega), piece_none L 384 256 (by omega) (by omega) c (by omega)]
  simp only [zero_add]

/-- The same in the third piece, the last piece's sum carried. -/
theorem after2 (L : Fin 512 → EReal) (run : EReal) (c : Fin 128) :
    (∑ x : Fin 128, L ⟨256 + ↑x, by omega⟩ * (if c < x then (1 : EReal) else 0)) + (run + ∑ x : Fin 128, L ⟨384 + ↑x, by omega⟩)
      = after L ⟨256 + ↑c, by omega⟩ + run := by
  rw [tri_sum L 256 (by omega) c, after_block, piece_none L 256 0 (by omega) (by omega) c (by omega),
    piece_none L 256 128 (by omega) (by omega) c (by omega), piece_all L 256 384 (by omega) (by omega) c (by omega)]
  simp only [zero_add]
  ac_rfl

/-- The same in the second piece. -/
theorem after1 (L : Fin 512 → EReal) (run : EReal) (c : Fin 128) :
    (∑ x : Fin 128, L ⟨128 + ↑x, by omega⟩ * (if c < x then (1 : EReal) else 0))
        + (run + (∑ x : Fin 128, L ⟨384 + ↑x, by omega⟩) + ∑ x : Fin 128, L ⟨256 + ↑x, by omega⟩)
      = after L ⟨128 + ↑c, by omega⟩ + run := by
  rw [tri_sum L 128 (by omega) c, after_block, piece_none L 128 0 (by omega) (by omega) c (by omega),
    piece_all L 128 256 (by omega) (by omega) c (by omega), piece_all L 128 384 (by omega) (by omega) c (by omega)]
  simp only [zero_add]
  ac_rfl

/-- The same in the first piece. -/
theorem after0 (L : Fin 512 → EReal) (run : EReal) (c : Fin 128) :
    (∑ x : Fin 128, L ⟨↑x, by omega⟩ * (if c < x then (1 : EReal) else 0))
        + (run + (∑ x : Fin 128, L ⟨384 + ↑x, by omega⟩) + (∑ x : Fin 128, L ⟨256 + ↑x, by omega⟩)
          + ∑ x : Fin 128, L ⟨128 + ↑x, by omega⟩)
      = after L ⟨↑c, by omega⟩ + run := by
  have e : (⟨↑c, by omega⟩ : Fin 512) = ⟨0 + ↑c, by omega⟩ := Fin.ext (Nat.zero_add _).symm
  have e' : (∑ x : Fin 128, L ⟨↑x, by omega⟩ * (if c < x then (1 : EReal) else 0))
      = ∑ x : Fin 128, L ⟨0 + ↑x, by omega⟩ * (if c < x then (1 : EReal) else 0) := by simp only [Nat.zero_add]
  rw [e, e', tri_sum L 0 (by omega) c, after_block, piece_all L 0 128 (by omega) (by omega) c (by omega),
    piece_all L 0 256 (by omega) (by omega) c (by omega), piece_all L 0 384 (by omega) (by omega) c (by omega)]
  ac_rfl

/-- The running sum after a block: the four pieces' sums, last piece first. -/
theorem run_block (L : Fin 512 → EReal) (run : EReal) :
    run + (∑ x : Fin 128, L ⟨384 + ↑x, by omega⟩) + (∑ x : Fin 128, L ⟨256 + ↑x, by omega⟩)
        + (∑ x : Fin 128, L ⟨128 + ↑x, by omega⟩) + (∑ x : Fin 128, L ⟨↑x, by omega⟩)
      = run + ∑ j, L j := by
  rw [sum_block]
  ac_rfl

/-- A position of a block of 512 is in one of four pieces of 128. -/
theorem cases512 (x : Fin 512) : (∃ c : Fin 128, x = ⟨↑c, by omega⟩) ∨ (∃ c : Fin 128, x = ⟨128 + ↑c, by omega⟩)
    ∨ (∃ c : Fin 128, x = ⟨256 + ↑c, by omega⟩) ∨ (∃ c : Fin 128, x = ⟨384 + ↑c, by omega⟩) := by
  have := x.isLt
  by_cases h1 : x.val < 128
  · exact .inl ⟨⟨x.val, h1⟩, rfl⟩
  by_cases h2 : x.val < 256
  · exact .inr (.inl ⟨⟨x.val - 128, by omega⟩, Fin.ext (show x.val = 128 + (x.val - 128) by omega)⟩)
  by_cases h3 : x.val < 384
  · exact .inr (.inr (.inl ⟨⟨x.val - 256, by omega⟩, Fin.ext (show x.val = 256 + (x.val - 256) by omega)⟩))
  · exact .inr (.inr (.inr ⟨⟨x.val - 384, by omega⟩, Fin.ext (show x.val = 384 + (x.val - 384) by omega)⟩))

end Cert.Sb
-- ==== Proof.SbPay.lean ====
/- The kernel's vector expressions read at an index. -/
module

public import proofs.«01_k».proof.Proof.Gen.KernelIdeal.Skeleton
public import proofs.«01_k».proof.Proof.SbMath
public import Idealize.ShloMosaic.Lib.Pointwise
public import Idealize.ShloMosaic.Lib.StableHlo.Predicate

@[expose] public section

set_option maxRecDepth 16384
noncomputable section

namespace Cert.KernelIdeal.Sb

open Idealize.ShloMosaic Idealize.ShloMosaic.TcCoe Idealize.SL.Sem
open Cert.KernelIdeal Cert.KernelIdeal.Gen Cert.Sb

/-- The score of query row `r` against key row `c`. -/
theorem z_at (q k : FVec Ideal S512x128 .bf16) (r c : Fin 512) :
    k0_pay2 (F := Ideal) q k (ix2 r c) = ∑ l : Fin 128, q (ix2 r l) * k (ix2 c l) := by
  pointwise [k0_pay2]

/-- The log of the sigmoid of a score, as the kernel forms it. -/
def lbF (z : EReal) : EReal := min z 0 - Ideal.log (1 + Ideal.exp (0 - max z (-z)))
/-- The log of the sigmoid of a negated score, as the kernel forms it. -/
def l1F (z : EReal) : EReal := min z 0 - z - Ideal.log (1 + Ideal.exp (0 - max z (-z)))

theorem lb_at (q k : FVec Ideal S512x128 .bf16) (r c : Fin 512) :
    k0_pay5 (F := Ideal) q k (ix2 r c) = lbF (k0_pay2 (F := Ideal) q k (ix2 r c)) := by
  pointwise [k0_pay5, k0_pay4, k0_pay3]
  rfl
theorem l1_at (q k : FVec Ideal S512x128 .bf16) (r c : Fin 512) :
    k0_pay6 (F := Ideal) q k (ix2 r c) = l1F (k0_pay2 (F := Ideal) q k (ix2 r c)) := by
  pointwise [k0_pay6, k0_pay4, k0_pay3]
  rfl

theorem sel_sgt (a b : ℕ) (ha : a < 2 ^ 31) (hb : b < 2 ^ 31) (x y : EReal) :
    Scalar.select (IntOp.cmpi .sgt (BitVec.ofNat 32 a) (BitVec.ofNat 32 b)) x y = if b < a then x else y := by
  unfold Scalar.select
  refine if_congr ?_ rfl rfl
  rw [show IntOp.cmpi .sgt (BitVec.ofNat 32 a) (BitVec.ofNat 32 b) = BitVec.ofBool ((BitVec.ofNat 32 b).slt (BitVec.ofNat 32 a)) from rfl]
  exact StableHlo.Predicate.slt_ofNat_iff _ _ hb ha

/-- The triangle of ones: below the diagonal 1, elsewhere 0. -/
theorem tri_at (r c : Fin 128) : k0_pay52 (F := Ideal) (ix2 r c) = if c < r then (1 : EReal) else 0 := by
  pointwise [k0_pay52]
  exact sel_sgt _ _ (by omega) (by omega) _ _

/-- One block of 512 keys for one head: the running sum afterwards. -/
theorem trip0_run (q k : FVec Ideal S512x128 .bf16) (run : FVec Ideal S512x1 .f32) (r : Fin 512) :
    k0_pay17 (F := Ideal) (k0_pay6 q k) (k0_pay9 q run k) (k0_pay12 q k) (ix2 r 0)
      = run (ix2 r 0) + ∑ j : Fin 512, k0_pay6 (F := Ideal) q k (ix2 r j) := by
  pointwise [k0_pay17, k0_pay15, k0_pay16, k0_pay14, k0_pay13, k0_pay12, k0_pay10, k0_pay9, k0_pay7]
  exact run_block (fun j => k0_pay6 (F := Ideal) q k (ix2 r j)) _

theorem trip1_run (q k : FVec Ideal S512x128 .bf16) (run : FVec Ideal S512x1 .f32) (r : Fin 512) :
    k0_pay112 (F := Ideal) run (k0_pay23 q k) (k0_pay24 q k) (ix2 r 0)
      = run (ix2 r 0) + ∑ j : Fin 512, k0_pay6 (F := Ideal) q k (ix2 r j) := by
  pointwise [k0_pay112, k0_pay111, k0_pay110, k0_pay109, k0_pay108, k0_pay107, k0_pay106, k0_pay24]
  exact run_block (fun j => k0_pay23 (F := Ideal) q k (ix2 r j)) _

theorem sub1 (c : ℕ) : 128 + c - 128 = c := by omega
theorem sub2 (c : ℕ) : 256 + c - 128 - 128 = c := by omega
theorem sub3 (c : ℕ) : 384 + c - 128 - 128 - 128 = c := by omega

/-- One block of 512 keys for one head: the accumulated output afterwards. -/
theorem trip0_acc (q k v : FVec Ideal S512x128 .bf16) (run : FVec Ideal S512x1 .f32) (acc : FVec Ideal S512x128 .f32) (r : Fin 512) (l : Fin 128) :
    k0_pay18 (F := Ideal) k0_pay52 acc v (k0_pay5 q k) (k0_pay6 q k) (k0_pay8 k0_pay52 q run k) (k0_pay9 q run k) (k0_pay11 k0_pay52 q run k) (k0_pay12 q k) (ix2 r l)
      = acc (ix2 r l) + ∑ c : Fin 512, Ideal.exp (k0_pay5 (F := Ideal) q k (ix2 r c)
          + (after (fun j => k0_pay6 (F := Ideal) q k (ix2 r j)) c + run (ix2 r 0))) * v (ix2 c l) := by
  pointwise [k0_pay18, k0_pay15, k0_pay16, k0_pay14, k0_pay13, k0_pay12, k0_pay11, k0_pay10, k0_pay9, k0_pay8, k0_pay7, tri_at]
  refine congrArg (acc (ix2 r l) + ·) (Finset.sum_congr rfl fun x _ => ?_)
  refine Ideal.mul_congr ?_ rfl
  obtain ⟨c, rfl⟩ | ⟨c, rfl⟩ | ⟨c, rfl⟩ | ⟨c, rfl⟩ := cases512 x
  · rw [dif_pos c.isLt]
    refine congrArg Ideal.exp (congrArg₂ (· + ·) rfl ?_)
    exact after0 (fun j => k0_pay6 (F := Ideal) q k (ix2 r j)) _ c
  · rw [dif_neg (by simp only []; omega), dif_pos (by simp only []; omega)]
    simp only [sub1, Fin.eta]
    refine congrArg Ideal.exp (congrArg₂ (· + ·) rfl ?_)
    exact after1 (fun j => k0_pay6 (F := Ideal) q k (ix2 r j)) _ c
  · rw [dif_neg (by simp only []; omega), dif_neg (by simp only []; omega), dif_pos (by simp only []; omega)]
    simp only [sub2, Fin.eta]
    refine congrArg Ideal.exp (congrArg₂ (· + ·) rfl ?_)
    exact after2 (fun j => k0_pay6 (F := Ideal) q k (ix2 r j)) _ c
  · rw [dif_neg (by simp only []; omega), dif_neg (by simp only []; omega), dif_neg (by simp only []; omega)]
    simp only [sub3, Fin.eta]
    refine congrArg Ideal.exp (congrArg₂ (· + ·) rfl ?_)
    exact after3 (fun j => k0_pay6 (F := Ideal) q k (ix2 r j)) _ c

theorem trip1_acc (q k v : FVec Ideal S512x128 .bf16) (run : FVec Ideal S512x1 .f32) (acc : FVec Ideal S512x128 .f32) (r : Fin 512) (l : Fin 128) :
    k0_pay113 (F := Ideal) k0_pay52 run acc v (k0_pay22 q k) (k0_pay23 q k) (k0_pay24 q k) (k0_pay25 k0_pay52 q run k) (k0_pay26 q k) (ix2 r l)
      = acc (ix2 r l) + ∑ c : Fin 512, Ideal.exp (k0_pay5 (F := Ideal) q k (ix2 r c)
          + (after (fun j => k0_pay6 (F := Ideal) q k (ix2 r j)) c + run (ix2 r 0))) * v (ix2 c l) := by
  pointwise [k0_pay113, k0_pay111, k0_pay110, k0_pay109, k0_pay108, k0_pay107, k0_pay106, k0_pay24, k0_pay25, k0_pay26, tri_at]
  refine congrArg (acc (ix2 r l) + ·) (Finset.sum_congr rfl fun x _ => ?_)
  refine Ideal.mul_congr ?_ rfl
  obtain ⟨c, rfl⟩ | ⟨c, rfl⟩ | ⟨c, rfl⟩ | ⟨c, rfl⟩ := cases512 x
  · rw [dif_pos c.isLt]
    refine congrArg Ideal.exp (congrArg₂ (· + ·) rfl ?_)
    exact after0 (fun j => k0_pay23 (F := Ideal) q k (ix2 r j)) _ c
  · rw [dif_neg (by simp only []; omega), dif_pos (by simp only []; omega)]
    simp only [sub1, Fin.eta]
    refine congrArg Ideal.exp (congrArg₂ (· + ·) rfl ?_)
    exact after1 (fun j => k0_pay23 (F := Ideal) q k (ix2 r j)) _ c
  · rw [dif_neg (by simp only []; omega), dif_neg (by simp only []; omega), dif_pos (by simp only []; omega)]
    simp only [sub2, Fin.eta]
    refine congrArg Ideal.exp (congrArg₂ (· + ·) rfl ?_)
    exact after2 (fun j => k0_pay23 (F := Ideal) q k (ix2 r j)) _ c
  · rw [dif_neg (by simp only []; omega), dif_neg (by simp only []; omega), dif_neg (by simp only []; omega)]
    simp only [sub3, Fin.eta]
    refine congrArg Ideal.exp (congrArg₂ (· + ·) rfl ?_)
    exact after3 (fun j => k0_pay23 (F := Ideal) q k (ix2 r j)) _ c

end Cert.KernelIdeal.Sb
-- ==== Proof.SbTop.lean ====
/- The block of keys that holds the diagonal, read at an index. -/
module

public import proofs.«01_k».proof.Proof.SbPay
@[expose] public section

set_option maxRecDepth 16384
noncomputable section

namespace Cert.KernelIdeal.Sb

open Idealize.ShloMosaic Idealize.ShloMosaic.TcCoe Idealize.SL.Sem
open Cert.KernelIdeal Cert.KernelIdeal.Gen Cert.Sb

theorem mask_iff (w : BitVec 32) (n r : ℕ) (hn : n < 512) (hr : r < 512) :
    IntOp.cmpi .slt (IntOp.addi (IntOp.subi (BitVec.ofNat 32 n) (BitVec.ofNat 32 r)) (Scalar.subi w w)) 0#32 = 1#1 ↔ n < r := by
  rw [show IntOp.addi (IntOp.subi (BitVec.ofNat 32 n) (BitVec.ofNat 32 r)) (Scalar.subi w w) = BitVec.ofNat 32 n - BitVec.ofNat 32 r from by
    show BitVec.ofNat 32 n - BitVec.ofNat 32 r + (w - w) = _
    rw [BitVec.sub_self, BitVec.add_zero]]
  rw [show IntOp.cmpi .slt (BitVec.ofNat 32 n - BitVec.ofNat 32 r) 0#32 = BitVec.ofBool ((BitVec.ofNat 32 n - BitVec.ofNat 32 r).slt 0#32) from rfl,
    StableHlo.Predicate.ofBool_eq_one_iff, BitVec.slt_iff_toInt_lt, BitVec.toInt_sub]
  have h1 := StableHlo.Predicate.toInt_ofNat_small n (by omega)
  have h2 := StableHlo.Predicate.toInt_ofNat_small r (by omega)
  rw [h1, h2, BitVec.toInt_zero, Int.bmod_eq_of_le (by omega) (by omega)]
  omega

/-- A choice by the mask: strictly before the row. -/
theorem sel_mask (w : BitVec 32) (n : ℕ) (r : Fin 512) (hn : n < 512) (x y : EReal) :
    Scalar.select (IntOp.cmpi .slt (IntOp.addi (IntOp.subi (BitVec.ofNat 32 n) (BitVec.ofNat 32 ↑r)) (Scalar.subi w w)) 0#32) x y
      = if n < ↑r then x else y := by
  unfold Scalar.select
  exact if_congr (mask_iff w n r hn r.isLt) rfl rfl

theorem sel_mask_mul (w : BitVec 32) (n : ℕ) (r : Fin 512) (hn : n < 512) (x : EReal) (p : Prop) [Decidable p] :
    Scalar.select (IntOp.cmpi .slt (IntOp.addi (IntOp.subi (BitVec.ofNat 32 n) (BitVec.ofNat 32 ↑r)) (Scalar.subi w w)) 0#32)
        (x * if p then (1 : EReal) else 0) 0
      = (if n < ↑r then x else 0) * if p then (1 : EReal) else 0 := by
  rw [sel_mask w n r hn, ite_mul, zero_mul]

theorem lt3 (x : Fin 128) : 384 + (x : ℕ) < 512 := by omega
theorem lt2 (x : Fin 128) : 256 + (x : ℕ) < 512 := by omega
theorem lt1 (x : Fin 128) : 128 + (x : ℕ) < 512 := by omega
theorem lt0 (x : Fin 128) : (↑x : ℕ) < 512 := by omega

/-- A block's entries, those not strictly before the row replaced by zero. -/
abbrev masked (L : Fin 512 → EReal) (r : Fin 512) (j : Fin 512) : EReal := if (j : ℕ) < ↑r then L j else 0

/-- The word of the diagonal block's first key, as the second spelling has it. -/
abbrev topW (w a b c d : BitVec 32) : BitVec 32 :=
  Scalar.muli (Scalar.select (Scalar.andi (Scalar.cmpi .ne c (Scalar.subi d (Scalar.extui (Scalar.cmpi .slt a 0#32))))
    (Scalar.cmpi .ne (Scalar.remsi w a) 0#32)) (Scalar.subi b 1#32) b) 512#32

theorem top0_run (q k : FVec Ideal S512x128 .bf16) (w a b c d : BitVec 32) (hw : topW w a b c d = w) (r : Fin 512) :
    k0_pay81 (F := Ideal) w k0_pay56 w (k0_pay63 q k) (k0_pay73 w k0_pay56 k0_pay57 w (k0_pay63 q k) (k0_pay65 q w k0_pay56 a b c d k)) (k0_pay77 w k0_pay56 w (k0_pay63 q k)) (ix2 r 0)
      = ∑ j : Fin 512, masked (fun j => k0_pay6 (F := Ideal) q k (ix2 r j)) r j := by
  unfold topW at hw
  pointwise [k0_pay81, k0_pay80, k0_pay79, k0_pay78, k0_pay77, k0_pay75, k0_pay74, k0_pay73, k0_pay71, k0_pay70, k0_pay69, k0_pay65, k0_pay64, k0_pay57, k0_pay56]
  simp only [hw, sel_mask w _ r (lt3 _), sel_mask w _ r (lt2 _), sel_mask w _ r (lt1 _), sel_mask w _ r (lt0 _)]
  have := run_block (masked (fun j => k0_pay63 (F := Ideal) q k (ix2 r j)) r) 0
  simp only [zero_add] at this
  exact this

set_option maxHeartbeats 1600000 in
theorem top0_acc (q k v : FVec Ideal S512x128 .bf16) (w a b c d : BitVec 32) (hw : topW w a b c d = w) (r : Fin 512) (l : Fin 128) :
    k0_pay82 (F := Ideal) k0_pay52 w k0_pay56 k0_pay58 w v (k0_pay62 q k) (k0_pay63 q k)
     (k0_pay68 (k0_pay64 w k0_pay56 a b c d) (k0_pay66 k0_pay52 q w k0_pay56 k0_pay57 a b c d k) k0_pay67)
     (k0_pay72 k0_pay52 w k0_pay56 k0_pay57 w (k0_pay62 q k) (k0_pay63 q k) (k0_pay65 q w k0_pay56 a b c d k))
     (k0_pay73 w k0_pay56 k0_pay57 w (k0_pay63 q k) (k0_pay65 q w k0_pay56 a b c d k))
     (k0_pay76 k0_pay52 w k0_pay56 k0_pay57 w (k0_pay62 q k) (k0_pay63 q k) (k0_pay65 q w k0_pay56 a b c d k))
     (k0_pay77 w k0_pay56 w (k0_pay63 q k)) (ix2 r l)
      = ∑ c : Fin 512, (if (c : ℕ) < ↑r then Ideal.exp (k0_pay5 (F := Ideal) q k (ix2 r c)
          + (after (masked (fun j => k0_pay6 (F := Ideal) q k (ix2 r j)) r) c + 0)) else 0) * v (ix2 c l) := by
  unfold topW at hw
  pointwise [k0_pay82, k0_pay81, k0_pay80, k0_pay79, k0_pay78, k0_pay77, k0_pay76, k0_pay72, k0_pay68, k0_pay66, k0_pay67, k0_pay75, k0_pay74, k0_pay73, k0_pay71, k0_pay70, k0_pay69, k0_pay65, k0_pay64, k0_pay57, k0_pay56, k0_pay58, tri_at]
  simp only [hw]
  refine Finset.sum_congr rfl fun x _ => ?_
  refine Ideal.mul_congr ?_ rfl
  obtain ⟨c, rfl⟩ | ⟨c, rfl⟩ | ⟨c, rfl⟩ | ⟨c, rfl⟩ := cases512 x
  · rw [dif_pos c.isLt]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after0 (masked (fun j => k0_pay63 (F := Ideal) q k (ix2 r j)) r) 0 c
    simp only [zero_add, add_zero] at this ⊢
    exact this
  · rw [dif_neg (by simp only []; omega), dif_pos (by simp only []; omega)]
    simp only [sub1, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after1 (masked (fun j => k0_pay63 (F := Ideal) q k (ix2 r j)) r) 0 c
    simp only [zero_add, add_zero] at this ⊢
    exact this
  · rw [dif_neg (by simp only []; omega), dif_neg (by simp only []; omega), dif_pos (by simp only []; omega)]
    simp only [sub2, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after2 (masked (fun j => k0_pay63 (F := Ideal) q k (ix2 r j)) r) 0 c
    simp only [zero_add, add_zero] at this ⊢
    exact this
  · rw [dif_neg (by simp only []; omega), dif_neg (by simp only []; omega), dif_neg (by simp only []; omega)]
    simp only [sub3, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after3 (masked (fun j => k0_pay63 (F := Ideal) q k (ix2 r j)) r) 0 c
    simp only [add_zero] at this ⊢
    exact this

theorem top1_run (q k : FVec Ideal S512x128 .bf16) (w : BitVec 32) (r : Fin 512) :
    k0_pay104 (F := Ideal) w k0_pay56 w (k0_pay87 q k) (k0_pay98 w k0_pay56 k0_pay57 w (k0_pay87 q k) (k0_pay88 q k) (k0_pay89 w k0_pay56 w) k0_pay90) (k0_pay100 w k0_pay56 w (k0_pay87 q k)) (ix2 r 0)
      = ∑ j : Fin 512, masked (fun j => k0_pay6 (F := Ideal) q k (ix2 r j)) r j := by
  pointwise [k0_pay104, k0_pay103, k0_pay102, k0_pay101, k0_pay100, k0_pay99, k0_pay98, k0_pay96, k0_pay95, k0_pay94, k0_pay92, k0_pay91, k0_pay90, k0_pay89, k0_pay88, k0_pay57, k0_pay56]
  simp only [sel_mask w _ r (lt3 _), sel_mask w _ r (lt2 _), sel_mask w _ r (lt1 _), sel_mask w _ r (lt0 _)]
  have := run_block (masked (fun j => k0_pay87 (F := Ideal) q k (ix2 r j)) r) 0
  simp only [zero_add] at this
  exact this

set_option maxHeartbeats 1600000 in
theorem top1_acc (q k v : FVec Ideal S512x128 .bf16) (w : BitVec 32) (r : Fin 512) (l : Fin 128) :
    k0_pay105 (F := Ideal) k0_pay52 w k0_pay56 k0_pay58 w v (k0_pay86 q k) (k0_pay87 q k)
     (k0_pay93 k0_pay52 k0_pay57 (k0_pay86 q k) (k0_pay88 q k) (k0_pay89 w k0_pay56 w) k0_pay90)
     (k0_pay97 k0_pay52 w k0_pay56 k0_pay57 w (k0_pay86 q k) (k0_pay87 q k) (k0_pay88 q k) (k0_pay89 w k0_pay56 w) k0_pay90)
     (k0_pay98 w k0_pay56 k0_pay57 w (k0_pay87 q k) (k0_pay88 q k) (k0_pay89 w k0_pay56 w) k0_pay90)
     (k0_pay99 w k0_pay56 w) (k0_pay100 w k0_pay56 w (k0_pay87 q k)) (ix2 r l)
      = ∑ c : Fin 512, (if (c : ℕ) < ↑r then Ideal.exp (k0_pay5 (F := Ideal) q k (ix2 r c)
          + (after (masked (fun j => k0_pay6 (F := Ideal) q k (ix2 r j)) r) c + 0)) else 0) * v (ix2 c l) := by
  pointwise [k0_pay105, k0_pay104, k0_pay103, k0_pay102, k0_pay101, k0_pay100, k0_pay99, k0_pay98, k0_pay97, k0_pay96, k0_pay95, k0_pay94, k0_pay93, k0_pay92, k0_pay91, k0_pay90, k0_pay89, k0_pay88, k0_pay57, k0_pay58, k0_pay56, tri_at]
  refine Finset.sum_congr rfl fun x _ => ?_
  refine Ideal.mul_congr ?_ rfl
  obtain ⟨c, rfl⟩ | ⟨c, rfl⟩ | ⟨c, rfl⟩ | ⟨c, rfl⟩ := cases512 x
  · rw [dif_pos c.isLt]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after0 (masked (fun j => k0_pay87 (F := Ideal) q k (ix2 r j)) r) 0 c
    simp only [zero_add, add_zero] at this ⊢
    exact this
  · rw [dif_neg (by simp only []; omega), dif_pos (by simp only []; omega)]
    simp only [sub1, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after1 (masked (fun j => k0_pay87 (F := Ideal) q k (ix2 r j)) r) 0 c
    simp only [zero_add, add_zero] at this ⊢
    exact this
  · rw [dif_neg (by simp only []; omega), dif_neg (by simp only []; omega), dif_pos (by simp only []; omega)]
    simp only [sub2, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after2 (masked (fun j => k0_pay87 (F := Ideal) q k (ix2 r j)) r) 0 c
    simp only [zero_add, add_zero] at this ⊢
    exact this
  · rw [dif_neg (by simp only []; omega), dif_neg (by simp only []; omega), dif_neg (by simp only []; omega)]
    simp only [sub3, Fin.eta]
    simp only [sel_mask_mul w _ r (lt3 _), sel_mask_mul w _ r (lt2 _), sel_mask_mul w _ r (lt1 _), sel_mask_mul w _ r (lt0 _)]
    simp only [sel_mask w _ r (lt3 _), sel_mask w _ r (lt2 _), sel_mask w _ r (lt1 _), sel_mask w _ r (lt0 _)]
    refine if_congr Iff.rfl (congrArg Ideal.exp (congrArg₂ (· + ·) rfl ?_)) rfl
    have := after3 (masked (fun j => k0_pay87 (F := Ideal) q k (ix2 r j)) r) 0 c
    simp only [add_zero] at this ⊢
    exact this

end Cert.KernelIdeal.Sb
-- ==== Proof.SbLoop.lean ====
module

public import proofs.«01_k».proof.Proof.Gen.KernelIdeal.Frame
public import proofs.«01_k».proof.Proof.SbTop
public import Idealize.ShloMosaic.Lib.Pipeline.ValueKit.Tiles
public import Idealize.ShloMosaic.Lib.FinSumWindow

@[expose] public section

set_option maxRecDepth 16384

namespace Cert.Sb

/-- The sum over the positions from `o` on. -/
noncomputable def fromTo (f : Fin 8192 → EReal) (o : ℕ) : EReal := ∑ t : Fin 8192, if o ≤ (t : ℕ) then f t else 0

theorem fromTo_zero (f : Fin 8192 → EReal) : fromTo f 0 = ∑ t, f t :=
  Finset.sum_congr rfl fun t _ => if_pos (Nat.zero_le _)

theorem fromTo_none (f : Fin 8192 → EReal) (o : ℕ) (h : ∀ t : Fin 8192, o ≤ (t : ℕ) → f t = 0) : fromTo f o = 0 :=
  Finset.sum_eq_zero fun t _ => by
    by_cases ht : o ≤ (t : ℕ)
    · rw [if_pos ht, h t ht]
    · rw [if_neg ht]

/-- One block of 512 further down. -/
theorem fromTo_step (f : Fin 8192 → EReal) (o : ℕ) (ho : o + 512 ≤ 8192) :
    fromTo f o = fromTo f (o + 512) + ∑ j : Fin 512, f ⟨o + (j : ℕ), by omega⟩ := by
  have e : ∑ j : Fin 512, f ⟨o + (j : ℕ), by omega⟩ = ∑ t : Fin 8192, if o ≤ (t : ℕ) ∧ (t : ℕ) < o + 512 then f t else 0 := by
    rw [Idealize.ShloMosaic.FinSumWindow.sum_window (W := 512) o ho _ fun P hP => if_neg hP]
    exact Finset.sum_congr rfl fun j _ => (if_pos ⟨Nat.le_add_right _ _, by simp only []; omega⟩).symm
  rw [e]
  unfold fromTo
  rw [← Finset.sum_add_distrib]
  refine Finset.sum_congr rfl fun t _ => ?_
  by_cases h1 : o ≤ (t : ℕ)
  · by_cases h2 : (t : ℕ) < o + 512
    · rw [if_pos h1, if_neg (by omega), if_pos ⟨h1, h2⟩, zero_add]
    · rw [if_pos h1, if_pos (by omega), if_neg (by omega), add_zero]
  · rw [if_neg h1, if_neg (by omega), if_neg (by omega), add_zero]

/-- The sum after a position: the rest of its block, then everything past the block. -/
theorem after_step (f : Fin 8192 → EReal) (o : ℕ) (ho : o + 512 ≤ 8192) (c : Fin 512) :
    after f ⟨o + (c : ℕ), by omega⟩
      = after (fun j : Fin 512 => f ⟨o + (j : ℕ), by omega⟩) c + fromTo f (o + 512) := by
  have h := fromTo_step (fun t => if (⟨o + (c : ℕ), by omega⟩ : Fin 8192) < t then f t else 0) o ho
  have e1 : fromTo (fun t => if (⟨o + (c : ℕ), by omega⟩ : Fin 8192) < t then f t else 0) o
      = after f ⟨o + (c : ℕ), by omega⟩ := Finset.sum_congr rfl fun t _ => by
    by_cases h1 : o ≤ (t : ℕ)
    · rw [if_pos h1]
    · rw [if_neg h1, if_neg (by rw [Fin.lt_def]; simp only []; omega)]
  have e2 : fromTo (fun t => if (⟨o + (c : ℕ), by omega⟩ : Fin 8192) < t then f t else 0) (o + 512) = fromTo f (o + 512) :=
    Finset.sum_congr rfl fun t _ => by
      by_cases h1 : o + 512 ≤ (t : ℕ)
      · rw [if_pos h1, if_pos h1]; exact if_pos (Fin.lt_def.2 (by simp only []; omega))
      · rw [if_neg h1, if_neg h1]
  rw [e1, e2] at h
  refine (h.trans (add_comm _ _)).trans (congrArg (· + _) ?_)
  refine (Finset.sum_congr rfl fun j _ => ?_)
  refine if_congr ?_ rfl rfl
  rw [Fin.lt_def, Fin.lt_def]; simp only []; omega

end Cert.Sb

namespace Cert.KernelIdeal.Sb

open Idealize.ShloMosaic Idealize.ShloMosaic.TcCoe Idealize.SL.Sem
open Cert.KernelIdeal Cert.KernelIdeal.Gen Cert.Sb

/-- Rows `o … o + 511` of a key or value array, as a block. -/
noncomputable def blk (X : FVec Ideal S8192x128 .bf16) (o : ℕ) (h : o + 512 ≤ 8192) : FVec Ideal S512x128 .bf16 :=
  fun y => X (ix2 ⟨o + (y 0 : ℕ), by have := (y 0).isLt; simp only [] at this; change _ < 512 at this; omega⟩ (y 1))

theorem off2_eq : ∀ (i : grid0.Coords) (k : Fin (k0_t1_loop i).trips),
    k0_off2 i k 0 = 512 * ((i 2).val - 1 - k.val) ∧ k0_off2 i k 1 = 0 := by decide +kernel

theorem trips1 : ∀ i : grid0.Coords, (k0_t1_loop i).trips = (i 2).val := by decide +kernel

theorem trip_eq (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .f32) (harg6 : arg6.IsWhole) (v7 : FVec Ideal S128x128 .bf16) (v17 : FVec Ideal S512x128 .bf16) (v24 : FVec Ideal S512x128 .bf16) (v25 : BitVec 32) (v28 : IVec S512x512 32) (v30 : FVec Ideal S512x128 .f32) (v47 : BitVec 32) (v49 : BitVec 32) (v53 : Vec Ideal S512x128 .bf16) (v159 : FVec Ideal S512x1 .f32) (v162 : FVec Ideal S512x128 .f32) (v174 : FVec Ideal S512x512 .bf16) (v176 : FVec Ideal S512x512 .bf16) (v195 : FVec Ideal S512x128 .bf16) (v218 : FVec Ideal S512x128 .bf16) (v222 : FVec Ideal S512x1 .f32) (v229 : IVec S512x128 1) (v231 : FVec Ideal S512x128 .bf16)
    (X Y : FVec Ideal S8192x128 .bf16) (k : Fin (k0_t1_loop i).trips) (acc : FVec Ideal S512x1 .f32 × FVec Ideal S512x128 .f32 × FVec Ideal S512x1 .f32 × FVec Ideal S512x128 .f32) :
    ∃ K V : FVec Ideal S512x128 .bf16,
      (∀ h, K = blk X (512 * ((i 2).val - 1 - k.val)) h) ∧ (∀ h, V = blk Y (512 * ((i 2).val - 1 - k.val)) h) ∧
      tripR_k0_t1 (F := Ideal) Variants.none c none i arg3 harg3 arg4 harg4 arg5 harg5 arg6 harg6 v7 v17 v24 v25 v28 v30 v47 v49 v53 v159 v162 v174 v176 v195 v218 v222 v229 v231 (harg4.unread X) (harg5.unread Y) k acc =
      (k0_pay17 (k0_pay6 v17 K) (k0_pay9 v17 acc.1 K) (k0_pay12 v17 K),
       k0_pay18 v7 acc.2.1 V (k0_pay5 v17 K) (k0_pay6 v17 K) (k0_pay8 v7 v17 acc.1 K) (k0_pay9 v17 acc.1 K) (k0_pay11 v7 v17 acc.1 K) (k0_pay12 v17 K),
       k0_pay112 acc.2.2.1 (k0_pay23 v24 K) (k0_pay24 v24 K),
       k0_pay113 v7 acc.2.2.1 acc.2.2.2 V (k0_pay22 v24 K) (k0_pay23 v24 K) (k0_pay24 v24 K) (k0_pay25 v7 v24 acc.2.2.1 K) (k0_pay26 v24 K)) := by
  unfold tripR_k0_t1 trip_k0_t1
  sl_unfold_words
  refine ⟨_, _, ?_, ?_, rfl⟩
  · intro h; funext y
    simp only [View.readAt_eq_ld, harg4.read_unread, harg5.read_unread]
    refine View.ld_unit_apply_of _ _ _ _ y _ (fun a => ?_)
    have := off2_eq i k
    match a with
    | 0 => exact congrArg (· + ((y 0 : Fin _) : ℕ)) this.1.symm
    | 1 => exact ((congrArg (· + ((y 1 : Fin _) : ℕ)) this.2).trans (Nat.zero_add _)).symm
  · intro h; funext y
    simp only [View.readAt_eq_ld, harg4.read_unread, harg5.read_unread]
    refine View.ld_unit_apply_of _ _ _ _ y _ (fun a => ?_)
    have := off2_eq i k
    match a with
    | 0 => exact congrArg (· + ((y 0 : Fin _) : ℕ)) this.1.symm
    | 1 => exact ((congrArg (· + ((y 1 : Fin _) : ℕ)) this.2).trans (Nat.zero_add _)).symm

/-- The score of row `r` of a query block against a key position. -/
noncomputable def zrow (q : FVec Ideal S512x128 .bf16) (X : FVec Ideal S8192x128 .bf16) (r : Fin 512) (t : Fin 8192) : EReal :=
  ∑ l : Fin 128, q (ix2 r l) * X (ix2 t l)

/-- The log of the chance of not stopping at `t`, zero from the query's own position on. -/
noncomputable def Lr (q : FVec Ideal S512x128 .bf16) (X : FVec Ideal S8192x128 .bf16) (n : ℕ) (r : Fin 512) (t : Fin 8192) : EReal :=
  if (t : ℕ) < 512 * n + (r : ℕ) then l1F (zrow q X r t) else 0

/-- The weight of position `t` times its value lane `l`. -/
noncomputable def Ar (q : FVec Ideal S512x128 .bf16) (X Y : FVec Ideal S8192x128 .bf16) (n : ℕ) (r : Fin 512) (l : Fin 128) (t : Fin 8192) : EReal :=
  (if (t : ℕ) < 512 * n + (r : ℕ) then Ideal.exp (lbF (zrow q X r t) + after (Lr q X n r) t) else 0) * Y (ix2 t l)

/-- What the carried pair of one head holds once the positions from `o` on are done. -/
def Done (q : FVec Ideal S512x128 .bf16) (X Y : FVec Ideal S8192x128 .bf16) (n o : ℕ)
    (run : FVec Ideal S512x1 .f32) (acc : FVec Ideal S512x128 .f32) : Prop :=
  (∀ r, run (ix2 r 0) = fromTo (Lr q X n r) o) ∧ ∀ r l, acc (ix2 r l) = fromTo (Ar q X Y n r l) o

theorem l1_blk (q : FVec Ideal S512x128 .bf16) (X : FVec Ideal S8192x128 .bf16) (o : ℕ) (h : o + 512 ≤ 8192) (r c : Fin 512) :
    k0_pay6 (F := Ideal) q (blk X o h) (ix2 r c) = l1F (zrow q X r ⟨o + (c : ℕ), by omega⟩) := by
  rw [l1_at, z_at]; rfl

theorem lb_blk (q : FVec Ideal S512x128 .bf16) (X : FVec Ideal S8192x128 .bf16) (o : ℕ) (h : o + 512 ≤ 8192) (r c : Fin 512) :
    k0_pay5 (F := Ideal) q (blk X o h) (ix2 r c) = lbF (zrow q X r ⟨o + (c : ℕ), by omega⟩) := by
  rw [lb_at, z_at]; rfl

/-- One block further down, all of it before the query. -/
theorem done_step (q : FVec Ideal S512x128 .bf16) (X Y : FVec Ideal S8192x128 .bf16) (n o : ℕ) (h : o + 512 ≤ 8192) (ho : o + 512 ≤ 512 * n)
    (run run' : FVec Ideal S512x1 .f32) (acc acc' : FVec Ideal S512x128 .f32) (H : Done q X Y n (o + 512) run acc)
    (hr : ∀ r, run' (ix2 r 0) = run (ix2 r 0) + ∑ j : Fin 512, k0_pay6 (F := Ideal) q (blk X o h) (ix2 r j))
    (ha : ∀ r l, acc' (ix2 r l) = acc (ix2 r l) + ∑ c : Fin 512, Ideal.exp (k0_pay5 (F := Ideal) q (blk X o h) (ix2 r c)
      + (after (fun j => k0_pay6 (F := Ideal) q (blk X o h) (ix2 r j)) c + run (ix2 r 0))) * blk Y o h (ix2 c l)) :
    Done q X Y n o run' acc' := by
  have hL : ∀ r (j : Fin 512), k0_pay6 (F := Ideal) q (blk X o h) (ix2 r j) = Lr q X n r ⟨o + (j : ℕ), by omega⟩ := fun r j => by
    rw [l1_blk, Lr, if_pos (by simp only []; omega)]
  refine ⟨fun r => ?_, fun r l => ?_⟩
  · rw [hr, H.1, fromTo_step _ o h]
    exact congrArg _ (Finset.sum_congr rfl fun j _ => hL r j)
  · rw [ha, H.2, fromTo_step _ o h]
    refine congrArg _ (Finset.sum_congr rfl fun c _ => ?_)
    rw [Ar, if_pos (by simp only []; omega), after_step _ o h, H.1, lb_blk]
    simp only [hL]
    rfl

/-- The block that holds the query itself. -/
theorem done_top (q : FVec Ideal S512x128 .bf16) (X Y : FVec Ideal S8192x128 .bf16) (n : ℕ) (h : 512 * n + 512 ≤ 8192)
    (K V : FVec Ideal S512x128 .bf16) (hK : K = blk X (512 * n) h) (hV : V = blk Y (512 * n) h)
    (run' : FVec Ideal S512x1 .f32) (acc' : FVec Ideal S512x128 .f32)
    (hr : ∀ r, run' (ix2 r 0) = ∑ j : Fin 512, masked (fun j => k0_pay6 (F := Ideal) q K (ix2 r j)) r j)
    (ha : ∀ r l, acc' (ix2 r l) = ∑ c : Fin 512, (if (c : ℕ) < ↑r then Ideal.exp (k0_pay5 (F := Ideal) q K (ix2 r c)
      + (after (masked (fun j => k0_pay6 (F := Ideal) q K (ix2 r j)) r) c + 0)) else 0) * V (ix2 c l)) :
    Done q X Y n (512 * n) run' acc' := by
  subst hK hV
  have hL : ∀ r (j : Fin 512), masked (fun j => k0_pay6 (F := Ideal) q (blk X (512 * n) h) (ix2 r j)) r j = Lr q X n r ⟨512 * n + (j : ℕ), by omega⟩ := fun r j => by
    rw [masked, l1_blk, Lr]
    exact if_congr (by simp only []; omega) rfl rfl
  have hL' : ∀ r, masked (fun j => k0_pay6 (F := Ideal) q (blk X (512 * n) h) (ix2 r j)) r = fun j : Fin 512 => Lr q X n r ⟨512 * n + (j : ℕ), by omega⟩ :=
    fun r => funext fun j => hL r j
  have h0 : ∀ r, fromTo (Lr q X n r) (512 * n + 512) = 0 := fun r => fromTo_none _ _ fun t ht => by
    rw [Lr, if_neg (by omega)]
  have h1 : ∀ r l, fromTo (Ar q X Y n r l) (512 * n + 512) = 0 := fun r l => fromTo_none _ _ fun t ht => by
    rw [Ar, if_neg (by omega), zero_mul]
  refine ⟨fun r => ?_, fun r l => ?_⟩
  · rw [hr, fromTo_step _ (512 * n) h, h0, zero_add]
    exact Finset.sum_congr rfl fun j _ => hL r j
  · rw [ha, fromTo_step _ (512 * n) h, h1, zero_add]
    refine Finset.sum_congr rfl fun c _ => ?_
    rw [Ar, after_step _ (512 * n) h, h0, lb_blk, hL' r]
    refine congrArg₂ (· * ·) (if_congr (by simp only []; omega) rfl rfl) rfl

theorem loop_done (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .f32) (harg6 : arg6.IsWhole) (v17 : FVec Ideal S512x128 .bf16) (v24 : FVec Ideal S512x128 .bf16) (v25 : BitVec 32) (v28 : IVec S512x512 32) (v30 : FVec Ideal S512x128 .f32) (v47 : BitVec 32) (v49 : BitVec 32) (v53 : Vec Ideal S512x128 .bf16) (v159 : FVec Ideal S512x1 .f32) (v162 : FVec Ideal S512x128 .f32) (v174 : FVec Ideal S512x512 .bf16) (v176 : FVec Ideal S512x512 .bf16) (v195 : FVec Ideal S512x128 .bf16) (v218 : FVec Ideal S512x128 .bf16) (v222 : FVec Ideal S512x1 .f32) (v229 : IVec S512x128 1) (v231 : FVec Ideal S512x128 .bf16)
    (X Y : FVec Ideal S8192x128 .bf16) (init : FVec Ideal S512x1 .f32 × FVec Ideal S512x128 .f32 × FVec Ideal S512x1 .f32 × FVec Ideal S512x128 .f32)
    (H0 : Done v17 X Y (i 2).val (512 * (i 2).val) init.1 init.2.1) (H1 : Done v24 X Y (i 2).val (512 * (i 2).val) init.2.2.1 init.2.2.2)
    (k : ℕ) (hk : k ≤ (i 2).val) :
    Done v17 X Y (i 2).val (512 * ((i 2).val - k))
      (st_k0_t1 (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init k).1
      (st_k0_t1 (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init k).2.1
    ∧ Done v24 X Y (i 2).val (512 * ((i 2).val - k))
      (st_k0_t1 (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init k).2.2.1
      (st_k0_t1 (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init k).2.2.2 := by
  induction k with
  | zero => exact ⟨H0, H1⟩
  | succ k ih =>
    have ih := ih (by omega)
    have hn : (i 2).val < 16 := (i 2).isLt
    have h : 512 * ((i 2).val - 1 - k) + 512 ≤ 8192 := by omega
    have e : 512 * ((i 2).val - k) = 512 * ((i 2).val - 1 - k) + 512 := by omega
    have e' : 512 * ((i 2).val - (k + 1)) = 512 * ((i 2).val - 1 - k) := by omega
    have hs := st_k0_t1_succ (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init ⟨k, by rw [trips1]; omega⟩
    simp only [] at hs
    obtain ⟨K, V, hK, hV, ht⟩ := trip_eq c i arg3 harg3 arg4 harg4 arg5 harg5 arg6 harg6 k0_pay52 v17 v24 v25 v28 v30 v47 v49 v53 v159 v162 v174 v176 v195 v218 v222 v229 v231 X Y ⟨k, by rw [trips1]; omega⟩
      (st_k0_t1 (F := Ideal) Variants.none c none i arg3 harg3 arg4 harg4 arg5 harg5 arg6 harg6 k0_pay52 v17 v24 v25 v28 v30 v47 v49 v53 v159 v162 v174 v176 v195 v218 v222 v229 v231 (harg4.unread X) (harg5.unread Y) init k)
    rw [ht] at hs
    rw [hs, e']
    rw [e] at ih
    obtain rfl := hK h
    obtain rfl := hV h
    refine ⟨done_step v17 X Y _ _ h (by omega) _ _ _ _ ih.1 (fun r => ?_) fun r l => ?_,
      done_step v24 X Y _ _ h (by omega) _ _ _ _ ih.2 (fun r => ?_) fun r l => ?_⟩
    · exact trip0_run ..
    · exact trip0_acc ..
    · exact trip1_run ..
    · exact trip1_acc ..

end Cert.KernelIdeal.Sb
-- ==== Proof.SbOut.lean ====
/- What one grid point leaves in its output block, read at an index. -/
module

public import proofs.«01_k».proof.Proof.SbLoop
@[expose] public section

set_option maxRecDepth 16384
noncomputable section

namespace Cert.KernelIdeal.Sb

open Idealize.ShloMosaic Idealize.ShloMosaic.TcCoe Idealize.SL.Sem
open Cert.KernelIdeal Cert.KernelIdeal.Gen Cert.Sb

theorem top_word : ∀ n : Fin 16, Scalar.muli (Scalar.select (Scalar.andi (Scalar.cmpi CmpIPredicate.ne
      (Scalar.subi (Scalar.extui (Scalar.cmpi CmpIPredicate.sgt (Scalar.muli (BitVec.ofNat 32 ↑n) 512#32) 0#32))
        (Scalar.extui (Scalar.cmpi CmpIPredicate.slt (Scalar.muli (BitVec.ofNat 32 ↑n) 512#32) 0#32)))
      1#32)
    (Scalar.cmpi CmpIPredicate.ne (Scalar.remsi (Scalar.muli (BitVec.ofNat 32 ↑n) 512#32) 512#32) 0#32))
    (Scalar.subi (Scalar.divsi (Scalar.muli (BitVec.ofNat 32 ↑n) 512#32) 512#32) 1#32)
    (Scalar.divsi (Scalar.muli (BitVec.ofNat 32 ↑n) 512#32) 512#32)) 512#32 = (Scalar.muli (BitVec.ofNat 32 ↑n) 512#32 : BitVec 32) := by
  decide +kernel

theorem top_word' : ∀ n : Fin 16, topW (Scalar.muli (BitVec.ofNat 32 ↑n) 512#32) 512#32
      (Scalar.divsi (Scalar.muli (BitVec.ofNat 32 ↑n) 512#32) 512#32)
      (Scalar.subi (Scalar.extui (Scalar.cmpi CmpIPredicate.sgt (Scalar.muli (BitVec.ofNat 32 ↑n) 512#32) 0#32))
        (Scalar.extui (Scalar.cmpi CmpIPredicate.slt (Scalar.muli (BitVec.ofNat 32 ↑n) 512#32) 0#32)))
      1#32 = (Scalar.muli (BitVec.ofNat 32 ↑n) 512#32 : BitVec 32) := by
  decide +kernel

theorem trips2 (i : grid0.Coords) : (k0_t2_loop i).trips = 0 := Nat.le_zero.1 (k0_t2_abs i).2.1

theorem hz2 : (![0, 0] : Fin 2 → Nat) = fun _ => 0 := by decide

theorem off1_eq (i : grid0.Coords) : k0_off1 i 0 = 512 * (i 2).val ∧ k0_off1 i 1 = 0 := by
  rw [k0_off1_eq]; exact ⟨rfl, rfl⟩

abbrev St := FVec Ideal S512x1 .f32 × FVec Ideal S512x128 .f32 × FVec Ideal S512x1 .f32 × FVec Ideal S512x128 .f32

theorem st2_zero (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .f32) (harg6 : arg6.IsWhole) (v7 : FVec Ideal S128x128 .bf16) (v17 : FVec Ideal S512x128 .bf16) (v24 : FVec Ideal S512x128 .bf16) (v25 : BitVec 32) (v28 : IVec S512x512 32) (v30 : FVec Ideal S512x128 .f32) (v47 : BitVec 32) (v49 : BitVec 32) (v53 : Vec Ideal S512x128 .bf16) (v159 : FVec Ideal S512x1 .f32) (v162 : FVec Ideal S512x128 .f32) (v174 : FVec Ideal S512x512 .bf16) (v176 : FVec Ideal S512x512 .bf16) (v195 : FVec Ideal S512x128 .bf16) (v218 : FVec Ideal S512x128 .bf16) (v222 : FVec Ideal S512x1 .f32) (v229 : IVec S512x128 1) (v231 : FVec Ideal S512x128 .bf16) (v276 : BitVec 32) (X_arg4 : BufTy.Contents (Elt Ideal) arg4.view.ty) (X_arg5 : BufTy.Contents (Elt Ideal) arg5.view.ty) (init : FVec Ideal S512x1 .f32 × FVec Ideal S512x128 .f32 × FVec Ideal S512x1 .f32 × FVec Ideal S512x128 .f32) (N : ℕ) (hN : N = 0) :
    (st_k0_t2 (F := Ideal) 𝒱 c bd i arg3 harg3 arg4 harg4 arg5 harg5 arg6 harg6 v7 v17 v24 v25 v28 v30 v47 v49 v53 v159 v162 v174 v176 v195 v218 v222 v229 v231 v276 X_arg4 X_arg5 init N) = init := by
  subst hN; rfl

theorem pay1_at (A B : FVec Ideal S512x128 .f32) (r : Fin 512) (l : Fin 128) :
    k0_pay1 (F := Ideal) (iota .tc S512x128 32 [1] iota_S512x128_d1_w32) A B (ix2 r l) = if (l : ℕ) < 64 then A (ix2 r l) else B (ix2 r l) := by
  pointwise [k0_pay1]
  unfold Scalar.select
  exact if_congr (StableHlo.Predicate.slt_ofNat_iff _ 64 (by omega) (by omega)) rfl rfl

variable (m : (ℓ : Loc nD τ sig) → Buf (Elt Ideal) ℓ)

theorem out_at (c : Dev nD) (t : Fin cfg0.N) (r : Fin 512) (l : Fin 128) :
    outsAt0 (F := Ideal) m c t (ix2 r l)
      = if (l : ℕ) < 64 then ∑ s, Ar (k0_pay54 (iblk m c 0 t)) (iblk m c 1 t) (iblk m c 2 t) (grid0.coords t 2).val r l s
        else ∑ s, Ar (k0_pay55 (iblk m c 0 t)) (iblk m c 1 t) (iblk m c 2 t) (grid0.coords t 2).val r l s := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz2]
  simp only [View.ld_unit_zero (S := S512x128) hz2, top_word (grid0.coords t 2)]
  refine (pay1_at _ _ r l).trans ?_
  have hn : (grid0.coords t 2).val < 16 := (grid0.coords t 2).isLt
  have hb : 512 * (grid0.coords t 2).val + 512 ≤ 8192 := by omega
  have hz : 512 * ((grid0.coords t 2).val - (grid0.coords t 2).val) = 0 := by omega
  refine ite_congr rfl (fun _ => ?_) (fun _ => ?_)
  · refine (congrFun (congrArg (fun s : St => s.2.1) (st2_zero (hN := trips2 (grid0.coords t)) ..)) _).trans ?_
    refine ((loop_done (H0 := ?_) (H1 := ?_) (k := _) (hk := Nat.le_of_eq (trips1 (grid0.coords t))) ..).1.2 r l).trans ?_
    · refine done_top _ _ _ _ hb _ _ ?_ ?_ _ _ (fun r => top0_run _ _ _ _ _ _ _ (top_word' _) r) (fun r l => top0_acc _ _ _ _ _ _ _ _ (top_word' _) r l)
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
    · refine done_top _ _ _ _ hb _ _ ?_ ?_ _ _ (fun r => top1_run _ _ _ r) (fun r l => top1_acc _ _ _ _ r l)
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
    · rw [trips1, hz]; exact fromTo_zero _
  · refine (congrFun (congrArg (fun s : St => s.2.2.2) (st2_zero (hN := trips2 (grid0.coords t)) ..)) _).trans ?_
    refine ((loop_done (H0 := ?_) (H1 := ?_) (k := _) (hk := Nat.le_of_eq (trips1 (grid0.coords t))) ..).2.2 r l).trans ?_
    · refine done_top _ _ _ _ hb _ _ ?_ ?_ _ _ (fun r => top0_run _ _ _ _ _ _ _ (top_word' _) r) (fun r l => top0_acc _ _ _ _ _ _ _ _ (top_word' _) r l)
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
    · refine done_top _ _ _ _ hb _ _ ?_ ?_ _ _ (fun r => top1_run _ _ _ r) (fun r l => top1_acc _ _ _ _ r l)
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
      · funext y
        refine View.ld_unit_apply_of _ _ _ _ y _ (fun a => ?_)
        match a with
        | 0 => exact congrArg (· + ((y 0 : Fin _) : ℕ)) (off1_eq (grid0.coords t)).1.symm
        | 1 => exact ((congrArg (· + ((y 1 : Fin _) : ℕ)) (off1_eq (grid0.coords t)).2).trans (Nat.zero_add _)).symm
    · rw [trips1, hz]; exact fromTo_zero _

end Cert.KernelIdeal.Sb
-- ==== Proof.SbReal.lean ====
/- The log-sigmoid forms on real scores, the scores of real queries and keys, and sums that cancel. -/
module

public import proofs.«01_k».proof.Proof.SbLoop
@[expose] public section

noncomputable section

namespace Cert.Sb

open Idealize.ShloMosaic Cert.KernelIdeal.Sb

/-- The reference's log-sigmoid, as its operations spell it. -/
def lsF (z : EReal) : EReal := -(max (-z) 0 + Ideal.log (1 + Ideal.exp (-(max (-z - 0) (-(-z - 0))))))

def spR (r : ℝ) : ℝ := Real.log (1 + Real.exp (-|r|))

theorem coe_min' (a b : ℝ) : min (a : EReal) b = ((min a b : ℝ) : EReal) := (EReal.coe_strictMono.monotone.map_min).symm
theorem coe_max' (a b : ℝ) : max (a : EReal) b = ((max a b : ℝ) : EReal) := (EReal.coe_strictMono.monotone.map_max).symm

theorem log1p_exp (r : ℝ) : Ideal.log (1 + Ideal.exp ((-|r| : ℝ) : EReal)) = (spR r : EReal) := by
  have h : (0 : ℝ) < 1 + Real.exp (-|r|) := by positivity
  rw [Ideal.exp_coe, show (1 : EReal) + (Real.exp (-|r|) : EReal) = ((1 + Real.exp (-|r|) : ℝ) : EReal) from by push_cast; rfl,
    Ideal.log_coe, if_neg (not_le.2 h)]
  rfl

theorem lbF_coe (r : ℝ) : lbF (r : EReal) = ((min r 0 - spR r : ℝ) : EReal) := by
  unfold lbF
  rw [show (0 : EReal) = ((0 : ℝ) : EReal) from rfl, ← EReal.coe_neg, coe_min', coe_max', ← EReal.coe_sub,
    show (0 : ℝ) - max r (-r) = -|r| from by rw [abs_eq_max_neg]; ring, log1p_exp, ← EReal.coe_sub]

theorem l1F_coe (r : ℝ) : l1F (r : EReal) = ((min r 0 - r - spR r : ℝ) : EReal) := by
  unfold l1F
  rw [show (0 : EReal) = ((0 : ℝ) : EReal) from rfl, ← EReal.coe_neg, coe_min', coe_max', ← EReal.coe_sub, ← EReal.coe_sub,
    show (0 : ℝ) - max r (-r) = -|r| from by rw [abs_eq_max_neg]; ring, log1p_exp, ← EReal.coe_sub]

theorem lsF_coe (r : ℝ) : lsF (r : EReal) = ((-(max (-r) 0 + spR r) : ℝ) : EReal) := by
  unfold lsF
  rw [show (0 : EReal) = ((0 : ℝ) : EReal) from rfl, ← EReal.coe_neg, coe_max', ← EReal.coe_sub, ← EReal.coe_neg, coe_max', ← EReal.coe_neg,
    show -max (-r - 0) (-(-r - 0)) = -|r| from by rw [sub_zero, neg_neg, abs_eq_max_neg, max_comm], log1p_exp, ← EReal.coe_add, ← EReal.coe_neg]

/-- The kernel's log of the chance of stopping is the log-sigmoid of the score. -/
theorem lbF_eq (r : ℝ) : lbF (r : EReal) = lsF r := by
  rw [lbF_coe, lsF_coe]
  refine congrArg _ ?_
  rcases le_total r 0 with h | h
  · rw [min_eq_left h, max_eq_left (by linarith)]; ring
  · rw [min_eq_right h, max_eq_right (by linarith)]; ring

/-- The kernel's log of the chance of not stopping is the log-sigmoid of the score's negative. -/
theorem l1F_eq (r : ℝ) : l1F (r : EReal) = lsF (-(r : EReal)) := by
  rw [l1F_coe, ← EReal.coe_neg, lsF_coe]
  refine congrArg _ ?_
  rw [neg_neg, show spR (-r) = spR r from by unfold spR; rw [abs_neg]]
  rcases le_total r 0 with h | h
  · rw [min_eq_left h, max_eq_right h]; ring
  · rw [min_eq_right h, max_eq_left h]; ring

theorem coe_sum {n : ℕ} (f : Fin n → ℝ) : ((∑ d, f d : ℝ) : EReal) = ∑ d, (f d : EReal) :=
  map_sum (⟨⟨fun r : ℝ => (r : EReal), rfl⟩, EReal.coe_add⟩ : ℝ →+ EReal) f Finset.univ

/-- Scaling the query lanes or scaling the product is the same on real numbers. -/
theorem score_scale {n : ℕ} (q k : Fin n → EReal) (hq : ∀ d, ∃ a : ℝ, q d = a) (hk : ∀ d, ∃ a : ℝ, k d = a) (c : ℝ) :
    ∃ z : ℝ, ∑ d, q d * (c : EReal) * k d = (z : EReal) ∧ (∑ d, q d * k d) * (c : EReal) = (z : EReal) := by
  choose a ha using hq
  choose b hb using hk
  refine ⟨∑ d, a d * c * b d, ?_, ?_⟩
  · rw [coe_sum]
    exact Finset.sum_congr rfl fun d _ => by rw [ha, hb]; push_cast; rfl
  · rw [show ∑ d, a d * c * b d = (∑ d, a d * b d) * c from by rw [Finset.sum_mul]; exact Finset.sum_congr rfl fun d _ => by ring]
    rw [EReal.coe_mul, coe_sum]
    exact congrArg (· * (c : EReal)) (Finset.sum_congr rfl fun d _ => by rw [ha, hb]; push_cast; rfl)

/-- The sum from a position on, less that position's term, is the sum after it. -/
theorem from_sub {n : ℕ} (L : Fin n → EReal) (t : Fin n) (h : ∃ a : ℝ, L t = a) :
    (∑ j : Fin n, if t ≤ j then L j else 0) - L t = after L t := by
  have e : (∑ j : Fin n, if t ≤ j then L j else 0) = L t + after L t := by
    rw [show L t = ∑ j : Fin n, if t = j then L j else 0 from by rw [Finset.sum_ite_eq Finset.univ t L, if_pos (Finset.mem_univ t)]]
    unfold after
    rw [← Finset.sum_add_distrib]
    refine Finset.sum_congr rfl fun j _ => ?_
    rcases lt_trichotomy t j with h | h | h
    · rw [if_pos h.le, if_neg h.ne, if_pos h, zero_add]
    · subst h; rw [if_pos le_rfl, if_pos rfl, if_neg (lt_irrefl _), add_zero]
    · rw [if_neg (not_le.2 h), if_neg h.ne', if_neg h.le.not_gt, add_zero]
  obtain ⟨a, ha⟩ := h
  rw [e, ha]
  exact EReal.add_sub_cancel_left

end Cert.Sb
-- ==== Proof.SbWin.lean ====
/- A sum over a window that starts at each entry: the reference's running sum from the end. -/
module

public import proofs.«01_k».proof.ReferenceIdeal
public import Idealize.ShloMosaic.Lib.FinSumWindow
public import Idealize.ShloMosaic.Lib.Pointwise
public import Idealize.ShloMosaic.Lib.Pipeline.Value
public import Idealize.ShloMosaic.PureOps.Ideal.Laws
@[expose] public section

noncomputable section

namespace Cert.ReferenceIdeal.Sb

open Idealize.ShloMosaic Cert.ReferenceIdeal

theorem foldl_sum {α : Type*} (g : α → EReal) (l : List α) (v : EReal) :
    l.foldl (fun r n => r + g n) v = v + (l.map g).sum := by
  induction l generalizing v with
  | nil => simp
  | cons a l ih => rw [List.foldl_cons, ih, List.map_cons, List.sum_cons, add_assoc]

theorem numelW : (⟨4, ![1, 1, 1, 8192]⟩ : Shape).numel = 8192 := by decide

theorem symmW (n : Fin (⟨4, ![1, 1, 1, 8192]⟩ : Shape).numel) :
    (((⟨4, ![1, 1, 1, 8192]⟩ : Shape).rowMajor.symm n 0).val = 0 ∧ ((⟨4, ![1, 1, 1, 8192]⟩ : Shape).rowMajor.symm n 1).val = 0
      ∧ ((⟨4, ![1, 1, 1, 8192]⟩ : Shape).rowMajor.symm n 2).val = 0) ∧ ((⟨4, ![1, 1, 1, 8192]⟩ : Shape).rowMajor.symm n 3).val = n.val := by
  have e := Shape.rowMajor_val_four ((⟨4, ![1, 1, 1, 8192]⟩ : Shape).rowMajor.symm n)
  rw [Equiv.apply_symm_apply] at e
  have h0 : ((⟨4, ![1, 1, 1, 8192]⟩ : Shape).rowMajor.symm n 0).val < 1 := ((⟨4, ![1, 1, 1, 8192]⟩ : Shape).rowMajor.symm n 0).isLt
  have h1 : ((⟨4, ![1, 1, 1, 8192]⟩ : Shape).rowMajor.symm n 1).val < 1 := ((⟨4, ![1, 1, 1, 8192]⟩ : Shape).rowMajor.symm n 1).isLt
  have h2 : ((⟨4, ![1, 1, 1, 8192]⟩ : Shape).rowMajor.symm n 2).val < 1 := ((⟨4, ![1, 1, 1, 8192]⟩ : Shape).rowMajor.symm n 2).isLt
  refine ⟨⟨by omega, by omega, by omega⟩, ?_⟩
  have e0 : ((⟨4, ![1, 1, 1, 8192]⟩ : Shape).rowMajor.symm n 0).val = 0 := by omega
  have e1 : ((⟨4, ![1, 1, 1, 8192]⟩ : Shape).rowMajor.symm n 1).val = 0 := by omega
  have e2 : ((⟨4, ![1, 1, 1, 8192]⟩ : Shape).rowMajor.symm n 2).val = 0 := by omega
  rw [e0, e1, e2] at e
  refine Eq.trans ?_ e.symm
  simp

/-- The sum over the entries from `t` on, as a sum over a window. -/
theorem shift_sum (f : Fin 8192 → EReal) (t : Fin 8192) :
    (∑ n : Fin 8192, if h : (t : ℕ) + (n : ℕ) < 8192 then f ⟨t + n, h⟩ else 0) = ∑ j : Fin 8192, if t ≤ j then f j else 0 := by
  rw [FinSumWindow.sum_window (W := 8192 - t.val) 0 (by omega) (fun n : Fin 8192 => if h : (t : ℕ) + (n : ℕ) < 8192 then f ⟨t + n, h⟩ else 0)
      fun P hP => dif_neg (by omega),
    FinSumWindow.sum_window (W := 8192 - t.val) t.val (by omega) (fun j : Fin 8192 => if t ≤ j then f j else 0)
      fun P hP => if_neg (by rw [Fin.le_def]; omega)]
  refine Finset.sum_congr rfl fun n _ => ?_
  rw [dif_pos (by simp only []; omega), if_pos (by rw [Fin.le_def]; simp only []; omega)]
  exact congrArg f (Fin.ext (by simp only []; omega))

theorem window_at (x : S2x4x8192x8192.Idx → EReal) (h : S2x4x8192x8192.ReduceWindows ![1, 1, 1, 8192] ![1, 1, 1, 1] ![0, 0, 0, 0] ![0, 0, 0, 8191] S2x4x8192x8192)
    (hu : 0 < (⟨0, ![]⟩ : Shape).numel) (b : Fin 2) (hd : Fin 4) (s t : Fin 8192) :
    Host.reduceWindow (· + ·) ![1, 1, 1, 8192] ![1, 1, 1, 1] ![0, 0, 0, 0] ![0, 0, 0, 8191] x (fun _ : (⟨0, ![]⟩ : Shape).Idx => (0 : EReal)) h hu (ix4 b hd s t)
      = ∑ j : Fin 8192, if t ≤ j then x (ix4 b hd s j) else 0 := by
  unfold Host.reduceWindow
  refine (foldl_sum _ _ _).trans ?_
  rw [zero_add, ← List.ofFn_eq_map, List.sum_ofFn, ← shift_sum (fun j => x (ix4 b hd s j)) t]
  refine Fintype.sum_equiv (finCongr numelW) _ _ fun n => ?_
  obtain ⟨⟨w0, w1, w2⟩, w3⟩ := symmW n
  have hn : n.val < 8192 := lt_of_lt_of_eq n.isLt numelW
  by_cases hlt : (t : ℕ) + n.val < 8192
  · rw [dif_pos (show (t : ℕ) + (finCongr numelW n : Fin 8192).val < 8192 from hlt)]
    refine (dif_pos ?_).trans ?_
    · intro a
      match a with
      | ⟨0, _⟩ => exact ⟨Nat.zero_le _, by show b.val * 1 + ((⟨4, ![1, 1, 1, 8192]⟩ : Shape).rowMajor.symm n 0).val - 0 < 2; rw [w0]; omega⟩
      | ⟨1, _⟩ => exact ⟨Nat.zero_le _, by show hd.val * 1 + ((⟨4, ![1, 1, 1, 8192]⟩ : Shape).rowMajor.symm n 1).val - 0 < 4; rw [w1]; omega⟩
      | ⟨2, _⟩ => exact ⟨Nat.zero_le _, by show s.val * 1 + ((⟨4, ![1, 1, 1, 8192]⟩ : Shape).rowMajor.symm n 2).val - 0 < 8192; rw [w2]; omega⟩
      | ⟨3, _⟩ => exact ⟨Nat.zero_le _, by show t.val * 1 + ((⟨4, ![1, 1, 1, 8192]⟩ : Shape).rowMajor.symm n 3).val - 0 < 8192; rw [w3]; omega⟩
    · refine congrArg x (funext fun a => Fin.ext ?_)
      match a with
      | ⟨0, _⟩ => show b.val * 1 + ((⟨4, ![1, 1, 1, 8192]⟩ : Shape).rowMajor.symm n 0).val - 0 = b.val; rw [w0]; omega
      | ⟨1, _⟩ => show hd.val * 1 + ((⟨4, ![1, 1, 1, 8192]⟩ : Shape).rowMajor.symm n 1).val - 0 = hd.val; rw [w1]; omega
      | ⟨2, _⟩ => show s.val * 1 + ((⟨4, ![1, 1, 1, 8192]⟩ : Shape).rowMajor.symm n 2).val - 0 = s.val; rw [w2]; omega
      | ⟨3, _⟩ => show t.val * 1 + ((⟨4, ![1, 1, 1, 8192]⟩ : Shape).rowMajor.symm n 3).val - 0 = t.val + n.val; rw [w3]; omega
  · rw [dif_neg (show ¬ (t : ℕ) + (finCongr numelW n : Fin 8192).val < 8192 from hlt)]
    refine dif_neg fun hin => hlt ?_
    have h3 : t.val * 1 + ((⟨4, ![1, 1, 1, 8192]⟩ : Shape).rowMajor.symm n 3).val - 0 < 8192 := (hin 3).2
    rw [w3] at h3; omega

end Cert.ReferenceIdeal.Sb
-- ==== Proof.SbRef.lean ====
/- The reference's result read at an index. -/
module

public import proofs.«01_k».proof.Proof.SbReal
public import proofs.«01_k».proof.Proof.SbWin
public import proofs.«01_k».proof.Proof.Gen.ReferenceIdeal.Read
@[expose] public section

set_option maxRecDepth 16384
noncomputable section

namespace Cert.ReferenceIdeal.Sb

open Idealize.ShloMosaic Cert.ReferenceIdeal Cert.ReferenceIdeal.Gen Cert.ReferenceIdeal.Read Cert.Sb

/-- The projections, of one sequence `b`, at position `s` and column `C`. -/
def at3 (x : S16384x2304.Idx → EReal) (b : Fin 2) (s : Fin 8192) (C : ℕ) (hC : C < 768) : EReal :=
  x (ix2 (⟨8192 * b.val + s.val, by omega⟩ : Fin 16384) (⟨C, by omega⟩ : Fin 2304))

def qAt (x : S16384x2304.Idx → EReal) (b : Fin 2) (h : Fin 4) (s : Fin 8192) (d : Fin 64) : EReal :=
  at3 x b s (64 * h.val + d.val) (by omega)
def kAt (x : S16384x2304.Idx → EReal) (b : Fin 2) (h : Fin 4) (s : Fin 8192) (d : Fin 64) : EReal :=
  at3 x b s (256 + (64 * h.val + d.val)) (by omega)
def vAt (x : S16384x2304.Idx → EReal) (b : Fin 2) (h : Fin 4) (s : Fin 8192) (d : Fin 64) : EReal :=
  at3 x b s (512 + (64 * h.val + d.val)) (by omega)

theorem ofBits_eighth_f32 : Ideal.ofBits .f32 0x3E000000#32 = (((1 : ℝ) / 8 : ℝ) : EReal) := by
  simp [Ideal.ofBits, Ideal.ieee, -EReal.coe_mul]; norm_num

/-- The scaled score of two positions. -/
def score (x : S16384x2304.Idx → EReal) (b : Fin 2) (h : Fin 4) (s t : Fin 8192) : EReal :=
  (∑ d, qAt x b h s d * kAt x b h t d) * ((1 / 8 : ℝ) : EReal)

/-- The log of one minus the sigmoid of the score, of an earlier position. -/
def logRest (x : S16384x2304.Idx → EReal) (b : Fin 2) (h : Fin 4) (s t : Fin 8192) : EReal :=
  if t < s then lsF (-(score x b h s t)) else 0

variable (x : S16384x2304.Idx → EReal) (b : Fin 2) (h : Fin 4)

theorem idx5 (s : Fin 8192) (d : Fin 64) : idx_main_v5 (ix4 b h s d) = ix4 b s h d := funext fun a => match a with
  | 0 => rfl | 1 => rfl | 2 => rfl | 3 => rfl
theorem idx8 (s : Fin 8192) (d : Fin 64) : idx_main_v8 (ix4 b h s d) = ix4 b s h d := funext fun a => match a with
  | 0 => rfl | 1 => rfl | 2 => rfl | 3 => rfl
theorem idx11 (s : Fin 8192) (d : Fin 64) : idx_main_v11 (ix4 b h s d) = ix4 b s h d := funext fun a => match a with
  | 0 => rfl | 1 => rfl | 2 => rfl | 3 => rfl

theorem idx4 (s : Fin 8192) (d : Fin 64) : idx_main_v4 (ix4 b s h d) = ix3 b s (⟨64 * h.val + d.val, by omega⟩ : Fin 256) :=
  funext fun a => Fin.ext (match a with
  | 0 => by show (((b.val * 8192 + s.val) * 4 + h.val) * 64 + d.val) / 2097152 = b.val; omega
  | 1 => by show (((b.val * 8192 + s.val) * 4 + h.val) * 64 + d.val) / 256 % 8192 = s.val; omega
  | 2 => by show (((b.val * 8192 + s.val) * 4 + h.val) * 64 + d.val) % 256 = 64 * h.val + d.val; omega)

/-- A slice of 768 columns of the projections, at an index. -/
theorem v2_at (s : Fin 8192) (C : Fin 768) : val_main_v2 (F := Ideal) x (ix3 b s C) = at3 x b s C.val C.isLt := by
  rw [val_main_v2_apply, val_main_v1_apply, val_main_v0_apply]
  refine congrArg x (funext fun a => Fin.ext ?_)
  match a with
  | 0 => show ((b.val * 8192 + s.val) * 2304 + C.val) / 2304 = 8192 * b.val + s.val; omega
  | 1 => show ((b.val * 8192 + s.val) * 2304 + C.val) % 2304 = C.val; omega

theorem v5_at (s : Fin 8192) (d : Fin 64) : val_main_v5 (F := Ideal) x (ix4 b h s d) = qAt x b h s d := by
  rw [val_main_v5_apply, idx5, val_main_v4_apply, idx4, val_main_v3_apply]
  exact (congrArg (val_main_v2 (F := Ideal) x) (funext fun a => match a with | 0 => rfl | 1 => rfl | 2 => rfl)).trans
    (v2_at x b s (⟨64 * h.val + d.val, by omega⟩ : Fin 768))

theorem v8_at (s : Fin 8192) (d : Fin 64) : val_main_v8 (F := Ideal) x (ix4 b h s d) = kAt x b h s d := by
  rw [val_main_v8_apply, idx8, val_main_v7_apply, show idx_main_v7 (ix4 b s h d) = idx_main_v4 (ix4 b s h d) from rfl, idx4, val_main_v6_apply]
  exact (congrArg (val_main_v2 (F := Ideal) x) (funext fun a => match a with | 0 => rfl | 1 => rfl | 2 => rfl)).trans
    (v2_at x b s (⟨256 + (64 * h.val + d.val), by omega⟩ : Fin 768))

theorem v11_at (s : Fin 8192) (d : Fin 64) : val_main_v11 (F := Ideal) x (ix4 b h s d) = vAt x b h s d := by
  rw [val_main_v11_apply, idx11, val_main_v10_apply, show idx_main_v10 (ix4 b s h d) = idx_main_v4 (ix4 b s h d) from rfl, idx4, val_main_v9_apply]
  exact (congrArg (val_main_v2 (F := Ideal) x) (funext fun a => match a with | 0 => rfl | 1 => rfl | 2 => rfl)).trans
    (v2_at x b s (⟨512 + (64 * h.val + d.val), by omega⟩ : Fin 768))

theorem v14_at (s t : Fin 8192) : val_main_v14 (F := Ideal) x (ix4 b h s t) = score x b h s t := by
  rw [val_main_v14_apply, val_main_v12_apply, val_main_v13_apply, val_main_cst_apply]
  refine congrArg₂ (· * ·) (Finset.sum_congr rfl fun k _ => congrArg₂ (· * ·) ?_ ?_) ofBits_eighth_f32
  · exact (congrArg (val_main_v5 (F := Ideal) x) (funext fun a => match a with | 0 => rfl | 1 => rfl | 2 => rfl | 3 => rfl)).trans (v5_at x b h s k)
  · exact (congrArg (val_main_v8 (F := Ideal) x) (funext fun a => match a with | 0 => rfl | 1 => rfl | 2 => rfl | 3 => rfl)).trans (v8_at x b h t k)

theorem une_self (z : EReal) : FloatOps.cmpf (F := Ideal) (φ := .f32) .une z z = 0#1 := by
  simp [FloatOps.cmpf, Ideal.cmp]

theorem mask_at (s t : Fin 8192) : val_main_v20 (F := Ideal) (ix2 s t) = 1#1 ↔ t < s := by
  rw [val_main_v20_apply, val_main_v18_apply, val_main_v16_apply, val_main_v15_apply, val_main_v19_apply, val_main_v17_apply, val_main_v15_apply]
  exact (StableHlo.Predicate.slt_ofNat_iff t.val s.val (by omega) (by omega)).trans Fin.lt_def.symm

theorem ofBits_zero32 : (FloatOps.ofBits (F := Ideal) .f32 0x00000000#32 : EReal) = 0 := by
  show Ideal.ofBits .f32 0x00000000#32 = 0
  simp [Ideal.ofBits, Ideal.ieee]

/-- The host's log-sigmoid of one element, from its operations. -/
theorem ls_ops (Z o : EReal) (ho : o = 0) :
    -(max (-Z) o + Ideal.log (1 + Ideal.exp (-(max (-Z - o) (-(-Z - o)))))) = lsF Z := by
  rw [ho]; rfl

theorem v22_at (s t : Fin 8192) : val_main_v22 (F := Ideal) x (ix4 b h s t) = lsF (-(score x b h s t)) := by
  rw [← v14_at, ← show val_main_v21 (F := Ideal) x (ix4 b h s t) = -(val_main_v14 (F := Ideal) x (ix4 b h s t)) from rfl]
  rw [val_main_v22_apply, val_main_call0_v1_apply, val_main_call0_call0_v4_apply, une_self]
  simp only [val_main_call0_call0_v11_apply, val_main_call0_call0_v1_apply, val_main_call0_call0_v10_apply, val_main_call0_call0_v9_apply,
    val_main_call0_call0_v8_apply, val_main_call0_call0_v7_apply, val_main_call0_call0_v3_apply, val_main_call0_v0_apply,
    val_main_call0_call0_v0_apply, val_main_call0_call0_v2_apply, val_main_call0_call0_cst_apply]
  exact ls_ops _ _ ofBits_zero32

theorem v26_at (s t : Fin 8192) : val_main_v26 (F := Ideal) x (ix4 b h s t) = lsF (score x b h s t) := by
  rw [← v14_at]
  rw [val_main_v26_apply, val_main_call3_v1_apply, val_main_call3_call0_v4_apply, une_self]
  simp only [val_main_call3_call0_v11_apply, val_main_call3_call0_v1_apply, val_main_call3_call0_v10_apply, val_main_call3_call0_v9_apply,
    val_main_call3_call0_v8_apply, val_main_call3_call0_v7_apply, val_main_call3_call0_v3_apply, val_main_call3_v0_apply,
    val_main_call3_call0_v0_apply, val_main_call3_call0_v2_apply, val_main_call3_call0_cst_apply]
  exact ls_ops _ _ ofBits_zero32

theorem v23_at (s t : Fin 8192) : val_main_v23 (F := Ideal) x (ix4 b h s t) = logRest x b h s t := by
  rw [val_main_v23_apply, v22_at, val_main_call1_v2_apply, val_main_call1_v0_apply, val_main_cst_0_apply, val_main_call1_v1_apply,
    show idx_main_call1_v1 (ix4 b h s t) = ix2 s t from funext fun a => match a with | 0 => rfl | 1 => rfl]
  unfold Scalar.select logRest
  exact if_congr (mask_at s t) rfl ofBits_zero32

theorem window_add (y : FVec Ideal S2x4x8192x8192 .f32) (o : FVec Ideal S_ .f32) (ho : o (Shape.Idx.first h_S_) = (0 : EReal)) (s t : Fin 8192) :
    Host.reduceWindowAdd ![1, 1, 1, 8192] ![1, 1, 1, 1] ![0, 0, 0, 0] ![0, 0, 0, 8191] y o reduceWindows_S2x4x8192x8192_S2x4x8192x8192_w1s1p0_0_w1s1p0_0_w1s1p0_0_w8192s1p0_8191 h_S_ (ix4 b h s t)
      = ∑ j : Fin 8192, if t ≤ j then (y (ix4 b h s j) : EReal) else 0 := by
  unfold Host.reduceWindowAdd
  rw [ho, Ideal.hostReduceWindowAdd_def]
  unfold Ideal.hostReduceWindowAdd
  exact window_at y reduceWindows_S2x4x8192x8192_S2x4x8192x8192_w1s1p0_0_w1s1p0_0_w1s1p0_0_w8192s1p0_8191 _ b h s t

theorem v24_at (s t : Fin 8192) : val_main_v24 (F := Ideal) x (ix4 b h s t) = ∑ j : Fin 8192, if t ≤ j then logRest x b h s j else 0 := by
  unfold val_main_v24
  rw [window_add b h _ _ (by rw [val_main_call2_v0_apply, val_main_call2_cst_apply]; exact ofBits_zero32)]
  exact Finset.sum_congr rfl fun j _ => by rw [v23_at]

/-- The weight of one position in another's output. -/
def weight (s t : Fin 8192) : EReal :=
  if t < s then Ideal.exp (lsF (score x b h s t) + ((∑ j : Fin 8192, if t ≤ j then logRest x b h s j else 0) - logRest x b h s t)) else 0

theorem v29_at (s t : Fin 8192) : val_main_v29 (F := Ideal) x (ix4 b h s t) = weight x b h s t := by
  rw [val_main_v29_apply, val_main_v28_apply, val_main_v27_apply, val_main_v25_apply, v26_at, v24_at, v23_at, val_main_call4_v2_apply,
    val_main_call4_v0_apply, val_main_cst_1_apply, val_main_call4_v1_apply,
    show idx_main_call4_v1 (ix4 b h s t) = ix2 s t from funext fun a => match a with | 0 => rfl | 1 => rfl]
  unfold Scalar.select weight
  exact if_congr (mask_at s t) rfl ofBits_zero32

theorem idx31 (s : Fin 8192) (d : Fin 64) : idx_main_v31 (ix4 b s h d) = ix4 b h s d := funext fun a => match a with
  | 0 => rfl | 1 => rfl | 2 => rfl | 3 => rfl
theorem lidx30 (s t : Fin 8192) (d : Fin 64) : lidx_main_v30 (ix4 b h s d) t = ix4 b h s t := funext fun a => match a with
  | 0 => rfl | 1 => rfl | 2 => rfl | 3 => rfl
theorem ridx30 (s t : Fin 8192) (d : Fin 64) : ridx_main_v30 (ix4 b h s d) t = ix4 b h t d := funext fun a => match a with
  | 0 => rfl | 1 => rfl | 2 => rfl | 3 => rfl
theorem idx32 (s : Fin 8192) (d : Fin 64) :
    idx_main_v32 (ix2 (⟨8192 * b.val + s.val, by omega⟩ : Fin 16384) (⟨64 * h.val + d.val, by omega⟩ : Fin 256)) = ix4 b s h d :=
    funext fun a => Fin.ext (match a with
    | 0 => by show ((8192 * b.val + s.val) * 256 + (64 * h.val + d.val)) / 2097152 = b.val; omega
    | 1 => by show ((8192 * b.val + s.val) * 256 + (64 * h.val + d.val)) / 256 % 8192 = s.val; omega
    | 2 => by show ((8192 * b.val + s.val) * 256 + (64 * h.val + d.val)) / 64 % 4 = h.val; omega
    | 3 => by show ((8192 * b.val + s.val) * 256 + (64 * h.val + d.val)) % 64 = d.val; omega)

/-- The reference's result: each position's row of a head is the weighted sum of the earlier positions' values. -/
theorem ref_at (s : Fin 8192) (d : Fin 64) :
    val_main_v32 (F := Ideal) x (ix2 (⟨8192 * b.val + s.val, by omega⟩ : Fin 16384) (⟨64 * h.val + d.val, by omega⟩ : Fin 256))
      = ∑ t, weight x b h s t * vAt x b h t d := by
  rw [val_main_v32_apply, idx32, val_main_v31_apply, idx31, val_main_v30_apply]
  refine Finset.sum_congr rfl fun t _ => ?_
  rw [lidx30, ridx30, v29_at, v11_at]

end Cert.ReferenceIdeal.Sb
-- ==== Proof.SbFin.lean ====
/- The kernel's result read at an index. -/
module

public import proofs.«01_k».proof.Proof.SbOut
public import proofs.«01_k».proof.Proof.SbRef
public import proofs.«01_k».proof.Proof.Gen.KernelIdeal.Value
@[expose] public section

set_option maxRecDepth 16384
noncomputable section

namespace Cert.KernelIdeal.Sb

open Idealize.ShloMosaic Idealize.ShloMosaic.TcCoe Idealize.SL.Sem
open Idealize.ShloMosaic.Pipeline (Dat)
open Cert.KernelIdeal Cert.KernelIdeal.Gen Cert.Sb

theorem ofBits_eighth_bf16 : Ideal.ofBits .bf16 0x3E00#16 = (((1 : ℝ) / 8 : ℝ) : EReal) := by
  simp [Ideal.ofBits, Ideal.ieee, -EReal.coe_mul]; norm_num

theorem lane0 : ∀ l : Fin 128, IntOp.andi (IntOp.cmpi CmpIPredicate.sge (BitVec.ofNat 32 l.val) 0#32)
    (IntOp.cmpi CmpIPredicate.slt (BitVec.ofNat 32 l.val) 64#32) = 1#1 ↔ (l : ℕ) < 64 := by decide +kernel
theorem lane1 : ∀ l : Fin 128, IntOp.andi (IntOp.cmpi CmpIPredicate.sge (BitVec.ofNat 32 l.val) 64#32)
    (IntOp.cmpi CmpIPredicate.slt (BitVec.ofNat 32 l.val) 128#32) = 1#1 ↔ 64 ≤ (l : ℕ) := by decide +kernel

theorem pay54_at (X : FVec Ideal S512x128 .bf16) (r : Fin 512) (l : Fin 128) :
    k0_pay54 (F := Ideal) X (ix2 r l) = if (l : ℕ) < 64 then X (ix2 r l) * ((1 / 8 : ℝ) : EReal) else 0 := by
  pointwise [k0_pay54, k0_pay53]
  unfold Scalar.select
  exact if_congr (lane0 l) (congrArg (X (ix2 r l) * ·) ofBits_eighth_bf16) rfl

theorem pay55_at (X : FVec Ideal S512x128 .bf16) (r : Fin 512) (l : Fin 128) :
    k0_pay55 (F := Ideal) X (ix2 r l) = if 64 ≤ (l : ℕ) then X (ix2 r l) * ((1 / 8 : ℝ) : EReal) else 0 := by
  pointwise [k0_pay55, k0_pay53]
  unfold Scalar.select
  exact if_congr (lane1 l) (congrArg (X (ix2 r l) * ·) ofBits_eighth_bf16) rfl

/-- A score from one head's half of the lanes, the query scaled first. -/
def half (Q : FVec Ideal S512x128 .bf16) (X : FVec Ideal S8192x128 .bf16) (r : Fin 512) (t : Fin 8192) (e : ℕ) (he : e < 2) : EReal :=
  ∑ d : Fin 64, Q (ix2 r (⟨64 * e + d.val, by omega⟩ : Fin 128)) * ((1 / 8 : ℝ) : EReal) * X (ix2 t (⟨64 * e + d.val, by omega⟩ : Fin 128))

/-- The lower half of the lanes alone enters the first head's score. -/
theorem zrow54 (Q : FVec Ideal S512x128 .bf16) (X : FVec Ideal S8192x128 .bf16) (r : Fin 512) (t : Fin 8192) :
    zrow (k0_pay54 Q) X r t = half Q X r t 0 (by omega) := by
  unfold zrow
  rw [FinSumWindow.sum_window (W := 64) (64 * 0) (by omega) _ fun P hP => by rw [pay54_at, if_neg (by omega), zero_mul]]
  exact Finset.sum_congr rfl fun d _ => by rw [pay54_at, if_pos (by simp only []; omega)]

/-- The upper half of the lanes alone enters the second head's score. -/
theorem zrow55 (Q : FVec Ideal S512x128 .bf16) (X : FVec Ideal S8192x128 .bf16) (r : Fin 512) (t : Fin 8192) :
    zrow (k0_pay55 Q) X r t = half Q X r t 1 (by omega) := by
  unfold zrow
  rw [FinSumWindow.sum_window (W := 64) (64 * 1) (by omega) _ fun P hP => by rw [pay55_at, if_neg (by omega), zero_mul]]
  exact Finset.sum_congr rfl fun d _ => by rw [pay55_at, if_pos (by simp only []; omega)]

variable (m : (ℓ : Loc nD τ sig) → Buf (Elt Ideal) ℓ)

theorem idx_all : ∀ t : Fin cfg0.N,
    (win0_0.index t 0 = 16 * (t.val / 32) + t.val % 16 ∧ win0_0.index t 1 = t.val / 16 % 2)
    ∧ (win0_1.index t 0 = t.val / 32 ∧ win0_1.index t 1 = 2 + t.val / 16 % 2)
    ∧ (win0_2.index t 0 = t.val / 32 ∧ win0_2.index t 1 = 4 + t.val / 16 % 2)
    ∧ (win0_3.index t 0 = 16 * (t.val / 32) + t.val % 16 ∧ win0_3.index t 1 = t.val / 16 % 2)
    ∧ (grid0.coords t 2).val = t.val % 16 := by
  show ∀ t : Fin grid0.N, _
  decide +kernel

/-- The projections of device `c`. -/
abbrev proj (c : Dev nD) : S16384x2304.Idx → EReal := m ((c.tc : Thread nD τ).loc main_arg0)

theorem iblk0_at (c : Dev nD) (t : Fin cfg0.N) (r : Fin 512) (l : Fin 128) (R : Fin 16384) (C : Fin 2304)
    (hR : R.val = 512 * (16 * (t.val / 32) + t.val % 16) + r.val) (hC : C.val = 128 * (t.val / 16 % 2) + l.val) :
    iblk (F := Ideal) m c 0 t (ix2 r l) = proj m c (ix2 R C) := by
  unfold iblk; rw [View.read_apply, cast_eq]
  refine (congrFun (V_main_arg0 m c) _).trans (congrArg (m ((c.tc : Thread nD τ).loc main_arg0)) (funext fun a => Fin.ext ?_))
  have e := (idx_all t).1
  match a with
  | 0 => refine (win0_0.rect_emb_val t (ix2 r l) 0).trans ?_; rw [e.1]; refine Eq.trans ?_ hR.symm; exact congrArg (· + r.val) (Nat.mul_comm _ _)
  | 1 => refine (win0_0.rect_emb_val t (ix2 r l) 1).trans ?_; rw [e.2]; refine Eq.trans ?_ hC.symm; exact congrArg (· + l.val) (Nat.mul_comm _ _)

theorem iblk1_at (c : Dev nD) (t : Fin cfg0.N) (r : Fin 8192) (l : Fin 128) (R : Fin 16384) (C : Fin 2304)
    (hR : R.val = 8192 * (t.val / 32) + r.val) (hC : C.val = 128 * (2 + t.val / 16 % 2) + l.val) :
    iblk (F := Ideal) m c 1 t (ix2 r l) = proj m c (ix2 R C) := by
  unfold iblk; rw [View.read_apply, cast_eq]
  refine (congrFun (V_main_arg0 m c) _).trans (congrArg (m ((c.tc : Thread nD τ).loc main_arg0)) (funext fun a => Fin.ext ?_))
  have e := (idx_all t).2.1
  match a with
  | 0 => refine (win0_1.rect_emb_val t (ix2 r l) 0).trans ?_; rw [e.1]; refine Eq.trans ?_ hR.symm; exact congrArg (· + r.val) (Nat.mul_comm _ _)
  | 1 => refine (win0_1.rect_emb_val t (ix2 r l) 1).trans ?_; rw [e.2]; refine Eq.trans ?_ hC.symm; exact congrArg (· + l.val) (Nat.mul_comm _ _)

theorem iblk2_at (c : Dev nD) (t : Fin cfg0.N) (r : Fin 8192) (l : Fin 128) (R : Fin 16384) (C : Fin 2304)
    (hR : R.val = 8192 * (t.val / 32) + r.val) (hC : C.val = 128 * (4 + t.val / 16 % 2) + l.val) :
    iblk (F := Ideal) m c 2 t (ix2 r l) = proj m c (ix2 R C) := by
  unfold iblk; rw [View.read_apply, cast_eq]
  refine (congrFun (V_main_arg0 m c) _).trans (congrArg (m ((c.tc : Thread nD τ).loc main_arg0)) (funext fun a => Fin.ext ?_))
  have e := (idx_all t).2.2.1
  match a with
  | 0 => refine (win0_2.rect_emb_val t (ix2 r l) 0).trans ?_; rw [e.1]; refine Eq.trans ?_ hR.symm; exact congrArg (· + r.val) (Nat.mul_comm _ _)
  | 1 => refine (win0_2.rect_emb_val t (ix2 r l) 1).trans ?_; rw [e.2]; refine Eq.trans ?_ hC.symm; exact congrArg (· + l.val) (Nat.mul_comm _ _)

open Cert.ReferenceIdeal.Sb (qAt kAt vAt at3 score logRest weight)

/-- One term of the kernel's sum is the reference's, where the scores are the same real numbers. -/
theorem Ar_eq (q : FVec Ideal S512x128 .bf16) (X Y : FVec Ideal S8192x128 .bf16) (x : S16384x2304.Idx → EReal)
    (b : Fin 2) (h : Fin 4) (n : ℕ) (r : Fin 512) (s : Fin 8192) (hs : s.val = 512 * n + r.val)
    (hz : ∀ t, ∃ z : ℝ, zrow q X r t = z ∧ score x b h s t = z) (l : Fin 128) (d : Fin 64)
    (hv : ∀ t, Y (ix2 t l) = vAt x b h t d) (t : Fin 8192) :
    Ar q X Y n r l t = weight x b h s t * vAt x b h t d := by
  have hL : ∀ t, Lr q X n r t = logRest x b h s t := fun t => by
    obtain ⟨z, h1, h2⟩ := hz t
    unfold Lr logRest
    rw [h1, h2, l1F_eq]
    exact if_congr (by rw [Fin.lt_def, hs]) rfl rfl
  have hr : ∃ a : ℝ, logRest x b h s t = a := by
    obtain ⟨z, h1, h2⟩ := hz t
    unfold logRest
    rw [h2, ← EReal.coe_neg, lsF_coe]
    by_cases ht : t < s
    · exact ⟨_, if_pos ht⟩
    · exact ⟨0, if_neg ht⟩
  unfold Ar weight
  rw [hv, from_sub _ _ hr, show Lr q X n r = logRest x b h s from funext hL]
  obtain ⟨z, h1, h2⟩ := hz t
  rw [h1, h2, lbF_eq]
  exact congrArg (· * _) (if_congr (by rw [Fin.lt_def, hs]) rfl rfl)

/-- What a grid point leaves at row `r` and lane `64 e + d` of its block is the reference's entry. -/
theorem point_at (c : Dev nD) (hfin : ∀ (R : Fin 16384) (C : Fin 2304), C.val < 512 → ∃ a : ℝ, proj m c (ix2 R C) = a)
    (t : Fin cfg0.N) (r : Fin 512) (l : Fin 128) (b : Fin 2) (h : Fin 4) (s : Fin 8192) (d : Fin 64)
    (hb : b.val = t.val / 32) (hh : 64 * h.val + d.val = 128 * (t.val / 16 % 2) + l.val) (hs : s.val = 512 * (t.val % 16) + r.val) :
    outsAt0 (F := Ideal) m c t (ix2 r l) = ∑ j, weight (proj m c) b h s j * vAt (proj m c) b h j d := by
  have hz : ∀ (e : ℕ) (he : e < 2) (hhe : h.val = 2 * (t.val / 16 % 2) + e) (j : Fin 8192), ∃ z : ℝ,
      half (iblk (F := Ideal) m c 0 t) (iblk (F := Ideal) m c 1 t) r j e he = z ∧ score (proj m c) b h s j = z := by
    intro e he hhe j
    obtain ⟨z, h1, h2⟩ := score_scale (fun d => qAt (proj m c) b h s d) (fun d => kAt (proj m c) b h j d)
      (fun d => hfin _ _ (by simp only []; omega)) (fun d => hfin _ _ (by simp only []; omega)) (1 / 8)
    refine ⟨z, Eq.trans (Finset.sum_congr rfl fun d _ => ?_) h1, h2⟩
    exact congrArg₂ (fun u v : EReal => u * ((1 / 8 : ℝ) : EReal) * v)
      (iblk0_at m c t r _ _ _ (by simp only []; omega) (by simp only []; omega))
      (iblk1_at m c t j _ _ _ (by simp only []; omega) (by simp only []; omega))
  have hv : ∀ j, iblk (F := Ideal) m c 2 t (ix2 j l) = vAt (proj m c) b h j d := fun j =>
    iblk2_at m c t j l _ _ (by simp only []; omega) (by simp only []; omega)
  rw [out_at, (idx_all t).2.2.2.2]
  by_cases hl : (l : ℕ) < 64
  · rw [if_pos hl]
    exact Finset.sum_congr rfl fun j _ => Ar_eq _ _ _ _ b h _ r s hs (fun j => by rw [zrow54]; exact hz 0 (by omega) (by omega) j) l d hv j
  · rw [if_neg hl]
    exact Finset.sum_congr rfl fun j _ => Ar_eq _ _ _ _ b h _ r s hs (fun j => by rw [zrow55]; exact hz 1 (by omega) (by omega) j) l d hv j

/-- What a grid point writes back is its block of the reference's result. -/
theorem flushed_eq (c : Dev nD) (hfin : ∀ (R : Fin 16384) (C : Fin 2304), C.val < 512 → ∃ a : ℝ, proj m c (ix2 R C) = a) (t : Fin cfg0.N) :
    (dats m 0 c).flushed 3 t = ((cfg0.win 3).blk t).view.read (Elt Ideal) (Cert.ReferenceIdeal.Read.val_main_v32 (F := Ideal) (proj m c)) := by
  rw [Value.flushed3]
  funext y
  rw [View.read_apply, cast_eq]
  have hN : t.val < 64 := lt_of_lt_of_eq t.isLt N_0
  have e := (idx_all t).2.2.2.1
  have y0 : (y 0).val < 512 := (y 0).isLt
  have y1 : (y 1).val < 128 := (y 1).isLt
  refine Eq.trans ?_ ((point_at m c hfin t (⟨(y 0).val, y0⟩ : Fin 512) (⟨(y 1).val, y1⟩ : Fin 128) (⟨t.val / 32, by omega⟩ : Fin 2)
    (⟨2 * (t.val / 16 % 2) + (y 1).val / 64, by omega⟩ : Fin 4) (⟨512 * (t.val % 16) + (y 0).val, by omega⟩ : Fin 8192)
    (⟨(y 1).val % 64, by omega⟩ : Fin 64) rfl (by simp only []; omega) rfl).trans (Eq.trans (Cert.ReferenceIdeal.Sb.ref_at (proj m c) _ _ _ _).symm ?_))
  · exact congrArg (outsAt0 m c t) (funext fun a => match a with | 0 => rfl | 1 => rfl)
  · refine congrArg (Cert.ReferenceIdeal.Read.val_main_v32 (F := Ideal) (proj m c)) (funext fun a => Fin.ext ?_)
    match a with
    | 0 => refine Eq.trans ?_ (win0_3.rect_emb_val t y 0).symm; rw [e.1]
           show 8192 * (t.val / 32) + (512 * (t.val % 16) + (y 0).val) = (16 * (t.val / 32) + t.val % 16) * 512 + (y 0).val; omega
    | 1 => refine Eq.trans ?_ (win0_3.rect_emb_val t y 1).symm; rw [e.2]
           show 64 * (2 * (t.val / 16 % 2) + (y 1).val / 64) + (y 1).val % 64 = (t.val / 16 % 2) * 128 + (y 1).val; omega

/-- The blocks cover the result. -/
theorem cover (i : S16384x256.Idx) : ∃ t : Fin cfg0.N, (cfg0.win 3).flush t = true ∧ i ∈ ((cfg0.win 3).blk t).view.set := by
  have h0 : (i 0).val < 16384 := (i 0).isLt
  have h1 : (i 1).val < 256 := (i 1).isLt
  have hN : cfg0.N = 64 := N_0
  obtain ⟨t, ht⟩ : ∃ t : Fin cfg0.N, t.val = 32 * ((i 0).val / 8192) + 16 * ((i 1).val / 128) + (i 0).val / 512 % 16 :=
    ⟨⟨32 * ((i 0).val / 8192) + 16 * ((i 1).val / 128) + (i 0).val / 512 % 16, by omega⟩, rfl⟩
  refine ⟨t, flush0_3 t, ?_⟩
  show i ∈ ((View.whole main_v0).slice (win0_3.rect t)).set
  rw [View.set_slice_whole, Rect.mem_set_unit]
  have e := (idx_all t).2.2.2.1
  intro a
  match a with
  | 0 => show win0_3.index t 0 * 512 ≤ (i 0).val ∧ (i 0).val < win0_3.index t 0 * 512 + 512
         rw [e.1]; omega
  | 1 => show win0_3.index t 1 * 128 ≤ (i 1).val ∧ (i 1).val < win0_3.index t 1 * 128 + 128
         rw [e.2]; omega

/-- The kernel's result array is the reference's function of the projections. -/
theorem final_eq (c : Dev nD) (hfin : ∀ (R : Fin 16384) (C : Fin 2304), C.val < 512 → ∃ a : ℝ, proj m c (ix2 R C) = a) :
    (dats m 0 c).arrAt 3 cfg0.N = Cert.ReferenceIdeal.Read.val_main_v32 (F := Ideal) (proj m c) :=
  (dats m 0 c).arrAt_eq_of_cover 3 _ (fun t _ => flushed_eq m c hfin t) cover

end Cert.KernelIdeal.Sb
-- ==== Proof.OpRun.lean ====
/- The output projection's body, run at any point: at the first it starts the running counts, at the
   others it adds to them. -/
module

public import proofs.«01_k».proof.Proof.Gen.Kernel5Ideal.Frame
public import proofs.«01_k».proof.Proof.Gen.Kernel5Ideal.Skeleton

@[expose] public section

set_option maxRecDepth 16384

noncomputable section

namespace Cert.Op

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- The body's one branch is taken. -/
abbrev First (i : grid0.Coords) : Prop := (Scalar.cmpi .ne (Scalar.extui (Scalar.cmpi .eq (BitVec.ofNat 32 (i 0).val) 0#32)) 0#32) = 1#1

/-- It is taken at the first point only. -/
theorem first_iff : ∀ t : Fin cfg0.N, First (grid0.coords t) ↔ t.val = 0 := fun t => by
  have ht : t.val < 32 := Nat.lt_of_lt_of_eq t.isLt N_0
  have e0 : (grid0.coords t 0).val = t.val / 1 % 32 := Pipeline.Grid.coords_val t 0 (by decide) rfl
  simp only [First, e0]
  word_cmp

set_option maxHeartbeats 1000000 in
/-- The body at the first point: the stores it leaves in each output's buffer, last first, found by running it. -/
def runFirst (c : Dev nD) (i : grid0.Coords) (arg1 : Memref sig .tc .vmem S512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S4096x128 .f32) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .f32) (harg15 : arg15.IsWhole) (hc0 : First i)
    (x0 : Vec F S512x256 .f32) (x1 : Vec F S512x512 .f32) (x2 : Vec F S512x256 .f32) (x3 : Vec F S512x1024 .f32) (x4 : Vec F S1x6x1024 .f32) (x5 : Vec F S1x1024 .f32) (x6 : Vec F S1024x1024 .bf16) (x7 : Vec F S1x1024 .f32) (x8 : Vec F S1024x128 .bf16) (x9 : Vec F S1x128 .f32) :
    Σ' (L10 : List (View.Piece (Elt F) S512x1024 .f32)), Σ' (L11 : List (View.Piece (Elt F) S4096x128 .f32)), Σ' (L12 : List (View.Piece (Elt F) S512x128 .i32)), Σ' (L13 : List (View.Piece (Elt F) S512x128 .f32)), { L14 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_outproj_router_eq_skeleton]; unfold cc0_outproj_router_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    iexists _; iexact H14

set_option maxHeartbeats 1000000 in
/-- The body at a later point, where the last output's buffer holds what the point before left. -/
def runLater (c : Dev nD) (i : grid0.Coords) (arg1 : Memref sig .tc .vmem S512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S4096x128 .f32) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .f32) (harg15 : arg15.IsWhole) (hc0 : ¬First i)
    (x0 : Vec F S512x256 .f32) (x1 : Vec F S512x512 .f32) (x2 : Vec F S512x256 .f32) (x3 : Vec F S512x1024 .f32) (x4 : Vec F S1x6x1024 .f32) (x5 : Vec F S1x1024 .f32) (x6 : Vec F S1024x1024 .bf16) (x7 : Vec F S1x1024 .f32) (x8 : Vec F S1024x128 .bf16) (x9 : Vec F S1x128 .f32) (xo14 : Vec F S8x128 .f32) :
    Σ' (L10 : List (View.Piece (Elt F) S512x1024 .f32)), Σ' (L11 : List (View.Piece (Elt F) S4096x128 .f32)), Σ' (L12 : List (View.Piece (Elt F) S512x128 .i32)), Σ' (L13 : List (View.Piece (Elt F) S512x128 .f32)), { L14 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_outproj_router_eq_skeleton]; unfold cc0_outproj_router_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    iexists _; iexact H14

end Cert.Op

end
-- ==== Proof.OpFrame.lean ====
/- The output projection runs: what each point leaves in each output's buffer, and the whole program. -/
module

public import proofs.«01_k».proof.Proof.OpRun
public import Idealize.ShloMosaic.Lib.Claim

@[expose] public section

set_option maxRecDepth 16384

noncomputable section

namespace Cert.Op

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x6x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4096x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x128 .i32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x128 .f32 := win0_14.stage (cfg0.slots t 14)
abbrev hs14 (t : Fin cfg0.N) : (ms14 t).IsWhole := hstage0_14 ((cfg0.slots t 14).cast nbuf0_14)

/-! One buffer of each output, through which its contents are read. -/

abbrev VO10 : View sig .tc .vmem S512x1024 .f32 := (Memref.whole cc0_stg10_0 : Memref sig .tc .vmem S512x1024 .f32).view
abbrev VO11 : View sig .tc .vmem S4096x128 .f32 := (Memref.whole cc0_stg11_0 : Memref sig .tc .vmem S4096x128 .f32).view
abbrev VO12 : View sig .tc .vmem S512x128 .i32 := (Memref.whole cc0_stg12_0 : Memref sig .tc .vmem S512x128 .i32).view
abbrev VO13 : View sig .tc .vmem S512x128 .f32 := (Memref.whole cc0_stg13_0 : Memref sig .tc .vmem S512x128 .f32).view
abbrev VO14 : View sig .tc .vmem S8x128 .f32 := (Memref.whole cc0_stg14_0 : Memref sig .tc .vmem S8x128 .f32).view

/-! ## What a point leaves -/

/-- The stores of the first point. -/
def atFirst (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) ((first_iff t).mpr h) (iblk m c 0 t) (iblk m c 1 t) (iblk m c 2 t) (iblk m c 3 t) (iblk m c 4 t) (iblk m c 5 t) (iblk m c 6 t) (iblk m c 7 t) (iblk m c 8 t) (iblk m c 9 t)

/-- The stores of a later point, over the last output's contents `x`. -/
def atLater (c : Dev nD) (t : Fin cfg0.N) (h : ¬t.val = 0) (x : Vec F S8x128 .f32) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (fun e => h ((first_iff t).mp e)) (iblk m c 0 t) (iblk m c 1 t) (iblk m c 2 t) (iblk m c 3 t) (iblk m c 4 t) (iblk m c 5 t) (iblk m c 6 t) (iblk m c 7 t) (iblk m c 8 t) (iblk m c 9 t) x

/-- The eight strided rectangles the second output is stored through, last first. -/
def rowRects : List (Rect S4096x128) :=
  [⟨⟨![7, 0], S512x128.size, ![8, 1], inb_S4096x128_S512x128_7_0_s_8_1⟩, spos_8_1⟩,
   ⟨⟨![6, 0], S512x128.size, ![8, 1], inb_S4096x128_S512x128_6_0_s_8_1⟩, spos_8_1⟩,
   ⟨⟨![5, 0], S512x128.size, ![8, 1], inb_S4096x128_S512x128_5_0_s_8_1⟩, spos_8_1⟩,
   ⟨⟨![4, 0], S512x128.size, ![8, 1], inb_S4096x128_S512x128_4_0_s_8_1⟩, spos_8_1⟩,
   ⟨⟨![3, 0], S512x128.size, ![8, 1], inb_S4096x128_S512x128_3_0_s_8_1⟩, spos_8_1⟩,
   ⟨⟨![2, 0], S512x128.size, ![8, 1], inb_S4096x128_S512x128_2_0_s_8_1⟩, spos_8_1⟩,
   ⟨⟨![1, 0], S512x128.size, ![8, 1], inb_S4096x128_S512x128_1_0_s_8_1⟩, spos_8_1⟩,
   ⟨⟨![0, 0], S512x128.size, ![8, 1], inb_S4096x128_S512x128_0_0_s_8_1⟩, spos_8_1⟩]

theorem mem_rowRect (k : Nat)
    (inb : ∀ a, S512x128.size a = 0 ∨ (![k, 0] : Fin 2 → Nat) a + (![8, 1] : Fin 2 → Nat) a * (S512x128.size a - 1) < S4096x128.size a)
    (j : S4096x128.Idx) (hj : (j 0).val % 8 = k) :
    j ∈ (⟨⟨![k, 0], S512x128.size, ![8, 1], inb⟩, spos_8_1⟩ : Rect S4096x128).set := by
  have h0 : (j 0).val < 4096 := (j 0).isLt
  have h1 : (j 1).val < 128 := (j 1).isLt
  refine (LoadRect.mem_set _).mpr fun a => ?_
  fin_cases a
  · refine ⟨(j 0).val / 8, ?_, ?_⟩
    · show (j 0).val / 8 < 512; omega
    · show (j 0).val = k + 8 * ((j 0).val / 8); omega
  · refine ⟨(j 1).val, h1, ?_⟩
    show (j 1).val = 0 + 1 * (j 1).val; omega

/-- Those rectangles hold every entry of the block. -/
theorem rowRects_cover (j : S4096x128.Idx) : ∃ r ∈ rowRects, j ∈ r.set := by
  have hk : (j 0).val % 8 < 8 := Nat.mod_lt _ (by decide)
  obtain h | h | h | h | h | h | h | h : (j 0).val % 8 = 0 ∨ (j 0).val % 8 = 1 ∨ (j 0).val % 8 = 2 ∨ (j 0).val % 8 = 3 ∨ (j 0).val % 8 = 4 ∨ (j 0).val % 8 = 5 ∨ (j 0).val % 8 = 6 ∨ (j 0).val % 8 = 7 := by omega
  · exact ⟨_, .tail _ (.tail _ (.tail _ (.tail _ (.tail _ (.tail _ (.tail _ (.head _))))))), mem_rowRect 0 _ j h⟩
  · exact ⟨_, .tail _ (.tail _ (.tail _ (.tail _ (.tail _ (.tail _ (.head _)))))), mem_rowRect 1 _ j h⟩
  · exact ⟨_, .tail _ (.tail _ (.tail _ (.tail _ (.tail _ (.head _))))), mem_rowRect 2 _ j h⟩
  · exact ⟨_, .tail _ (.tail _ (.tail _ (.tail _ (.head _)))), mem_rowRect 3 _ j h⟩
  · exact ⟨_, .tail _ (.tail _ (.tail _ (.head _))), mem_rowRect 4 _ j h⟩
  · exact ⟨_, .tail _ (.tail _ (.head _)), mem_rowRect 5 _ j h⟩
  · exact ⟨_, .tail _ (.head _), mem_rowRect 6 _ j h⟩
  · exact ⟨_, .head _, mem_rowRect 7 _ j h⟩

/-- Stores through those rectangles fill the block. -/
theorem rows_cover {L : List (View.Piece (Elt F) S4096x128 .f32)} (h : L.map (fun p => p.1) = rowRects) (j : S4096x128.Idx) :
    ∃ p ∈ L, j ∈ p.1.set := by
  obtain ⟨r, hr, hj⟩ := rowRects_cover j
  rw [← h] at hr
  obtain ⟨p, hp, rfl⟩ := List.mem_map.mp hr
  exact ⟨p, hp, hj⟩

/-! The stores of a point fill each output's block. -/

theorem coverFirst10 (c : Dev nD) (t : Fin cfg0.N) (h : t.val = 0) (y : S512x1024.Idx) : ∃ p ∈ (atFirst m c t h).1, y ∈ p.1.set :=
  View.cover_of_tiledL (atFirst m c t h).1 S512x1024.size (by sl_kernel_rfl) y
theorem coverFirst11 (c : Dev nD) (t : Fin cfg0.N) (h : t.val = 0) (y : S4096x128.Idx) : ∃ p ∈ (atFirst m c t h).2.1, y ∈ p.1.set :=
  rows_cover (by sl_kernel_rfl) y
theorem coverFirst12 (c : Dev nD) (t : Fin cfg0.N) (h : t.val = 0) (y : S512x128.Idx) : ∃ p ∈ (atFirst m c t h).2.2.1, y ∈ p.1.set :=
  View.cover_of_tiledL (atFirst m c t h).2.2.1 S512x128.size (by sl_kernel_rfl) y
theorem coverFirst13 (c : Dev nD) (t : Fin cfg0.N) (h : t.val = 0) (y : S512x128.Idx) : ∃ p ∈ (atFirst m c t h).2.2.2.1, y ∈ p.1.set :=
  View.cover_of_tiledL (atFirst m c t h).2.2.2.1 S512x128.size (by sl_kernel_rfl) y
theorem coverFirst14 (c : Dev nD) (t : Fin cfg0.N) (h : t.val = 0) (y : S8x128.Idx) : ∃ p ∈ (atFirst m c t h).2.2.2.2.1, y ∈ p.1.set :=
  View.cover_of_tiledL (atFirst m c t h).2.2.2.2.1 S8x128.size (by sl_kernel_rfl) y
theorem coverLater10 (c : Dev nD) (t : Fin cfg0.N) (h : ¬t.val = 0) (x : Vec F S8x128 .f32) (y : S512x1024.Idx) : ∃ p ∈ (atLater m c t h x).1, y ∈ p.1.set :=
  View.cover_of_tiledL (atLater m c t h x).1 S512x1024.size (by sl_kernel_rfl) y
theorem coverLater11 (c : Dev nD) (t : Fin cfg0.N) (h : ¬t.val = 0) (x : Vec F S8x128 .f32) (y : S4096x128.Idx) : ∃ p ∈ (atLater m c t h x).2.1, y ∈ p.1.set :=
  rows_cover (by sl_kernel_rfl) y
theorem coverLater12 (c : Dev nD) (t : Fin cfg0.N) (h : ¬t.val = 0) (x : Vec F S8x128 .f32) (y : S512x128.Idx) : ∃ p ∈ (atLater m c t h x).2.2.1, y ∈ p.1.set :=
  View.cover_of_tiledL (atLater m c t h x).2.2.1 S512x128.size (by sl_kernel_rfl) y
theorem coverLater13 (c : Dev nD) (t : Fin cfg0.N) (h : ¬t.val = 0) (x : Vec F S8x128 .f32) (y : S512x128.Idx) : ∃ p ∈ (atLater m c t h x).2.2.2.1, y ∈ p.1.set :=
  View.cover_of_tiledL (atLater m c t h x).2.2.2.1 S512x128.size (by sl_kernel_rfl) y
theorem coverLater14 (c : Dev nD) (t : Fin cfg0.N) (h : ¬t.val = 0) (x : Vec F S8x128 .f32) (y : S8x128.Idx) : ∃ p ∈ (atLater m c t h x).2.2.2.2.1, y ∈ p.1.set :=
  View.cover_of_tiledL (atLater m c t h x).2.2.2.2.1 S8x128.size (by sl_kernel_rfl) y

/-- The blocks those stores leave, one for each output. -/
def leftFirst (c : Dev nD) (t : Fin cfg0.N) (h : t.val = 0) : Vec F S512x1024 .f32 × Vec F S4096x128 .f32 × Vec F S512x128 .i32 × Vec F S512x128 .f32 × Vec F S8x128 .f32 :=
  (VO10.read (Elt F) (VO10.writes (Elt F) VO10.junk (atFirst m c t h).1),
   VO11.read (Elt F) (VO11.writes (Elt F) VO11.junk (atFirst m c t h).2.1),
   VO12.read (Elt F) (VO12.writes (Elt F) VO12.junk (atFirst m c t h).2.2.1),
   VO13.read (Elt F) (VO13.writes (Elt F) VO13.junk (atFirst m c t h).2.2.2.1),
   VO14.read (Elt F) (VO14.writes (Elt F) VO14.junk (atFirst m c t h).2.2.2.2.1))

/-- The blocks those stores leave, one for each output. -/
def leftLater (c : Dev nD) (t : Fin cfg0.N) (h : ¬t.val = 0) (x : Vec F S8x128 .f32) : Vec F S512x1024 .f32 × Vec F S4096x128 .f32 × Vec F S512x128 .i32 × Vec F S512x128 .f32 × Vec F S8x128 .f32 :=
  (VO10.read (Elt F) (VO10.writes (Elt F) VO10.junk (atLater m c t h x).1),
   VO11.read (Elt F) (VO11.writes (Elt F) VO11.junk (atLater m c t h x).2.1),
   VO12.read (Elt F) (VO12.writes (Elt F) VO12.junk (atLater m c t h x).2.2.1),
   VO13.read (Elt F) (VO13.writes (Elt F) VO13.junk (atLater m c t h x).2.2.2.1),
   VO14.read (Elt F) (VO14.writes (Elt F) VO14.junk (atLater m c t h x).2.2.2.2.1))

/-- What the outputs' buffers hold after point `n`. -/
def left (c : Dev nD) : (n : ℕ) → n < cfg0.N → Vec F S512x1024 .f32 × Vec F S4096x128 .f32 × Vec F S512x128 .i32 × Vec F S512x128 .f32 × Vec F S8x128 .f32
  | 0, hn => leftFirst m c ⟨0, hn⟩ rfl
  | n + 1, hn => leftLater m c ⟨n + 1, hn⟩ (Nat.succ_ne_zero n) (left c n (Nat.lt_of_succ_lt hn)).2.2.2.2

theorem left_first (c : Dev nD) (t : Fin cfg0.N) (h : t.val = 0) : left m c t.val t.isLt = leftFirst m c t h := by
  obtain ⟨n, hn⟩ := t
  cases n with
  | zero => rfl
  | succ n => exact absurd h (Nat.succ_ne_zero n)

theorem left_later (c : Dev nD) (t : Fin cfg0.N) (h : ¬t.val = 0) :
    left m c t.val t.isLt = leftLater m c t h (left m c (t.val - 1) (Nat.lt_of_le_of_lt (Nat.sub_le _ _) t.isLt)).2.2.2.2 := by
  obtain ⟨n, hn⟩ := t
  cases n with
  | zero => exact absurd rfl h
  | succ n => rfl

/-! ## The pipeline's data -/

/-- The arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (left m c t.val t.isLt).1
    | ⟨11, _⟩ => (left m c t.val t.isLt).2.1
    | ⟨12, _⟩ => (left m c t.val t.isLt).2.2.1
    | ⟨13, _⟩ => (left m c t.val t.isLt).2.2.2.1
    | ⟨14, _⟩ => (left m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (left m c t.val t.isLt).1 := by dsimp only [dats]
theorem after11 (c : Dev nD) (t : Fin cfg0.N) : (dats m 0 c).after 11 t = (left m c t.val t.isLt).2.1 := by dsimp only [dats]
theorem after12 (c : Dev nD) (t : Fin cfg0.N) : (dats m 0 c).after 12 t = (left m c t.val t.isLt).2.2.1 := by dsimp only [dats]
theorem after13 (c : Dev nD) (t : Fin cfg0.N) : (dats m 0 c).after 13 t = (left m c t.val t.isLt).2.2.2.1 := by dsimp only [dats]
theorem after14 (c : Dev nD) (t : Fin cfg0.N) : (dats m 0 c).after 14 t = (left m c t.val t.isLt).2.2.2.2 := by dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- At a later point the last output's buffer holds what the point before left there. -/
theorem before14 (c : Dev nD) (t : Fin cfg0.N) (h0 : ¬t.val = 0) (d) :
    (dats m 0 c).before 14 t d = (left m c (t.val - 1) (Nat.lt_of_le_of_lt (Nat.sub_le _ _) t.isLt)).2.2.2.2 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t))

set_option maxHeartbeats 2400000 in
/-- The body takes the one to the other at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  by_cases h0 : t.val = 0
  · rw [left_first m c t h0]
    unfold leftFirst; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((atFirst m c t h0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverFirst10 m c t h0)
    isplitl [H11]
    · unfold owns; iexists _; isplitr
      swap; · iexact H11
      ipureintro; exact View.read_writes_of_cover _ _ _ _ _ (coverFirst11 m c t h0)
    isplitl [H12]
    · unfold owns; iexists _; isplitr
      swap; · iexact H12
      ipureintro; exact View.read_writes_of_cover _ _ _ _ _ (coverFirst12 m c t h0)
    isplitl [H13]
    · unfold owns; iexists _; isplitr
      swap; · iexact H13
      ipureintro; exact View.read_writes_of_cover _ _ _ _ _ (coverFirst13 m c t h0)
    unfold owns; iexists _; isplitr
    swap; · iexact H14
    ipureintro; exact View.read_writes_of_cover _ _ _ _ _ (coverFirst14 m c t h0)
  · rw [left_later m c t h0]
    simp only [before14 m c t h0]
    unfold leftLater; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((atLater m c t h0 _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverLater10 m c t h0 _)
    isplitl [H11]
    · unfold owns; iexists _; isplitr
      swap; · iexact H11
      ipureintro; exact View.read_writes_of_cover _ _ _ _ _ (coverLater11 m c t h0 _)
    isplitl [H12]
    · unfold owns; iexists _; isplitr
      swap; · iexact H12
      ipureintro; exact View.read_writes_of_cover _ _ _ _ _ (coverLater12 m c t h0 _)
    isplitl [H13]
    · unfold owns; iexists _; isplitr
      swap; · iexact H13
      ipureintro; exact View.read_writes_of_cover _ _ _ _ _ (coverLater13 m c t h0 _)
    unfold owns; iexists _; isplitr
    swap; · iexact H14
    ipureintro; exact View.read_writes_of_cover _ _ _ _ _ (coverLater14 m c t h0 _)

/-- The pipeline's row of the body table is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The program -/

set_option backward.isDefEq.respectTransparency.types false in
/-- The program runs, every array of the pipeline ends as computed from its data, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiet m ρ))

end Cert.Op

end
-- ==== Proof.OpVal.lean ====
/- What one grid point of the output projection leaves in its first two blocks, entry by entry. -/
module

public import proofs.«01_k».proof.Proof.OpFrame
public import Idealize.ShloMosaic.Lib.Pointwise
public import Idealize.ShloMosaic.Lib.Pipeline.Value
public import Idealize.ShloMosaic.Lib.Pipeline.ValueKit.Tiles

@[expose] public section

set_option maxRecDepth 16384
noncomputable section

namespace Cert.Op

open Idealize.ShloMosaic Idealize.ShloMosaic.TcCoe Idealize.SL.Sem
open Cert.Kernel5Ideal Cert.Kernel5Ideal.Gen

/-- One entry `x` of a normed row of mean taken over `N`, with its weight `g`. -/
def normed {n : ℕ} (N : BitVec 32) (row : Fin n → EReal) (x g : EReal) : EReal :=
  x * Ideal.rsqrt (Ideal.div (∑ k, row k * row k) (Ideal.ofBits .f32 N) + Ideal.ofBits .f32 0x358637BD#32) * g

/-- A normed row times a column of a weight. -/
def normDot {n : ℕ} (N : BitVec 32) (row g w : Fin n → EReal) : EReal := ∑ k, normed N row (row k) (g k) * w k

theorem pay3_at (v5 : FVec Ideal S512x256 .f32) (v6 : FVec Ideal S1x256 .f32) (v21 : FVec Ideal S256x1024 .bf16) (r : Fin 512) (q : Fin 1024) :
    k0_pay3 (F := Ideal) v5 v6 v21 (ix2 r q)
      = normDot 0x43800000#32 (fun k => v5 (ix2 r k)) (fun k => v6 (ix2 (0 : Fin 1) k)) (fun k => v21 (ix2 k q)) := by
  pointwise [k0_pay3]
  rfl

theorem pay5_at (v24 : FVec Ideal S512x512 .f32) (r k : Fin 512) :
    k0_pay5 (F := Ideal) v24 (ix2 r k)
      = Ideal.rsqrt (Ideal.div (∑ k, v24 (ix2 r k) * v24 (ix2 r k)) (Ideal.ofBits .f32 0x44000000#32) + Ideal.ofBits .f32 0x358637BD#32) := by
  pointwise [k0_pay5]

/-- The residual sum's block. -/
theorem pay6_at (v0 : FVec Ideal S1x6x1024 .f32) (v23 : FVec Ideal S512x1024 .f32) (v24 : FVec Ideal S512x512 .f32) (v25 : FVec Ideal S1x512 .f32)
    (v40 : FVec Ideal S512x1024 .bf16) (v44 : FVec Ideal S512x256 .f32) (v45 : FVec Ideal S1x256 .f32) (v60 : FVec Ideal S256x1024 .bf16)
    (v64 : FVec Ideal S512x1024 .f32) (r : Fin 512) (q : Fin 1024) :
    k0_pay6 (F := Ideal) (k0_pay1 v0) v23 v24 (k0_pay4 v25) (k0_pay5 v24) v40 v44 v45 v60 v64 (ix2 r q)
      = v64 (ix2 r q) + v0 (ix3 (0 : Fin 1) (2 : Fin 6) q)
        * (v23 (ix2 r q)
          + normDot 0x44000000#32 (fun k => v24 (ix2 r k)) (fun k => v25 (ix2 (0 : Fin 1) k)) (fun k => v40 (ix2 k q))
          + normDot 0x43800000#32 (fun k => v44 (ix2 r k)) (fun k => v45 (ix2 (0 : Fin 1) k)) (fun k => v60 (ix2 k q))) := by
  pointwise [k0_pay6, k0_pay1, k0_pay4, k0_pay5]
  rfl

/-- The normed rows' block, off the residual sum's. -/
theorem pay9_at (v0 : FVec Ideal S1x6x1024 .f32) (y : FVec Ideal S512x1024 .f32) (v71 : FVec Ideal S1x1024 .f32) (v74 : FVec Ideal S512 .f32)
    (h : ∀ r, v74 (ix1 r) = ∑ k : Fin 1024, y (ix2 r k) * y (ix2 r k)) (r : Fin 512) (q : Fin 1024) :
    k0_pay9 (F := Ideal) (k0_pay1 v0) y (k0_pay7 v71) v74 (ix2 r q)
      = normed 0x44800000#32 (fun k => y (ix2 r k)) (y (ix2 r q)) (v71 (ix2 (0 : Fin 1) q)) * (1 + v0 (ix3 (0 : Fin 1) (4 : Fin 6) q))
        + v0 (ix3 (0 : Fin 1) (3 : Fin 6) q) := by
  pointwise [k0_pay9, k0_pay1, k0_pay7]
  rw [h]
  rfl

theorem pay8_at (v1 : FVec Ideal S6x1024 .f32) (v23 : FVec Ideal S512x1024 .f32) (v24 : FVec Ideal S512x512 .f32) (v26 : FVec Ideal S1x512 .f32)
    (v35 : FVec Ideal S512x512 .f32)
    (v40 : FVec Ideal S512x1024 .bf16) (v44 : FVec Ideal S512x256 .f32) (v45 : FVec Ideal S1x256 .f32) (v60 : FVec Ideal S256x1024 .bf16)
    (v64 : FVec Ideal S512x1024 .f32) (r : Fin 512) :
    k0_pay8 (F := Ideal) v1 v23 v24 v26 v35 v40 v44 v45 v60 v64 (ix1 r)
      = ∑ k : Fin 1024, k0_pay6 (F := Ideal) v1 v23 v24 v26 v35 v40 v44 v45 v60 v64 (ix2 r k) * k0_pay6 (F := Ideal) v1 v23 v24 v26 v35 v40 v44 v45 v60 v64 (ix2 r k) := by
  unfold k0_pay8
  generalize k0_pay6 (F := Ideal) v1 v23 v24 v26 v35 v40 v44 v45 v60 v64 = y
  pointwise

variable {F : FTy → Type} [FloatOps F]
variable (m : (ℓ : Loc nD τ sig) → Buf (Elt F) ℓ)

/-- The residual sum a point computes, as it reads its buffers. -/
def sumRead (c : Dev nD) (t : Fin cfg0.N) : FVec F S512x1024 .f32 :=
  k0_pay6 (k0_pay1 (View.readAt (Elt F) (ms4 t).view (Rect.unit (s := S1x6x1024) ![0, 0, 0] S1x6x1024.size inb_S1x6x1024_S1x6x1024_0_0_0).toLoadRect ((hs4 t).unread (iblk m c 4 t))))
    (k0_pay3 (View.readAt (Elt F) (ms0 t).view (Rect.unit (s := S512x256) ![0, 0] S512x256.size inb_S512x256_S512x256_0_0).toLoadRect ((hs0 t).unread (iblk m c 0 t))) (View.readAt (Elt F) (ms5 t).view (Rect.unit (s := S1x1024) ![0, 0] S1x256.size inb_S1x1024_S1x256_0_0).toLoadRect ((hs5 t).unread (iblk m c 5 t))) (View.readAt (Elt F) (ms6 t).view (Rect.unit (s := S1024x1024) ![0, 0] S256x1024.size inb_S1024x1024_S256x1024_0_0).toLoadRect ((hs6 t).unread (iblk m c 6 t))))
    (View.readAt (Elt F) (ms1 t).view (Rect.unit (s := S512x512) ![0, 0] S512x512.size inb_S512x512_S512x512_0_0).toLoadRect ((hs1 t).unread (iblk m c 1 t))) (k0_pay4 (View.readAt (Elt F) (ms5 t).view (Rect.unit (s := S1x1024) ![0, 256] S1x512.size inb_S1x1024_S1x512_0_256).toLoadRect ((hs5 t).unread (iblk m c 5 t)))) (k0_pay5 (View.readAt (Elt F) (ms1 t).view (Rect.unit (s := S512x512) ![0, 0] S512x512.size inb_S512x512_S512x512_0_0).toLoadRect ((hs1 t).unread (iblk m c 1 t))))
    (View.readAt (Elt F) (ms6 t).view (Rect.unit (s := S1024x1024) ![256, 0] S512x1024.size inb_S1024x1024_S512x1024_256_0).toLoadRect ((hs6 t).unread (iblk m c 6 t))) (View.readAt (Elt F) (ms2 t).view (Rect.unit (s := S512x256) ![0, 0] S512x256.size inb_S512x256_S512x256_0_0).toLoadRect ((hs2 t).unread (iblk m c 2 t))) (View.readAt (Elt F) (ms5 t).view (Rect.unit (s := S1x1024) ![0, 768] S1x256.size inb_S1x1024_S1x256_0_768).toLoadRect ((hs5 t).unread (iblk m c 5 t)))
    (View.readAt (Elt F) (ms6 t).view (Rect.unit (s := S1024x1024) ![768, 0] S256x1024.size inb_S1024x1024_S256x1024_768_0).toLoadRect ((hs6 t).unread (iblk m c 6 t))) (View.readAt (Elt F) (ms3 t).view (Rect.unit (s := S512x1024) ![0, 0] S512x1024.size inb_S512x1024_S512x1024_0_0).toLoadRect ((hs3 t).unread (iblk m c 3 t)))

/-- The normed rows it computes from that sum. -/
def normRead (c : Dev nD) (t : Fin cfg0.N) : FVec F S512x1024 .f32 :=
  k0_pay9 (k0_pay1 (View.readAt (Elt F) (ms4 t).view (Rect.unit (s := S1x6x1024) ![0, 0, 0] S1x6x1024.size inb_S1x6x1024_S1x6x1024_0_0_0).toLoadRect ((hs4 t).unread (iblk m c 4 t)))) (sumRead m c t) (k0_pay7 (View.readAt (Elt F) (ms7 t).view (Rect.unit (s := S1x1024) ![0, 0] S1x1024.size inb_S1x1024_S1x1024_0_0).toLoadRect ((hs7 t).unread (iblk m c 7 t)))) (k0_pay8 (k0_pay1 (View.readAt (Elt F) (ms4 t).view (Rect.unit (s := S1x6x1024) ![0, 0, 0] S1x6x1024.size inb_S1x6x1024_S1x6x1024_0_0_0).toLoadRect ((hs4 t).unread (iblk m c 4 t))))
    (k0_pay3 (View.readAt (Elt F) (ms0 t).view (Rect.unit (s := S512x256) ![0, 0] S512x256.size inb_S512x256_S512x256_0_0).toLoadRect ((hs0 t).unread (iblk m c 0 t))) (View.readAt (Elt F) (ms5 t).view (Rect.unit (s := S1x1024) ![0, 0] S1x256.size inb_S1x1024_S1x256_0_0).toLoadRect ((hs5 t).unread (iblk m c 5 t))) (View.readAt (Elt F) (ms6 t).view (Rect.unit (s := S1024x1024) ![0, 0] S256x1024.size inb_S1024x1024_S256x1024_0_0).toLoadRect ((hs6 t).unread (iblk m c 6 t))))
    (View.readAt (Elt F) (ms1 t).view (Rect.unit (s := S512x512) ![0, 0] S512x512.size inb_S512x512_S512x512_0_0).toLoadRect ((hs1 t).unread (iblk m c 1 t))) (k0_pay4 (View.readAt (Elt F) (ms5 t).view (Rect.unit (s := S1x1024) ![0, 256] S1x512.size inb_S1x1024_S1x512_0_256).toLoadRect ((hs5 t).unread (iblk m c 5 t)))) (k0_pay5 (View.readAt (Elt F) (ms1 t).view (Rect.unit (s := S512x512) ![0, 0] S512x512.size inb_S512x512_S512x512_0_0).toLoadRect ((hs1 t).unread (iblk m c 1 t))))
    (View.readAt (Elt F) (ms6 t).view (Rect.unit (s := S1024x1024) ![256, 0] S512x1024.size inb_S1024x1024_S512x1024_256_0).toLoadRect ((hs6 t).unread (iblk m c 6 t))) (View.readAt (Elt F) (ms2 t).view (Rect.unit (s := S512x256) ![0, 0] S512x256.size inb_S512x256_S512x256_0_0).toLoadRect ((hs2 t).unread (iblk m c 2 t))) (View.readAt (Elt F) (ms5 t).view (Rect.unit (s := S1x1024) ![0, 768] S1x256.size inb_S1x1024_S1x256_0_768).toLoadRect ((hs5 t).unread (iblk m c 5 t)))
    (View.readAt (Elt F) (ms6 t).view (Rect.unit (s := S1024x1024) ![768, 0] S256x1024.size inb_S1024x1024_S256x1024_768_0).toLoadRect ((hs6 t).unread (iblk m c 6 t))) (View.readAt (Elt F) (ms3 t).view (Rect.unit (s := S512x1024) ![0, 0] S512x1024.size inb_S512x1024_S512x1024_0_0).toLoadRect ((hs3 t).unread (iblk m c 3 t))))

/-- The residual sum a point computes, from its blocks. -/
def sumBlk (c : Dev nD) (t : Fin cfg0.N) : FVec F S512x1024 .f32 :=
  k0_pay6 (k0_pay1 (iblk m c 4 t))
    (k0_pay3 (iblk m c 0 t) (View.ld (iblk m c 5 t) (Rect.unit (s := S1x1024) ![0, 0] S1x256.size inb_S1x1024_S1x256_0_0)) (View.ld (iblk m c 6 t) (Rect.unit (s := S1024x1024) ![0, 0] S256x1024.size inb_S1024x1024_S256x1024_0_0)))
    (iblk m c 1 t) (k0_pay4 (View.ld (iblk m c 5 t) (Rect.unit (s := S1x1024) ![0, 256] S1x512.size inb_S1x1024_S1x512_0_256))) (k0_pay5 (iblk m c 1 t))
    (View.ld (iblk m c 6 t) (Rect.unit (s := S1024x1024) ![256, 0] S512x1024.size inb_S1024x1024_S512x1024_256_0)) (iblk m c 2 t) (View.ld (iblk m c 5 t) (Rect.unit (s := S1x1024) ![0, 768] S1x256.size inb_S1x1024_S1x256_0_768))
    (View.ld (iblk m c 6 t) (Rect.unit (s := S1024x1024) ![768, 0] S256x1024.size inb_S1024x1024_S256x1024_768_0)) (iblk m c 3 t)

/-- The normed rows it computes from that sum. -/
def normBlk (c : Dev nD) (t : Fin cfg0.N) : FVec F S512x1024 .f32 :=
  k0_pay9 (k0_pay1 (iblk m c 4 t)) (sumBlk m c t) (k0_pay7 (iblk m c 7 t)) (k0_pay8 (k0_pay1 (iblk m c 4 t))
    (k0_pay3 (iblk m c 0 t) (View.ld (iblk m c 5 t) (Rect.unit (s := S1x1024) ![0, 0] S1x256.size inb_S1x1024_S1x256_0_0)) (View.ld (iblk m c 6 t) (Rect.unit (s := S1024x1024) ![0, 0] S256x1024.size inb_S1024x1024_S256x1024_0_0)))
    (iblk m c 1 t) (k0_pay4 (View.ld (iblk m c 5 t) (Rect.unit (s := S1x1024) ![0, 256] S1x512.size inb_S1x1024_S1x512_0_256))) (k0_pay5 (iblk m c 1 t))
    (View.ld (iblk m c 6 t) (Rect.unit (s := S1024x1024) ![256, 0] S512x1024.size inb_S1024x1024_S512x1024_256_0)) (iblk m c 2 t) (View.ld (iblk m c 5 t) (Rect.unit (s := S1x1024) ![0, 768] S1x256.size inb_S1x1024_S1x256_0_768))
    (View.ld (iblk m c 6 t) (Rect.unit (s := S1024x1024) ![768, 0] S256x1024.size inb_S1024x1024_S256x1024_768_0)) (iblk m c 3 t))

theorem hz2 : (![0, 0] : Fin 2 → ℕ) = fun _ => 0 := funext fun a => match a with | 0 => rfl | 1 => rfl
theorem hz3 : (![0, 0, 0] : Fin 3 → ℕ) = fun _ => 0 := funext fun a => match a with | 0 => rfl | 1 => rfl | 2 => rfl

theorem sumRead_eq (c : Dev nD) (t : Fin cfg0.N) : sumRead m c t = sumBlk m c t := by
  unfold sumRead sumBlk
  simp only [View.readAt_eq_ld, Memref.IsWhole.read_unread]
  rw [View.ld_unit_zero (S := S512x256) hz2, View.ld_unit_zero (S := S512x512) hz2, View.ld_unit_zero (S := S512x256) hz2,
    View.ld_unit_zero (S := S512x1024) hz2, View.ld_unit_zero (S := S1x6x1024) hz3]
  rfl

theorem normRead_eq (c : Dev nD) (t : Fin cfg0.N) : normRead m c t = normBlk m c t := by
  unfold normRead normBlk
  rw [sumRead_eq]
  simp only [View.readAt_eq_ld, Memref.IsWhole.read_unread]
  rw [View.ld_unit_zero (S := S512x256) hz2, View.ld_unit_zero (S := S512x512) hz2, View.ld_unit_zero (S := S512x256) hz2,
    View.ld_unit_zero (S := S512x1024) hz2, View.ld_unit_zero (S := S1x6x1024) hz3, View.ld_unit_zero (S := S1x1024) hz2]
  rfl

/-- Rows of 1024 laid out as the second output's block lays them: eight rows of 128 lanes for each. -/
def laid (y : FVec F S512x1024 .f32) : Vec F S4096x128 .f32 := fun j =>
  y (ix2 ⟨(j 0).val / 8, by have h : (j 0).val < 4096 := (j 0).isLt; show _ < 512; omega⟩
    ⟨(j 0).val % 8 * 128 + (j 1).val, by have h : (j 1).val < 128 := (j 1).isLt; show _ < 1024; omega⟩)

/-- The stores that lay them out, last first. -/
def stores (y : FVec F S512x1024 .f32) : List (View.Piece (Elt F) S4096x128 .f32) :=
  [⟨⟨⟨![7, 0], S512x128.size, ![8, 1], inb_S4096x128_S512x128_7_0_s_8_1⟩, spos_8_1⟩, extractStridedSlice S512x128 ![0, 896] y slices_S512x1024_o0_896_S512x128⟩,
   ⟨⟨⟨![6, 0], S512x128.size, ![8, 1], inb_S4096x128_S512x128_6_0_s_8_1⟩, spos_8_1⟩, extractStridedSlice S512x128 ![0, 768] y slices_S512x1024_o0_768_S512x128⟩,
   ⟨⟨⟨![5, 0], S512x128.size, ![8, 1], inb_S4096x128_S512x128_5_0_s_8_1⟩, spos_8_1⟩, extractStridedSlice S512x128 ![0, 640] y slices_S512x1024_o0_640_S512x128⟩,
   ⟨⟨⟨![4, 0], S512x128.size, ![8, 1], inb_S4096x128_S512x128_4_0_s_8_1⟩, spos_8_1⟩, extractStridedSlice S512x128 ![0, 512] y slices_S512x1024_o0_512_S512x128⟩,
   ⟨⟨⟨![3, 0], S512x128.size, ![8, 1], inb_S4096x128_S512x128_3_0_s_8_1⟩, spos_8_1⟩, extractStridedSlice S512x128 ![0, 384] y slices_S512x1024_o0_384_S512x128⟩,
   ⟨⟨⟨![2, 0], S512x128.size, ![8, 1], inb_S4096x128_S512x128_2_0_s_8_1⟩, spos_8_1⟩, extractStridedSlice S512x128 ![0, 256] y slices_S512x1024_o0_256_S512x128⟩,
   ⟨⟨⟨![1, 0], S512x128.size, ![8, 1], inb_S4096x128_S512x128_1_0_s_8_1⟩, spos_8_1⟩, extractStridedSlice S512x128 ![0, 128] y slices_S512x1024_o0_128_S512x128⟩,
   ⟨⟨⟨![0, 0], S512x128.size, ![8, 1], inb_S4096x128_S512x128_0_0_s_8_1⟩, spos_8_1⟩, extractStridedSlice S512x128 ![0, 0] y slices_S512x1024_o0_0_S512x128⟩]

/-- One of those stores writes its part of the laid-out rows. -/
theorem store_eq (y : FVec F S512x1024 .f32) (k o : Nat) (hk : k < 8) (ho : o = k * 128) (h : S512x1024.Slices ![0, o] S512x128)
    (inb : ∀ a, S512x128.size a = 0 ∨ (![k, 0] : Fin 2 → Nat) a + (![8, 1] : Fin 2 → Nat) a * (S512x128.size a - 1) < S4096x128.size a)
    (x : S512x128.Idx) :
    extractStridedSlice S512x128 ![0, o] y h x
      = laid y ((⟨⟨![k, 0], S512x128.size, ![8, 1], inb⟩, spos_8_1⟩ : Rect S4096x128).emb x) := by
  subst ho
  have h0 : (((⟨⟨![k, 0], S512x128.size, ![8, 1], inb⟩, spos_8_1⟩ : Rect S4096x128).emb x) 0).val = k + 8 * (x 0).val := rfl
  have h1 : (((⟨⟨![k, 0], S512x128.size, ![8, 1], inb⟩, spos_8_1⟩ : Rect S4096x128).emb x) 1).val = 0 + 1 * (x 1).val := rfl
  unfold laid
  refine extractStridedSlice_apply _ _ _ _ _ (fun a => ?_)
  fin_cases a
  · show (((⟨⟨![k, 0], S512x128.size, ![8, 1], inb⟩, spos_8_1⟩ : Rect S4096x128).emb x) 0).val / 8 = (0 : Nat) + (x 0).val
    rw [h0]; omega
  · show (((⟨⟨![k, 0], S512x128.size, ![8, 1], inb⟩, spos_8_1⟩ : Rect S4096x128).emb x) 0).val % 8 * 128 + (((⟨⟨![k, 0], S512x128.size, ![8, 1], inb⟩, spos_8_1⟩ : Rect S4096x128).emb x) 1).val = k * 128 + (x 1).val
    rw [h0, h1]; omega

/-- The stores leave the laid-out rows. -/
theorem canon_stores (y : FVec F S512x1024 .f32) : View.canon (stores y) = laid y := by
  refine funext fun j => View.canon_apply_of_pieces (Val := Elt F) (e := .f32) (laid y) _ ?_ j (rows_cover rfl j)
  intro p hp
  simp only [stores, List.mem_cons, List.not_mem_nil, or_false] at hp
  obtain rfl | rfl | rfl | rfl | rfl | rfl | rfl | rfl := hp
  · exact store_eq y 7 896 (by decide) rfl slices_S512x1024_o0_896_S512x128 _
  · exact store_eq y 6 768 (by decide) rfl slices_S512x1024_o0_768_S512x128 _
  · exact store_eq y 5 640 (by decide) rfl slices_S512x1024_o0_640_S512x128 _
  · exact store_eq y 4 512 (by decide) rfl slices_S512x1024_o0_512_S512x128 _
  · exact store_eq y 3 384 (by decide) rfl slices_S512x1024_o0_384_S512x128 _
  · exact store_eq y 2 256 (by decide) rfl slices_S512x1024_o0_256_S512x128 _
  · exact store_eq y 1 128 (by decide) rfl slices_S512x1024_o0_128_S512x128 _
  · exact store_eq y 0 0 (by decide) rfl slices_S512x1024_o0_0_S512x128 _

theorem atFirst_sum (c : Dev nD) (t : Fin cfg0.N) (h : t.val = 0) :
    (atFirst m c t h).1 = [⟨Rect.unit (s := S512x1024) ![0, 0] S512x1024.size inb_S512x1024_S512x1024_0_0, sumRead m c t⟩] := rfl
theorem atFirst_norm (c : Dev nD) (t : Fin cfg0.N) (h : t.val = 0) : (atFirst m c t h).2.1 = stores (normRead m c t) := rfl
theorem leftFirst_sum (c : Dev nD) (t : Fin cfg0.N) (h : t.val = 0) : (leftFirst m c t h).1 = sumBlk m c t := by
  unfold leftFirst
  dsimp only
  rw [View.read_writes_eq_canon VO10 VO10.junk _ (coverFirst10 m c t h)]
  rw [atFirst_sum, sumRead_eq, View.canon_unit_zero (S := S512x1024) hz2]
theorem leftFirst_norm (c : Dev nD) (t : Fin cfg0.N) (h : t.val = 0) : (leftFirst m c t h).2.1 = laid (normBlk m c t) := by
  unfold leftFirst
  dsimp only
  rw [View.read_writes_eq_canon VO11 VO11.junk _ (coverFirst11 m c t h)]
  rw [atFirst_norm, normRead_eq, canon_stores]

theorem atLater_sum (c : Dev nD) (t : Fin cfg0.N) (h : ¬t.val = 0) (x : Vec F S8x128 .f32) :
    (atLater m c t h x).1 = [⟨Rect.unit (s := S512x1024) ![0, 0] S512x1024.size inb_S512x1024_S512x1024_0_0, sumRead m c t⟩] := rfl
theorem atLater_norm (c : Dev nD) (t : Fin cfg0.N) (h : ¬t.val = 0) (x : Vec F S8x128 .f32) : (atLater m c t h x).2.1 = stores (normRead m c t) := rfl
theorem leftLater_sum (c : Dev nD) (t : Fin cfg0.N) (h : ¬t.val = 0) (x : Vec F S8x128 .f32) : (leftLater m c t h x).1 = sumBlk m c t := by
  unfold leftLater
  dsimp only
  rw [View.read_writes_eq_canon VO10 VO10.junk _ (coverLater10 m c t h x)]
  rw [atLater_sum, sumRead_eq, View.canon_unit_zero (S := S512x1024) hz2]
theorem leftLater_norm (c : Dev nD) (t : Fin cfg0.N) (h : ¬t.val = 0) (x : Vec F S8x128 .f32) : (leftLater m c t h x).2.1 = laid (normBlk m c t) := by
  unfold leftLater
  dsimp only
  rw [View.read_writes_eq_canon VO11 VO11.junk _ (coverLater11 m c t h x)]
  rw [atLater_norm, normRead_eq, canon_stores]

/-- After every point the first output's buffer holds the residual sum, -/
theorem left_sum (c : Dev nD) (t : Fin cfg0.N) : (left m c t.val t.isLt).1 = sumBlk m c t := by
  by_cases h : t.val = 0
  · rw [left_first m c t h, leftFirst_sum]
  · rw [left_later m c t h, leftLater_sum]
/-- and the second's the normed rows, laid out. -/
theorem left_norm (c : Dev nD) (t : Fin cfg0.N) : (left m c t.val t.isLt).2.1 = laid (normBlk m c t) := by
  by_cases h : t.val = 0
  · rw [left_first m c t h, leftFirst_norm]
  · rw [left_later m c t h, leftLater_norm]

end Cert.Op

end
-- ==== Proof.OpRef.lean ====
/- The output projection's reference read at an index. -/
module

public import proofs.«01_k».proof.Proof.OpVal
public import proofs.«01_k».proof.Proof.Gen.Reference5Ideal.Read

@[expose] public section

set_option maxRecDepth 16384
noncomputable section

namespace Cert.Reference5Ideal.Op

open Idealize.ShloMosaic Idealize.ShloMosaic.TcCoe Idealize.SL.Sem
open Cert.Reference5Ideal Cert.Reference5Ideal.Gen Cert.Reference5Ideal.Read
open Cert.Op (normed normDot)

variable (x0 : FVec Ideal S16384x256 .f32) (x1 : FVec Ideal S16384x512 .f32) (x2 : FVec Ideal S16384x256 .f32) (x3 : FVec Ideal S2x8192x1024 .f32)
  (x4 : FVec Ideal S2x6x1024 .f32) (x5 : FVec Ideal S1024 .f32) (x6 : FVec Ideal S1024x1024 .f32) (x7 : FVec Ideal S1024 .f32)

/-- Column `k` of the first group. -/
abbrev c0 (k : Fin 256) : Fin 1024 := ⟨k.val, by have := k.isLt; omega⟩
/-- Column `k` of the second. -/
abbrev c1 (k : Fin 512) : Fin 1024 := ⟨256 + k.val, by have := k.isLt; omega⟩
/-- Column `k` of the third. -/
abbrev c2 (k : Fin 256) : Fin 1024 := ⟨768 + k.val, by have := k.isLt; omega⟩

theorem sum_split (f : Fin 1024 → EReal) : ∑ k, f k = ∑ k, f (c0 k) + ∑ k, f (c1 k) + ∑ k, f (c2 k) := by
  refine (Fin.sum_univ_add (M := EReal) (a := 768) (b := 256) f).trans ?_
  refine congrArg₂ (· + ·) ?_ rfl
  exact Fin.sum_univ_add (M := EReal) (a := 256) (b := 512) (fun k => f (Fin.castAdd 256 k))

theorem group0_at (R : Fin 16384) (k : Fin 256) :
    val_main_v13 (F := Ideal) x0 x5 (ix2 R k) = normed 0x43800000#32 (fun k => x0 (ix2 R k)) (x0 (ix2 R k)) (x5 (ix1 (c0 k))) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem group1_at (R : Fin 16384) (k : Fin 512) :
    val_main_v27 (F := Ideal) x1 x5 (ix2 R k) = normed 0x44000000#32 (fun k => x1 (ix2 R k)) (x1 (ix2 R k)) (x5 (ix1 (c1 k))) := by
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  rfl

theorem group2_at (R : Fin 16384) (k : Fin 256) :
    val_main_v41 (F := Ideal) x2 x5 (ix2 R k) = normed 0x43800000#32 (fun k => x2 (ix2 R k)) (x2 (ix2 R k)) (x5 (ix1 (c2 k))) := by
  pointwise [val_main_v41, val_main_v40, val_main_v39, val_main_v38, val_main_v37, val_main_v36, val_main_v35, val_main_v34, val_main_v33, val_main_v32, val_main_v31, val_main_v30, val_main_v29, val_main_v28, val_main_cst_5, val_main_cst_6, val_main_cst_7]
  rfl

theorem merged0_at (R : Fin 16384) (k : Fin 256) : val_main_v42 (F := Ideal) x0 x1 x2 x5 (ix2 R (c0 k)) = val_main_v13 (F := Ideal) x0 x5 (ix2 R k) := by
  unfold val_main_v42
  refine concatenate_apply_piece (t := S16384x1024) 1 [⟨S16384x256, val_main_v13 (F := Ideal) x0 x5⟩, ⟨S16384x512, val_main_v27 (F := Ideal) x1 x5⟩, ⟨S16384x256, val_main_v41 (F := Ideal) x2 x5⟩]
    concatenates_S16384x256_S16384x512_S16384x256_S16384x1024_d1 (ix2 R (c0 k)) 0 (by show 0 < 3; decide) S16384x256 _ rfl rfl 0 rfl (ix2 R k) (fun b hb => ?_) ?_
  · match b with
    | 0 => rfl
    | 1 => exact absurd rfl hb
  · show 0 + k.val = k.val; omega

theorem merged1_at (R : Fin 16384) (k : Fin 512) : val_main_v42 (F := Ideal) x0 x1 x2 x5 (ix2 R (c1 k)) = val_main_v27 (F := Ideal) x1 x5 (ix2 R k) := by
  unfold val_main_v42
  refine concatenate_apply_piece (t := S16384x1024) 1 [⟨S16384x256, val_main_v13 (F := Ideal) x0 x5⟩, ⟨S16384x512, val_main_v27 (F := Ideal) x1 x5⟩, ⟨S16384x256, val_main_v41 (F := Ideal) x2 x5⟩]
    concatenates_S16384x256_S16384x512_S16384x256_S16384x1024_d1 (ix2 R (c1 k)) 1 (by show 1 < 3; decide) S16384x512 _ rfl rfl 256 rfl (ix2 R k) (fun b hb => ?_) ?_
  · match b with
    | 0 => rfl
    | 1 => exact absurd rfl hb
  · rfl

theorem merged2_at (R : Fin 16384) (k : Fin 256) : val_main_v42 (F := Ideal) x0 x1 x2 x5 (ix2 R (c2 k)) = val_main_v41 (F := Ideal) x2 x5 (ix2 R k) := by
  unfold val_main_v42
  refine concatenate_apply_piece (t := S16384x1024) 1 [⟨S16384x256, val_main_v13 (F := Ideal) x0 x5⟩, ⟨S16384x512, val_main_v27 (F := Ideal) x1 x5⟩, ⟨S16384x256, val_main_v41 (F := Ideal) x2 x5⟩]
    concatenates_S16384x256_S16384x512_S16384x256_S16384x1024_d1 (ix2 R (c2 k)) 2 (by show 2 < 3; decide) S16384x256 _ rfl rfl 768 rfl (ix2 R k) (fun b hb => ?_) ?_
  · match b with
    | 0 => rfl
    | 1 => exact absurd rfl hb
  · rfl

/-- The merged rows times the output projection's weight. -/
theorem proj_at (R : Fin 16384) (b : Fin 2) (s : Fin 8192) (hR : R.val = 8192 * b.val + s.val) (q : Fin 1024) :
    val_main_v47 (F := Ideal) x0 x1 x2 x5 x6 (ix3 b s q)
      = normDot 0x43800000#32 (fun k => x0 (ix2 R k)) (fun k => x5 (ix1 (c0 k))) (fun k => x6 (ix2 (c0 k) q))
        + normDot 0x44000000#32 (fun k => x1 (ix2 R k)) (fun k => x5 (ix1 (c1 k))) (fun k => x6 (ix2 (c1 k) q))
        + normDot 0x43800000#32 (fun k => x2 (ix2 R k)) (fun k => x5 (ix1 (c2 k))) (fun k => x6 (ix2 (c2 k) q)) := by
  have hv : ∀ k : Fin 1024, val_main_v43 (F := Ideal) x0 x1 x2 x5 (lidx_main_v47 (ix3 b s q) k) = val_main_v42 (F := Ideal) x0 x1 x2 x5 (ix2 R k) := by
    intro k
    have hk := k.isLt
    refine (val_main_v43_apply (F := Ideal) x0 x1 x2 x5 _).trans (congrArg (val_main_v42 (F := Ideal) x0 x1 x2 x5) (funext fun a => Fin.ext ?_))
    match a with
    | 0 => show ((b.val * 8192 + s.val) * 1024 + k.val) / 1024 = R.val; omega
    | 1 => show ((b.val * 8192 + s.val) * 1024 + k.val) % 1024 = k.val; omega
  have hw : ∀ k : Fin 1024, x6 (ridx_main_v47 (ix3 b s q) k) = x6 (ix2 k q) := fun k =>
    congrArg x6 (funext fun a => match a with | 0 => rfl | 1 => rfl)
  rw [val_main_v47_apply]
  simp only [hv, hw]
  rw [sum_split]
  unfold normDot
  refine congrArg₂ (· + ·) (congrArg₂ (· + ·) ?_ ?_) ?_ <;> refine Finset.sum_congr rfl fun k _ => congrArg₂ (· * ·) ?_ rfl
  · rw [merged0_at, group0_at]
  · rw [merged1_at, group1_at]
  · rw [merged2_at, group2_at]

/-- The residual sum. -/
theorem sum_at (R : Fin 16384) (b : Fin 2) (s : Fin 8192) (hR : R.val = 8192 * b.val + s.val) (q : Fin 1024) :
    val_main_v50 (F := Ideal) x0 x1 x2 x3 x4 x5 x6 (ix3 b s q)
      = x3 (ix3 b s q) + x4 (ix3 b (2 : Fin 6) q)
        * (normDot 0x43800000#32 (fun k => x0 (ix2 R k)) (fun k => x5 (ix1 (c0 k))) (fun k => x6 (ix2 (c0 k) q))
        + normDot 0x44000000#32 (fun k => x1 (ix2 R k)) (fun k => x5 (ix1 (c1 k))) (fun k => x6 (ix2 (c1 k) q))
        + normDot 0x43800000#32 (fun k => x2 (ix2 R k)) (fun k => x5 (ix1 (c2 k))) (fun k => x6 (ix2 (c2 k) q))) := by
  have h48 : val_main_v48 (F := Ideal) x4 (ix3 b s q) = x4 (ix3 b (2 : Fin 6) q) := by
    pointwise [val_main_v48, val_main_v46, val_main_v45, val_main_v44]
  rw [val_main_v50_apply, val_main_v49_apply, h48, proj_at x0 x1 x2 x5 x6 R b s hR q]
  rfl

/-- The normed rows, off the residual sum. -/
theorem norm_at (b : Fin 2) (s : Fin 8192) (q : Fin 1024) :
    val_main_v75 (F := Ideal) x0 x1 x2 x3 x4 x5 x6 x7 (ix3 b s q)
      = normed 0x44800000#32 (fun k => val_main_v50 (F := Ideal) x0 x1 x2 x3 x4 x5 x6 (ix3 b s k)) (val_main_v50 (F := Ideal) x0 x1 x2 x3 x4 x5 x6 (ix3 b s q)) (x7 (ix1 q))
          * (1 + x4 (ix3 b (4 : Fin 6) q)) + x4 (ix3 b (3 : Fin 6) q) := by
  unfold val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_cst_8 val_main_cst_9 val_main_cst_10
  generalize val_main_v50 (F := Ideal) x0 x1 x2 x3 x4 x5 x6 = y
  pointwise [val_main_cst_11]
  rfl

theorem first_at (R : Fin 16384) (b : Fin 2) (s : Fin 8192) (hR : R.val = 8192 * b.val + s.val) (q : Fin 1024) :
    val_main_v76 (F := Ideal) x0 x1 x2 x3 x4 x5 x6 (ix2 R q) = val_main_v50 (F := Ideal) x0 x1 x2 x3 x4 x5 x6 (ix3 b s q) := by
  have hq := q.isLt
  have hb := b.isLt
  have hs := s.isLt
  refine (val_main_v76_apply (F := Ideal) x0 x1 x2 x3 x4 x5 x6 (ix2 R q)).trans (congrArg (val_main_v50 (F := Ideal) x0 x1 x2 x3 x4 x5 x6) (funext fun a => Fin.ext ?_))
  match a with
  | 0 => show (R.val * 1024 + q.val) / 8388608 = b.val; omega
  | 1 => show (R.val * 1024 + q.val) / 1024 % 8192 = s.val; omega
  | 2 => show (R.val * 1024 + q.val) % 1024 = q.val; omega

theorem second_at (i : Fin 131072) (l : Fin 128) (b : Fin 2) (s : Fin 8192) (q : Fin 1024)
    (h : i.val * 128 + l.val = (8192 * b.val + s.val) * 1024 + q.val) :
    val_main_v77 (F := Ideal) x0 x1 x2 x3 x4 x5 x6 x7 (ix2 i l) = val_main_v75 (F := Ideal) x0 x1 x2 x3 x4 x5 x6 x7 (ix3 b s q) := by
  have hq := q.isLt
  have hb := b.isLt
  have hs := s.isLt
  refine (val_main_v77_apply (F := Ideal) x0 x1 x2 x3 x4 x5 x6 x7 (ix2 i l)).trans (congrArg (val_main_v75 (F := Ideal) x0 x1 x2 x3 x4 x5 x6 x7) (funext fun a => Fin.ext ?_))
  match a with
  | 0 => show (i.val * 128 + l.val) / 8388608 = b.val; omega
  | 1 => show (i.val * 128 + l.val) / 1024 % 8192 = s.val; omega
  | 2 => show (i.val * 128 + l.val) % 1024 = q.val; omega

end Cert.Reference5Ideal.Op

end
-- ==== Proof.OpFin.lean ====
/- The output projection's two results are the reference's. -/
module

public import proofs.«01_k».proof.Proof.OpRef

@[expose] public section

set_option maxRecDepth 16384
noncomputable section

namespace Cert.Op

open Idealize.ShloMosaic Idealize.ShloMosaic.TcCoe Idealize.SL.Sem
open Idealize.ShloMosaic.Pipeline (Dat)
open Cert.Kernel5Ideal Cert.Kernel5Ideal.Gen
open Cert.Reference5Ideal.Op (c0 c1 c2)

variable (m : (ℓ : Loc nD τ sig) → Buf (Elt Ideal) ℓ) (ρ : Dev nD → PrngReg)

/-- The first attention's rows of device `c`. -/
abbrev aS (c : Dev nD) : FVec Ideal S16384x256 .f32 := m ((c.tc : Thread nD τ).loc main_arg0)
/-- The second attention's rows of device `c`. -/
abbrev aT (c : Dev nD) : FVec Ideal S16384x512 .f32 := m ((c.tc : Thread nD τ).loc main_arg1)
/-- The third attention's rows of device `c`. -/
abbrev aU (c : Dev nD) : FVec Ideal S16384x256 .f32 := m ((c.tc : Thread nD τ).loc main_arg2)
/-- The tokens of device `c`. -/
abbrev aX (c : Dev nD) : FVec Ideal S2x8192x1024 .f32 := m ((c.tc : Thread nD τ).loc main_arg3)
/-- The modulation of device `c`. -/
abbrev aM (c : Dev nD) : FVec Ideal S2x6x1024 .f32 := m ((c.tc : Thread nD τ).loc main_arg4)
/-- The groups' norm weights of device `c`. -/
abbrev aG (c : Dev nD) : FVec Ideal S1024 .f32 := m ((c.tc : Thread nD τ).loc main_arg5)
/-- The output projection's weight of device `c`. -/
abbrev aW (c : Dev nD) : FVec Ideal S1024x1024 .f32 := m ((c.tc : Thread nD τ).loc main_arg6)
/-- The second norm's weight of device `c`. -/
abbrev aN (c : Dev nD) : FVec Ideal S1024 .f32 := m ((c.tc : Thread nD τ).loc main_arg7)

attribute [local irreducible] Host.scatter in
theorem V_v9 (c : Dev nD) : V m c main_v9 = shapeCast S16384x1024 (aX m c) shapeCasts_S2x8192x1024_S16384x1024 := by
  rfl
attribute [local irreducible] Host.scatter in
theorem V_v10 (c : Dev nD) : V m c main_v10 = truncf .bf16 (aW m c) bitsLt_bf16_f32 := by
  rfl
attribute [local irreducible] Host.scatter in
theorem V_v11 (c : Dev nD) : V m c main_v11 = shapeCast S1x1024 (aG m c) shapeCasts_S1024_S1x1024 := by
  rfl
attribute [local irreducible] Host.scatter in
theorem V_v12 (c : Dev nD) : V m c main_v12 = shapeCast S1x1024 (aN m c) shapeCasts_S1024_S1x1024 := by
  rfl

theorem rows_at (X : FVec Ideal S2x8192x1024 .f32) (R : Fin 16384) (q : Fin 1024) (b : Fin 2) (s : Fin 8192) (hR : R.val = 8192 * b.val + s.val) :
    shapeCast S16384x1024 X shapeCasts_S2x8192x1024_S16384x1024 (ix2 R q) = X (ix3 b s q) := by
  refine shapeCast_apply X _ (ix2 R q) (ix3 b s q) ?_
  rewrite [Shape.rowMajor_val_three, Shape.rowMajor_val_two]
  show (b.val * 8192 + s.val) * 1024 + q.val = R.val * 1024 + q.val
  omega

theorem gain_at (G : FVec Ideal S1024 .f32) (q : Fin 1024) :
    shapeCast S1x1024 G shapeCasts_S1024_S1x1024 (ix2 (0 : Fin 1) q) = G (ix1 q) := by
  pointwise

theorem idx_all : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val / 16 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_10.index t 0 = t.val ∧ win0_10.index t 1 = 0)
    ∧ (win0_11.index t 0 = t.val ∧ win0_11.index t 1 = 0) := by
  show ∀ t : Fin grid0.N, _
  decide +kernel

theorem iblk0_at (c : Dev nD) (t : Fin cfg0.N) (r : Fin 512) (q : Fin 256) (R : Fin 16384) (hR : R.val = 512 * t.val + r.val) :
    iblk (F := Ideal) m c 0 t (ix2 r q) = aS m c (ix2 R q) := by
  unfold iblk; rw [View.read_apply, cast_eq]
  have e := (idx_all t).1
  refine (congrFun (V_main_arg0 m c) _).trans (congrArg (aS m c) (funext fun (a : Fin 2) => Fin.ext ?_))
  match a with
  | 0 => refine (win0_0.rect_emb_val t (ix2 r q) 0).trans ?_; rw [e.1]; show t.val * 512 + r.val = R.val; omega
  | 1 => refine (win0_0.rect_emb_val t (ix2 r q) 1).trans ?_; rw [e.2]; show 0 * 256 + q.val = q.val; omega

theorem iblk1_at (c : Dev nD) (t : Fin cfg0.N) (r : Fin 512) (q : Fin 512) (R : Fin 16384) (hR : R.val = 512 * t.val + r.val) :
    iblk (F := Ideal) m c 1 t (ix2 r q) = aT m c (ix2 R q) := by
  unfold iblk; rw [View.read_apply, cast_eq]
  have e := (idx_all t).2.1
  refine (congrFun (V_main_arg1 m c) _).trans (congrArg (aT m c) (funext fun (a : Fin 2) => Fin.ext ?_))
  match a with
  | 0 => refine (win0_1.rect_emb_val t (ix2 r q) 0).trans ?_; rw [e.1]; show t.val * 512 + r.val = R.val; omega
  | 1 => refine (win0_1.rect_emb_val t (ix2 r q) 1).trans ?_; rw [e.2]; show 0 * 512 + q.val = q.val; omega

theorem iblk2_at (c : Dev nD) (t : Fin cfg0.N) (r : Fin 512) (q : Fin 256) (R : Fin 16384) (hR : R.val = 512 * t.val + r.val) :
    iblk (F := Ideal) m c 2 t (ix2 r q) = aU m c (ix2 R q) := by
  unfold iblk; rw [View.read_apply, cast_eq]
  have e := (idx_all t).2.2.1
  refine (congrFun (V_main_arg2 m c) _).trans (congrArg (aU m c) (funext fun (a : Fin 2) => Fin.ext ?_))
  match a with
  | 0 => refine (win0_2.rect_emb_val t (ix2 r q) 0).trans ?_; rw [e.1]; show t.val * 512 + r.val = R.val; omega
  | 1 => refine (win0_2.rect_emb_val t (ix2 r q) 1).trans ?_; rw [e.2]; show 0 * 256 + q.val = q.val; omega

theorem iblk3_at (c : Dev nD) (t : Fin cfg0.N) (r : Fin 512) (q : Fin 1024) (b : Fin 2) (s : Fin 8192) (h : 8192 * b.val + s.val = 512 * t.val + r.val) :
    iblk (F := Ideal) m c 3 t (ix2 r q) = aX m c (ix3 b s q) := by
  unfold iblk; rw [View.read_apply, cast_eq]
  have hb := b.isLt
  have hs := s.isLt
  have e := (idx_all t).2.2.2.1
  refine (congrFun (V_v9 m c) _).trans (Eq.trans (congrArg (shapeCast S16384x1024 (aX m c) shapeCasts_S2x8192x1024_S16384x1024) (funext fun (a : Fin 2) => Fin.ext ?_))
    (rows_at (aX m c) (⟨8192 * b.val + s.val, by omega⟩ : Fin 16384) q b s rfl))
  match a with
  | 0 => refine (win0_3.rect_emb_val t (ix2 r q) 0).trans ?_; rw [e.1]; show t.val * 512 + r.val = 8192 * b.val + s.val; omega
  | 1 => refine (win0_3.rect_emb_val t (ix2 r q) 1).trans ?_; rw [e.2]; show 0 * 1024 + q.val = q.val; omega

theorem iblk4_at (c : Dev nD) (t : Fin cfg0.N) (j : Fin 6) (q : Fin 1024) (b : Fin 2) (hb : b.val = t.val / 16) :
    iblk (F := Ideal) m c 4 t (ix3 (0 : Fin 1) j q) = aM m c (ix3 b j q) := by
  unfold iblk; rw [View.read_apply, cast_eq]
  have e := (idx_all t).2.2.2.2.1
  refine (congrFun (V_main_arg4 m c) _).trans (congrArg (aM m c) (funext fun (a : Fin 3) => Fin.ext ?_))
  match a with
  | 0 => refine (win0_4.rect_emb_val t (ix3 (0 : Fin 1) j q) 0).trans ?_; rw [e.1]; show t.val / 16 * 1 + 0 = b.val; omega
  | 1 => refine (win0_4.rect_emb_val t (ix3 (0 : Fin 1) j q) 1).trans ?_; rw [e.2.1]; show 0 * 6 + j.val = j.val; omega
  | 2 => refine (win0_4.rect_emb_val t (ix3 (0 : Fin 1) j q) 2).trans ?_; rw [e.2.2]; show 0 * 1024 + q.val = q.val; omega

theorem iblk5_at (c : Dev nD) (t : Fin cfg0.N) (q : Fin 1024) :
    iblk (F := Ideal) m c 5 t (ix2 (0 : Fin 1) q) = aG m c (ix1 q) := by
  unfold iblk; rw [View.read_apply, cast_eq]
  have e := (idx_all t).2.2.2.2.2.1
  refine (congrFun (V_v11 m c) _).trans (Eq.trans (congrArg (shapeCast S1x1024 (aG m c) shapeCasts_S1024_S1x1024) (funext fun (a : Fin 2) => Fin.ext ?_)) (gain_at (aG m c) q))
  match a with
  | 0 => refine (win0_5.rect_emb_val t (ix2 (0 : Fin 1) q) 0).trans ?_; rw [e.1]; rfl
  | 1 => refine (win0_5.rect_emb_val t (ix2 (0 : Fin 1) q) 1).trans ?_; rw [e.2]; show 0 * 1024 + q.val = q.val; omega

theorem iblk7_at (c : Dev nD) (t : Fin cfg0.N) (q : Fin 1024) :
    iblk (F := Ideal) m c 7 t (ix2 (0 : Fin 1) q) = aN m c (ix1 q) := by
  unfold iblk; rw [View.read_apply, cast_eq]
  have e := (idx_all t).2.2.2.2.2.2.2.1
  refine (congrFun (V_v12 m c) _).trans (Eq.trans (congrArg (shapeCast S1x1024 (aN m c) shapeCasts_S1024_S1x1024) (funext fun (a : Fin 2) => Fin.ext ?_)) (gain_at (aN m c) q))
  match a with
  | 0 => refine (win0_7.rect_emb_val t (ix2 (0 : Fin 1) q) 0).trans ?_; rw [e.1]; rfl
  | 1 => refine (win0_7.rect_emb_val t (ix2 (0 : Fin 1) q) 1).trans ?_; rw [e.2]; show 0 * 1024 + q.val = q.val; omega

theorem iblk6_at (c : Dev nD) (t : Fin cfg0.N) (q : Fin 1024) (C : Fin 1024) :
    iblk (F := Ideal) m c 6 t (ix2 q C) = aW m c (ix2 q C) := by
  unfold iblk; rw [View.read_apply, cast_eq]
  have e := (idx_all t).2.2.2.2.2.2.1
  refine (congrFun (V_v10 m c) _).trans (congrArg (aW m c) (funext fun (a : Fin 2) => Fin.ext ?_))
  match a with
  | 0 => refine (win0_6.rect_emb_val t (ix2 q C) 0).trans ?_; rw [e.1]; show 0 * 1024 + q.val = q.val; omega
  | 1 => refine (win0_6.rect_emb_val t (ix2 q C) 1).trans ?_; rw [e.2]; show 0 * 1024 + C.val = C.val; omega

/-! The groups' parts of the norm weights and of the projection's weight. -/

theorem gain0_of (X : Vec Ideal S1x1024 .f32) (k : Fin 256) :
    View.ld X (Rect.unit (s := S1x1024) ![0, 0] S1x256.size inb_S1x1024_S1x256_0_0) (ix2 (0 : Fin 1) k : S1x256.Idx) = X (ix2 (0 : Fin 1) (c0 k)) := by
  refine View.ld_unit_apply_of X ![0, 0] S1x256.size inb_S1x1024_S1x256_0_0 (ix2 (0 : Fin 1) k : S1x256.Idx) _ (fun a => ?_)
  match a with
  | 0 => rfl
  | 1 => show k.val = 0 + k.val; omega

theorem gain0_at (c : Dev nD) (t : Fin cfg0.N) (k : Fin 256) :
    View.ld (iblk (F := Ideal) m c 5 t) (Rect.unit (s := S1x1024) ![0, 0] S1x256.size inb_S1x1024_S1x256_0_0) (ix2 (0 : Fin 1) k : S1x256.Idx) = aG m c (ix1 (c0 k)) :=
  (gain0_of _ k).trans (iblk5_at m c t (c0 k))

theorem weight0_of (X : Vec Ideal S1024x1024 .bf16) (k : Fin 256) (q : Fin 1024) :
    View.ld X (Rect.unit (s := S1024x1024) ![0, 0] S256x1024.size inb_S1024x1024_S256x1024_0_0) (ix2 k q : S256x1024.Idx) = X (ix2 (c0 k) q) := by
  refine View.ld_unit_apply_of X ![0, 0] S256x1024.size inb_S1024x1024_S256x1024_0_0 (ix2 k q : S256x1024.Idx) _ (fun a => ?_)
  match a with
  | 0 => show k.val = 0 + k.val; omega
  | 1 => show q.val = 0 + q.val; omega

theorem weight0_at (c : Dev nD) (t : Fin cfg0.N) (k : Fin 256) (q : Fin 1024) :
    View.ld (iblk (F := Ideal) m c 6 t) (Rect.unit (s := S1024x1024) ![0, 0] S256x1024.size inb_S1024x1024_S256x1024_0_0) (ix2 k q : S256x1024.Idx) = aW m c (ix2 (c0 k) q) :=
  (weight0_of _ k q).trans (iblk6_at m c t (c0 k) q)

theorem gain1_of (X : Vec Ideal S1x1024 .f32) (k : Fin 512) :
    View.ld X (Rect.unit (s := S1x1024) ![0, 256] S1x512.size inb_S1x1024_S1x512_0_256) (ix2 (0 : Fin 1) k : S1x512.Idx) = X (ix2 (0 : Fin 1) (c1 k)) := by
  refine View.ld_unit_apply_of X ![0, 256] S1x512.size inb_S1x1024_S1x512_0_256 (ix2 (0 : Fin 1) k : S1x512.Idx) _ (fun a => ?_)
  match a with
  | 0 => rfl
  | 1 => rfl

theorem gain1_at (c : Dev nD) (t : Fin cfg0.N) (k : Fin 512) :
    View.ld (iblk (F := Ideal) m c 5 t) (Rect.unit (s := S1x1024) ![0, 256] S1x512.size inb_S1x1024_S1x512_0_256) (ix2 (0 : Fin 1) k : S1x512.Idx) = aG m c (ix1 (c1 k)) :=
  (gain1_of _ k).trans (iblk5_at m c t (c1 k))

theorem weight1_of (X : Vec Ideal S1024x1024 .bf16) (k : Fin 512) (q : Fin 1024) :
    View.ld X (Rect.unit (s := S1024x1024) ![256, 0] S512x1024.size inb_S1024x1024_S512x1024_256_0) (ix2 k q : S512x1024.Idx) = X (ix2 (c1 k) q) := by
  refine View.ld_unit_apply_of X ![256, 0] S512x1024.size inb_S1024x1024_S512x1024_256_0 (ix2 k q : S512x1024.Idx) _ (fun a => ?_)
  match a with
  | 0 => rfl
  | 1 => show q.val = 0 + q.val; omega

theorem weight1_at (c : Dev nD) (t : Fin cfg0.N) (k : Fin 512) (q : Fin 1024) :
    View.ld (iblk (F := Ideal) m c 6 t) (Rect.unit (s := S1024x1024) ![256, 0] S512x1024.size inb_S1024x1024_S512x1024_256_0) (ix2 k q : S512x1024.Idx) = aW m c (ix2 (c1 k) q) :=
  (weight1_of _ k q).trans (iblk6_at m c t (c1 k) q)

theorem gain2_of (X : Vec Ideal S1x1024 .f32) (k : Fin 256) :
    View.ld X (Rect.unit (s := S1x1024) ![0, 768] S1x256.size inb_S1x1024_S1x256_0_768) (ix2 (0 : Fin 1) k : S1x256.Idx) = X (ix2 (0 : Fin 1) (c2 k)) := by
  refine View.ld_unit_apply_of X ![0, 768] S1x256.size inb_S1x1024_S1x256_0_768 (ix2 (0 : Fin 1) k : S1x256.Idx) _ (fun a => ?_)
  match a with
  | 0 => rfl
  | 1 => rfl

theorem gain2_at (c : Dev nD) (t : Fin cfg0.N) (k : Fin 256) :
    View.ld (iblk (F := Ideal) m c 5 t) (Rect.unit (s := S1x1024) ![0, 768] S1x256.size inb_S1x1024_S1x256_0_768) (ix2 (0 : Fin 1) k : S1x256.Idx) = aG m c (ix1 (c2 k)) :=
  (gain2_of _ k).trans (iblk5_at m c t (c2 k))

theorem weight2_of (X : Vec Ideal S1024x1024 .bf16) (k : Fin 256) (q : Fin 1024) :
    View.ld X (Rect.unit (s := S1024x1024) ![768, 0] S256x1024.size inb_S1024x1024_S256x1024_768_0) (ix2 k q : S256x1024.Idx) = X (ix2 (c2 k) q) := by
  refine View.ld_unit_apply_of X ![768, 0] S256x1024.size inb_S1024x1024_S256x1024_768_0 (ix2 k q : S256x1024.Idx) _ (fun a => ?_)
  match a with
  | 0 => rfl
  | 1 => show q.val = 0 + q.val; omega

theorem weight2_at (c : Dev nD) (t : Fin cfg0.N) (k : Fin 256) (q : Fin 1024) :
    View.ld (iblk (F := Ideal) m c 6 t) (Rect.unit (s := S1024x1024) ![768, 0] S256x1024.size inb_S1024x1024_S256x1024_768_0) (ix2 k q : S256x1024.Idx) = aW m c (ix2 (c2 k) q) :=
  (weight2_of _ k q).trans (iblk6_at m c t (c2 k) q)

theorem normDot_congr {n : ℕ} (N : BitVec 32) {row row' g g' w w' : Fin n → EReal} (hr : ∀ k, row k = row' k) (hg : ∀ k, g k = g' k) (hw : ∀ k, w k = w' k) :
    normDot N row g w = normDot N row' g' w' := by
  obtain rfl : row = row' := funext hr
  obtain rfl : g = g' := funext hg
  obtain rfl : w = w' := funext hw
  rfl

/-- The residual sum the reference computes, -/
abbrev refSum (c : Dev nD) : FVec Ideal S2x8192x1024 .f32 := Cert.Reference5Ideal.Read.val_main_v50 (F := Ideal) (aS m c) (aT m c) (aU m c) (aX m c) (aM m c) (aG m c) (aW m c)
/-- its rows normed, -/
abbrev refNorm (c : Dev nD) : FVec Ideal S2x8192x1024 .f32 := Cert.Reference5Ideal.Read.val_main_v75 (F := Ideal) (aS m c) (aT m c) (aU m c) (aX m c) (aM m c) (aG m c) (aW m c) (aN m c)
/-- and the two as it returns them. -/
abbrev refFirst (c : Dev nD) : FVec Ideal S16384x1024 .f32 := Cert.Reference5Ideal.Read.val_main_v76 (F := Ideal) (aS m c) (aT m c) (aU m c) (aX m c) (aM m c) (aG m c) (aW m c)
/-- The second. -/
abbrev refSecond (c : Dev nD) : FVec Ideal S131072x128 .f32 := Cert.Reference5Ideal.Read.val_main_v77 (F := Ideal) (aS m c) (aT m c) (aU m c) (aX m c) (aM m c) (aG m c) (aW m c) (aN m c)

/-- A point's residual sum is the reference's. -/
theorem sumBlk_at (c : Dev nD) (t : Fin cfg0.N) (r : Fin 512) (q : Fin 1024) (b : Fin 2) (s : Fin 8192) (h : 8192 * b.val + s.val = 512 * t.val + r.val) :
    sumBlk (F := Ideal) m c t (ix2 r q) = refSum m c (ix3 b s q) := by
  have hb := b.isLt
  have hs := s.isLt
  have hr := r.isLt
  obtain ⟨R, hR⟩ : ∃ R : Fin 16384, R.val = 8192 * b.val + s.val := ⟨⟨8192 * b.val + s.val, by omega⟩, rfl⟩
  refine Eq.trans ?_ (Cert.Reference5Ideal.Op.sum_at (aS m c) (aT m c) (aU m c) (aX m c) (aM m c) (aG m c) (aW m c) R b s hR q).symm
  unfold sumBlk
  refine (pay6_at _ _ _ _ _ _ _ _ _ r q).trans ?_
  refine congrArg₂ (· + ·) (iblk3_at m c t r q b s h) (congrArg₂ (· * ·) (iblk4_at m c t 2 q b (by omega)) ?_)
  refine congrArg₂ (· + ·) (congrArg₂ (· + ·) ?_ ?_) ?_
  · refine (pay3_at _ _ _ r q).trans ?_
    exact normDot_congr _ (fun k => iblk0_at m c t r k R (by omega)) (fun k => gain0_at m c t k) (fun k => weight0_at m c t k q)
  · exact normDot_congr _ (fun k => iblk1_at m c t r k R (by omega)) (fun k => gain1_at m c t k) (fun k => weight1_at m c t k q)
  · exact normDot_congr _ (fun k => iblk2_at m c t r k R (by omega)) (fun k => gain2_at m c t k) (fun k => weight2_at m c t k q)

/-- A point's normed rows are the reference's. -/
theorem normBlk_at (c : Dev nD) (t : Fin cfg0.N) (r : Fin 512) (q : Fin 1024) (b : Fin 2) (s : Fin 8192) (h : 8192 * b.val + s.val = 512 * t.val + r.val) :
    normBlk (F := Ideal) m c t (ix2 r q) = refNorm m c (ix3 b s q) := by
  have hb := b.isLt
  have hs := s.isLt
  have hr := r.isLt
  refine Eq.trans ?_ (Cert.Reference5Ideal.Op.norm_at (aS m c) (aT m c) (aU m c) (aX m c) (aM m c) (aG m c) (aW m c) (aN m c) b s q).symm
  unfold normBlk
  refine (pay9_at _ _ _ _ (fun r => pay8_at _ _ _ _ _ _ _ _ _ _ r) r q).trans ?_
  show normed _ (fun k => sumBlk (F := Ideal) m c t (ix2 r k)) (sumBlk (F := Ideal) m c t (ix2 r q)) _ * (1 + iblk m c 4 t (ix3 (0 : Fin 1) (4 : Fin 6) q)) + iblk m c 4 t (ix3 (0 : Fin 1) (3 : Fin 6) q) = _
  rw [iblk4_at m c t 3 q b (by omega), iblk4_at m c t 4 q b (by omega), iblk7_at m c t q, sumBlk_at m c t r q b s h,
    show (fun k => sumBlk (F := Ideal) m c t (ix2 r k)) = _ from funext fun k => sumBlk_at m c t r k b s h]

theorem flushed10 (c : Dev nD) (t : Fin cfg0.N) : (dats m 0 c).flushed 10 t = sumBlk (F := Ideal) m c t :=
  (after10 m c t).trans (left_sum m c t)
theorem flushed11 (c : Dev nD) (t : Fin cfg0.N) : (dats m 0 c).flushed 11 t = laid (F := Ideal) (normBlk m c t) :=
  (after11 m c t).trans (left_norm m c t)

/-- What a point writes back into the first result is its block of the reference's, -/
theorem first_eq (c : Dev nD) (t : Fin cfg0.N) :
    (dats m 0 c).flushed 10 t = ((cfg0.win 10).blk t).view.read (Elt Ideal) (refFirst m c) := by
  rw [flushed10]
  funext y
  rw [View.read_apply, cast_eq]
  have hN : t.val < 32 := lt_of_lt_of_eq t.isLt N_0
  have e := (idx_all t).2.2.2.2.2.2.2.2.1
  have y0 : (y 0).val < 512 := (y 0).isLt
  have y1 : (y 1).val < 1024 := (y 1).isLt
  obtain ⟨R, hR⟩ : ∃ R : Fin 16384, R.val = 512 * t.val + (y 0).val := ⟨⟨512 * t.val + (y 0).val, by omega⟩, rfl⟩
  obtain ⟨b, hb⟩ : ∃ b : Fin 2, b.val = R.val / 8192 := ⟨⟨R.val / 8192, by omega⟩, rfl⟩
  obtain ⟨s, hs⟩ : ∃ s : Fin 8192, s.val = R.val % 8192 := ⟨⟨R.val % 8192, by omega⟩, rfl⟩
  refine Eq.trans ?_ ((sumBlk_at m c t (⟨(y 0).val, y0⟩ : Fin 512) (⟨(y 1).val, y1⟩ : Fin 1024) b s (by simp only []; omega)).trans
    ((Cert.Reference5Ideal.Op.first_at (aS m c) (aT m c) (aU m c) (aX m c) (aM m c) (aG m c) (aW m c) R b s (by omega) (⟨(y 1).val, y1⟩ : Fin 1024)).symm.trans ?_))
  · exact congrArg (sumBlk (F := Ideal) m c t) (funext fun a => match a with | 0 => rfl | 1 => rfl)
  · refine congrArg (refFirst m c) (funext fun a => Fin.ext ?_)
    match a with
    | 0 => refine Eq.trans ?_ (win0_10.rect_emb_val t y 0).symm; rw [e.1]
           show R.val = t.val * 512 + (y 0).val; omega
    | 1 => refine Eq.trans ?_ (win0_10.rect_emb_val t y 1).symm; rw [e.2]
           show (y 1).val = 0 * 1024 + (y 1).val; omega

/-- and so for the second. -/
theorem second_eq (c : Dev nD) (t : Fin cfg0.N) :
    (dats m 0 c).flushed 11 t = ((cfg0.win 11).blk t).view.read (Elt Ideal) (refSecond m c) := by
  rw [flushed11]
  funext y
  rw [View.read_apply, cast_eq]
  have hN : t.val < 32 := lt_of_lt_of_eq t.isLt N_0
  have e := (idx_all t).2.2.2.2.2.2.2.2.2
  have y0 : (y 0).val < 4096 := (y 0).isLt
  have y1 : (y 1).val < 128 := (y 1).isLt
  obtain ⟨R, hR⟩ : ∃ R : Fin 16384, R.val = 512 * t.val + (y 0).val / 8 := ⟨⟨512 * t.val + (y 0).val / 8, by omega⟩, rfl⟩
  obtain ⟨b, hb⟩ : ∃ b : Fin 2, b.val = R.val / 8192 := ⟨⟨R.val / 8192, by omega⟩, rfl⟩
  obtain ⟨s, hs⟩ : ∃ s : Fin 8192, s.val = R.val % 8192 := ⟨⟨R.val % 8192, by omega⟩, rfl⟩
  obtain ⟨q, hq⟩ : ∃ q : Fin 1024, q.val = (y 0).val % 8 * 128 + (y 1).val := ⟨⟨(y 0).val % 8 * 128 + (y 1).val, by omega⟩, rfl⟩
  obtain ⟨i, hi⟩ : ∃ i : Fin 131072, i.val = 4096 * t.val + (y 0).val := ⟨⟨4096 * t.val + (y 0).val, by omega⟩, rfl⟩
  refine Eq.trans ?_ ((normBlk_at m c t (⟨(y 0).val / 8, by omega⟩ : Fin 512) q b s (by simp only []; omega)).trans
    ((Cert.Reference5Ideal.Op.second_at (aS m c) (aT m c) (aU m c) (aX m c) (aM m c) (aG m c) (aW m c) (aN m c) i (⟨(y 1).val, y1⟩ : Fin 128) b s q (by simp only []; omega)).symm.trans ?_))
  · exact congrArg (normBlk (F := Ideal) m c t) (funext fun a => match a with | 0 => rfl | 1 => Fin.ext hq.symm)
  · refine congrArg (refSecond m c) (funext fun a => Fin.ext ?_)
    match a with
    | 0 => refine Eq.trans ?_ (win0_11.rect_emb_val t y 0).symm; rw [e.1]
           show i.val = t.val * 4096 + (y 0).val; omega
    | 1 => refine Eq.trans ?_ (win0_11.rect_emb_val t y 1).symm; rw [e.2]
           show (y 1).val = 0 * 128 + (y 1).val; omega

/-! The blocks cover the results. -/

theorem cover10 (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  have hN : cfg0.N = 32 := N_0
  obtain ⟨t, ht⟩ : ∃ t : Fin cfg0.N, t.val = (i 0).val / 512 := ⟨⟨(i 0).val / 512, by omega⟩, rfl⟩
  refine ⟨t, flush0_10 t, ?_⟩
  show i ∈ ((View.whole main_v13_0).slice (win0_10.rect t)).set
  rw [View.set_slice_whole, Rect.mem_set_unit]
  have e := (idx_all t).2.2.2.2.2.2.2.2.1
  intro a
  match a with
  | 0 => show win0_10.index t 0 * 512 ≤ (i 0).val ∧ (i 0).val < win0_10.index t 0 * 512 + 512
         rw [e.1]; omega
  | 1 => show win0_10.index t 1 * 1024 ≤ (i 1).val ∧ (i 1).val < win0_10.index t 1 * 1024 + 1024
         rw [e.2]; omega

theorem cover11 (i : S131072x128.Idx) : ∃ t : Fin cfg0.N, (cfg0.win 11).flush t = true ∧ i ∈ ((cfg0.win 11).blk t).view.set := by
  have h0 : (i 0).val < 131072 := (i 0).isLt
  have h1 : (i 1).val < 128 := (i 1).isLt
  have hN : cfg0.N = 32 := N_0
  obtain ⟨t, ht⟩ : ∃ t : Fin cfg0.N, t.val = (i 0).val / 4096 := ⟨⟨(i 0).val / 4096, by omega⟩, rfl⟩
  refine ⟨t, flush0_11 t, ?_⟩
  show i ∈ ((View.whole main_v13_1).slice (win0_11.rect t)).set
  rw [View.set_slice_whole, Rect.mem_set_unit]
  have e := (idx_all t).2.2.2.2.2.2.2.2.2
  intro a
  match a with
  | 0 => show win0_11.index t 0 * 4096 ≤ (i 0).val ∧ (i 0).val < win0_11.index t 0 * 4096 + 4096
         rw [e.1]; omega
  | 1 => show win0_11.index t 1 * 128 ≤ (i 1).val ∧ (i 1).val < win0_11.index t 1 * 128 + 128
         rw [e.2]; omega

/-- The kernel's first two result arrays are the reference's functions of its arguments. -/
theorem final10 (c : Dev nD) : (dats m 0 c).arrAt 10 cfg0.N = refFirst m c :=
  (dats m 0 c).arrAt_eq_of_cover 10 _ (fun t _ => first_eq m c t) cover10
theorem final11 (c : Dev nD) : (dats m 0 c).arrAt 11 cfg0.N = refSecond m c :=
  (dats m 0 c).arrAt_eq_of_cover 11 _ (fun t _ => second_eq m c t) cover11

/-- How a run ends: the two results, and the arguments as they were. -/
theorem run_end : θ_run defs (onTc (τ := τ) (main (F := Ideal))) ⟨m, fun _ => 0, ρ⟩ (fun r => ∀ c : Dev nD,
      r.2.mem ((c.tc : Thread nD τ).loc main_v13_0) = refFirst m c
      ∧ r.2.mem ((c.tc : Thread nD τ).loc main_v13_1) = refSecond m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.2 c).1 10).trans (final10 m c), ((h.2 c).1 11).trans (final11 m c), h.1.1 c⟩)
    (θ_run_and (frame m ρ) (run_main m ρ))

end Cert.Op

end
-- ==== Proof.SbPre.lean ====
/- What the precondition says: the query and key columns are real numbers. -/
module

public import proofs.«01_k».proof.Defs
public import proofs.«01_k».proof.Proof.Gen.Pre_scores_finite
public import Idealize.ShloMosaic.Lib.Pointwise
public import Idealize.ShloMosaic.PureOps.Ideal.Laws
@[expose] public section

set_option maxRecDepth 16384
noncomputable section

namespace Cert.Pre_scores_finite

open Idealize.ShloMosaic Idealize.ShloMosaic.TcCoe Idealize.SL.Sem

theorem ofBits_top : Ideal.ofBits .f32 0x7F800000#32 = ⊤ := by
  simp [Ideal.ofBits, Ideal.ieee]

theorem real_of (x : FVec Ideal S16384x2304 .bf16) (h : fn (F := Ideal) x = fun _ => 1#1) (R : Fin 16384) (C : Fin 2304) (hC : C.val < 512) :
    ∃ a : ℝ, (x (ix2 R C) : EReal) = a := by
  have e := congrFun h (ix2 R (⟨C.val, hC⟩ : Fin 512))
  have hx : extractStridedSlice S16384x512 ![0, 0] x Facts.slices_S16384x2304_S16384x512_0_0 (ix2 R (⟨C.val, hC⟩ : Fin 512)) = x (ix2 R C) :=
    congrArg x (funext fun a => Fin.ext (match a with | 0 => Nat.zero_add _ | 1 => Nat.zero_add _))
  have e' : BitVec.ofBool (decide (max (x (ix2 R C) : EReal) (-(x (ix2 R C) : EReal)) < Ideal.ofBits .f32 0x7F800000#32)) = 1#1 := by
    rw [← hx]; exact e
  rw [ofBits_top] at e'
  have h1 : max (x (ix2 R C) : EReal) (-(x (ix2 R C) : EReal)) < ⊤ := by
    by_contra hc
    rw [decide_eq_false hc] at e'
    exact absurd e' (by decide)
  obtain ⟨ha, hb⟩ := max_lt_iff.1 h1
  exact ⟨(x (ix2 R C) : EReal).toReal, (EReal.coe_toReal ha.ne (fun hc => by rw [hc] at hb; exact absurd hb (by simp))).symm⟩

end Cert.Pre_scores_finite
-- ==== Proof.MoeRun.lean ====
/- The body of the experts kernel, run once over any element values: what it leaves in the output
   block and in the two scratch buffers, at a point that is used and takes a new expert's weights,
   at a point that is used and keeps the weights it holds, and at a point that is not used. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The table of each block's expert, as the body is handed it. -/
abbrev tabE : Memref sig .tc .smem S160 .i32 := Memref.whole main_arg0
/-- The number of used blocks, as the body is handed it. -/
abbrev tabN : Memref sig .tc .smem S1 .i32 := Memref.whole main_arg1

/-- The contents of a table's buffer on core `c`. -/
abbrev TabBuf (c : Dev nD) {S : Shape} {e : EltTy} (M : Memref sig .tc .smem S e) : Type := Buf (Elt F) (M.view.loc (c : Thread nD τ))
/-- A table's buffer held, to read only, at `f`. -/
abbrev tabPt (c : Dev nD) {S : Shape} {e : EltTy} (M : Memref sig .tc .smem S e) (f : TabBuf (F := F) c M) : sProp 𝕄 :=
  M.view.loc (c : Thread nD τ) ↦{fullShare.right} f

/-- The number of used blocks, the word the body reads. -/
abbrev wordN (c : Dev nD) (x : TabBuf (F := F) c tabN) : BitVec 32 :=
  tabN.view.readAt (Elt F) (Rect.unit (s := S1) ![0] S1.size inb_S1_S1_0).toLoadRect x (Shape.Idx.first (numel1_S1.symm ▸ Nat.one_pos))
/-- This block's expert, the word the body reads. -/
abbrev wordE (c : Dev nD) (i : grid0.Coords) (x : TabBuf (F := F) c tabE) : BitVec 32 :=
  tabE.view.readAt (Elt F) (Rect.unit (s := S160) (k0_off2 i) S1.size (k0_off2_inb i)).toLoadRect x (Shape.Idx.first (numel1_S1.symm ▸ Nat.one_pos))
/-- The block before's expert, the word the body reads (this block's own, at the first block). -/
abbrev wordP (c : Dev nD) (i : grid0.Coords) (x : TabBuf (F := F) c tabE) : BitVec 32 :=
  tabE.view.readAt (Elt F) (Rect.unit (s := S160) (k0_off3 i) S1.size (k0_off3_inb i)).toLoadRect x (Shape.Idx.first (numel1_S1.symm ▸ Nat.one_pos))
/-- The block takes its expert's weights anew: it is the first, or its expert is not the one before's. -/
abbrev condW (i : grid0.Coords) (a b : BitVec 32) : Prop :=
  (Scalar.cmpi .ne (Scalar.extui (Scalar.ori (Scalar.cmpi .eq (BitVec.ofNat 32 (i 0).val) 0#32) (Scalar.cmpi .ne a b))) 0#32) = 1#1

/-- What a load at a stride reads of contents that read `X`. -/
abbrev ldS {S : Shape} {e : EltTy} (X : S.Idx → Elt F e) (r : LoadRect S) : r.shape.Idx → Elt F e := fun x => X (r.idx x)
theorem readAt_eq_ldS {sg : RefSig} {κ : Kind} {sp : Space} {S : Shape} {e : EltTy} (v : View sg κ sp S e) (f : v.ty.Contents (Elt F)) (r : LoadRect S) :
    v.readAt (Elt F) r f = ldS (v.read (Elt F) f) r := rfl

/-- One of the eight lanes tiles of a block of rows: every eighth row from row `0`, `1`, … of the block. -/
abbrev tile0 (x : Vec F S4096x128 .f32) : Vec F S512x128 .f32 := ldS x ⟨![0, 0], S512x128.size, ![8, 1], inb_S4096x128_S512x128_0_0_s_8_1⟩
abbrev tile1 (x : Vec F S4096x128 .f32) : Vec F S512x128 .f32 := ldS x ⟨![1, 0], S512x128.size, ![8, 1], inb_S4096x128_S512x128_1_0_s_8_1⟩
abbrev tile2 (x : Vec F S4096x128 .f32) : Vec F S512x128 .f32 := ldS x ⟨![2, 0], S512x128.size, ![8, 1], inb_S4096x128_S512x128_2_0_s_8_1⟩
abbrev tile3 (x : Vec F S4096x128 .f32) : Vec F S512x128 .f32 := ldS x ⟨![3, 0], S512x128.size, ![8, 1], inb_S4096x128_S512x128_3_0_s_8_1⟩
abbrev tile4 (x : Vec F S4096x128 .f32) : Vec F S512x128 .f32 := ldS x ⟨![4, 0], S512x128.size, ![8, 1], inb_S4096x128_S512x128_4_0_s_8_1⟩
abbrev tile5 (x : Vec F S4096x128 .f32) : Vec F S512x128 .f32 := ldS x ⟨![5, 0], S512x128.size, ![8, 1], inb_S4096x128_S512x128_5_0_s_8_1⟩
abbrev tile6 (x : Vec F S4096x128 .f32) : Vec F S512x128 .f32 := ldS x ⟨![6, 0], S512x128.size, ![8, 1], inb_S4096x128_S512x128_6_0_s_8_1⟩
abbrev tile7 (x : Vec F S4096x128 .f32) : Vec F S512x128 .f32 := ldS x ⟨![7, 0], S512x128.size, ![8, 1], inb_S4096x128_S512x128_7_0_s_8_1⟩

/-- What the body computes of a block of rows `x`, the rounded weights `w` and `v` and the biases `b` and `a`: a row of
    the block's result per row, all its columns side by side. -/
def rowsOut (x : Vec F S4096x128 .f32) (w : Vec F S1024x2048 .bf16) (b : Vec F S1x1x1x2048 .f32) (v : Vec F S1024x1024 .bf16)
    (a : Vec F S1x1x1x1024 .f32) : FVec F S512x1024 .f32 :=
  k0_pay10 (k0_pay8 (tile0 x) (tile1 x) (tile2 x) (tile3 x) (tile4 x) (tile5 x) (tile6 x) (tile7 x) w b)
    (k0_pay9 (tile0 x) (tile1 x) (tile2 x) (tile3 x) (tile4 x) (tile5 x) (tile6 x) (tile7 x) w b) v a

/-- Rows of 1024 laid out as the output block lays them: eight rows of 128 lanes for each. -/
def laid (y : FVec F S512x1024 .f32) : Vec F S4096x128 .f32 := fun j =>
  y (ix2 ⟨(j 0).val / 8, by have h : (j 0).val < 4096 := (j 0).isLt; show _ < 512; omega⟩
    ⟨(j 0).val % 8 * 128 + (j 1).val, by have h : (j 1).val < 128 := (j 1).isLt; show _ < 1024; omega⟩)

/-- The output block as the body stores it: a store at stride eight per tile of 128 columns. -/
def stores (y : FVec F S512x1024 .f32) : List (View.Piece (Elt F) S4096x128 .f32) :=
  [⟨⟨⟨![7, 0], S512x128.size, ![8, 1], inb_S4096x128_S512x128_7_0_s_8_1⟩, spos_8_1⟩, extractStridedSlice S512x128 ![0, 896] y slices_S512x1024_o0_896_S512x128⟩,
   ⟨⟨⟨![6, 0], S512x128.size, ![8, 1], inb_S4096x128_S512x128_6_0_s_8_1⟩, spos_8_1⟩, extractStridedSlice S512x128 ![0, 768] y slices_S512x1024_o0_768_S512x128⟩,
   ⟨⟨⟨![5, 0], S512x128.size, ![8, 1], inb_S4096x128_S512x128_5_0_s_8_1⟩, spos_8_1⟩, extractStridedSlice S512x128 ![0, 640] y slices_S512x1024_o0_640_S512x128⟩,
   ⟨⟨⟨![4, 0], S512x128.size, ![8, 1], inb_S4096x128_S512x128_4_0_s_8_1⟩, spos_8_1⟩, extractStridedSlice S512x128 ![0, 512] y slices_S512x1024_o0_512_S512x128⟩,
   ⟨⟨⟨![3, 0], S512x128.size, ![8, 1], inb_S4096x128_S512x128_3_0_s_8_1⟩, spos_8_1⟩, extractStridedSlice S512x128 ![0, 384] y slices_S512x1024_o0_384_S512x128⟩,
   ⟨⟨⟨![2, 0], S512x128.size, ![8, 1], inb_S4096x128_S512x128_2_0_s_8_1⟩, spos_8_1⟩, extractStridedSlice S512x128 ![0, 256] y slices_S512x1024_o0_256_S512x128⟩,
   ⟨⟨⟨![1, 0], S512x128.size, ![8, 1], inb_S4096x128_S512x128_1_0_s_8_1⟩, spos_8_1⟩, extractStridedSlice S512x128 ![0, 128] y slices_S512x1024_o0_128_S512x128⟩,
   ⟨⟨⟨![0, 0], S512x128.size, ![8, 1], inb_S4096x128_S512x128_0_0_s_8_1⟩, spos_8_1⟩, extractStridedSlice S512x128 ![0, 0] y slices_S512x1024_o0_0_S512x128⟩]

/-- One of those stores writes its part of the laid-out rows. -/
theorem store_eq (y : FVec F S512x1024 .f32) (k o : Nat) (hk : k < 8) (ho : o = k * 128) (h : S512x1024.Slices ![0, o] S512x128)
    (inb : ∀ a, S512x128.size a = 0 ∨ (![k, 0] : Fin 2 → Nat) a + (![8, 1] : Fin 2 → Nat) a * (S512x128.size a - 1) < S4096x128.size a)
    (x : S512x128.Idx) :
    extractStridedSlice S512x128 ![0, o] y h x
      = laid y ((⟨⟨![k, 0], S512x128.size, ![8, 1], inb⟩, spos_8_1⟩ : Rect S4096x128).emb x) := by
  subst ho
  have h0 : (((⟨⟨![k, 0], S512x128.size, ![8, 1], inb⟩, spos_8_1⟩ : Rect S4096x128).emb x) 0).val = k + 8 * (x 0).val := rfl
  have h1 : (((⟨⟨![k, 0], S512x128.size, ![8, 1], inb⟩, spos_8_1⟩ : Rect S4096x128).emb x) 1).val = 0 + 1 * (x 1).val := rfl
  unfold laid
  refine extractStridedSlice_apply _ _ _ _ _ (fun a => ?_)
  fin_cases a
  · show (((⟨⟨![k, 0], S512x128.size, ![8, 1], inb⟩, spos_8_1⟩ : Rect S4096x128).emb x) 0).val / 8 = (0 : Nat) + (x 0).val
    rw [h0]; omega
  · show (((⟨⟨![k, 0], S512x128.size, ![8, 1], inb⟩, spos_8_1⟩ : Rect S4096x128).emb x) 0).val % 8 * 128 + (((⟨⟨![k, 0], S512x128.size, ![8, 1], inb⟩, spos_8_1⟩ : Rect S4096x128).emb x) 1).val = k * 128 + (x 1).val
    rw [h0, h1]; omega

/-- Every row of the block is in one of those stores. -/
theorem mem_store (k : Nat)
    (inb : ∀ a, S512x128.size a = 0 ∨ (![k, 0] : Fin 2 → Nat) a + (![8, 1] : Fin 2 → Nat) a * (S512x128.size a - 1) < S4096x128.size a)
    (j : S4096x128.Idx) (hj : (j 0).val % 8 = k) :
    j ∈ (⟨⟨![k, 0], S512x128.size, ![8, 1], inb⟩, spos_8_1⟩ : Rect S4096x128).set := by
  have h0 : (j 0).val < 4096 := (j 0).isLt
  have h1 : (j 1).val < 128 := (j 1).isLt
  refine (LoadRect.mem_set _).mpr fun a => ?_
  fin_cases a
  · refine ⟨(j 0).val / 8, ?_, ?_⟩
    · show (j 0).val / 8 < 512; omega
    · show (j 0).val = k + 8 * ((j 0).val / 8); omega
  · refine ⟨(j 1).val, h1, ?_⟩
    show (j 1).val = 0 + 1 * (j 1).val; omega

/-- The eight stores leave the laid-out rows, over anything. -/
theorem read_stores {sg : RefSig} {κ : Kind} {sp : Space} (v : View sg κ sp S4096x128 .f32) (f : v.ty.Contents (Elt F)) (y : FVec F S512x1024 .f32) :
    v.read (Elt F) (v.writes (Elt F) f (stores y)) = laid y := by
  have hc : ∀ j : S4096x128.Idx, ∃ p ∈ stores y, j ∈ p.1.set := fun j => by
    have hk : (j 0).val % 8 < 8 := Nat.mod_lt _ (by decide)
    obtain h | h | h | h | h | h | h | h : (j 0).val % 8 = 0 ∨ (j 0).val % 8 = 1 ∨ (j 0).val % 8 = 2 ∨ (j 0).val % 8 = 3 ∨ (j 0).val % 8 = 4 ∨ (j 0).val % 8 = 5 ∨ (j 0).val % 8 = 6 ∨ (j 0).val % 8 = 7 := by omega
    · exact ⟨_, .tail _ (.tail _ (.tail _ (.tail _ (.tail _ (.tail _ (.tail _ (.head _))))))), mem_store 0 _ j h⟩
    · exact ⟨_, .tail _ (.tail _ (.tail _ (.tail _ (.tail _ (.tail _ (.head _)))))), mem_store 1 _ j h⟩
    · exact ⟨_, .tail _ (.tail _ (.tail _ (.tail _ (.tail _ (.head _))))), mem_store 2 _ j h⟩
    · exact ⟨_, .tail _ (.tail _ (.tail _ (.tail _ (.head _)))), mem_store 3 _ j h⟩
    · exact ⟨_, .tail _ (.tail _ (.tail _ (.head _))), mem_store 4 _ j h⟩
    · exact ⟨_, .tail _ (.tail _ (.head _)), mem_store 5 _ j h⟩
    · exact ⟨_, .tail _ (.head _), mem_store 6 _ j h⟩
    · exact ⟨_, .head _, mem_store 7 _ j h⟩
  rw [View.read_writes_eq_canon _ _ _ hc]
  refine funext fun j => View.canon_apply_of_pieces (laid y) _ ?_ j (hc j)
  intro p hp
  simp only [stores, List.mem_cons, List.not_mem_nil, or_false] at hp
  obtain rfl | rfl | rfl | rfl | rfl | rfl | rfl | rfl := hp
  · exact store_eq y 7 896 (by decide) rfl slices_S512x1024_o0_896_S512x128 _
  · exact store_eq y 6 768 (by decide) rfl slices_S512x1024_o0_768_S512x128 _
  · exact store_eq y 5 640 (by decide) rfl slices_S512x1024_o0_640_S512x128 _
  · exact store_eq y 4 512 (by decide) rfl slices_S512x1024_o0_512_S512x128 _
  · exact store_eq y 3 384 (by decide) rfl slices_S512x1024_o0_384_S512x128 _
  · exact store_eq y 2 256 (by decide) rfl slices_S512x1024_o0_256_S512x128 _
  · exact store_eq y 1 128 (by decide) rfl slices_S512x1024_o0_128_S512x128 _
  · exact store_eq y 0 0 (by decide) rfl slices_S512x1024_o0_0_S512x128 _

theorem hz2 : (![0, 0] : Fin 2 → Nat) = fun _ => 0 := by funext a; fin_cases a <;> rfl
theorem hz4 : (![0, 0, 0, 0] : Fin 4 → Nat) = fun _ => 0 := by funext a; fin_cases a <;> rfl

section
variable (c : Dev nD) (i : grid0.Coords)
  (arg3 : Memref sig .tc .vmem S4096x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S4096x128 .f32) (harg8 : arg8.IsWhole)
  (arg9 : Memref sig .tc .vmem S1024x2048 .bf16) (harg9 : arg9.IsWhole)
  (arg10 : Memref sig .tc .vmem S1024x1024 .bf16) (harg10 : arg10.IsWhole)
  (x0 : Vec F S4096x128 .f32) (x1 : Vec F S1x1x1024x2048 .f32) (x2 : Vec F S1x1x1x2048 .f32)
  (x3 : Vec F S1x1x1024x1024 .f32) (x4 : Vec F S1x1x1x1024 .f32)
  (d0 : Vec F S1024x2048 .bf16) (d1 : Vec F S1024x1024 .bf16)
  (xE : TabBuf (F := F) c tabE) (xN : TabBuf (F := F) c tabN)

set_option maxHeartbeats 1000000 in
/-- A used block that takes its expert's weights anew: the pieces it writes of the output block and of the
    two scratch buffers, with the body's triple. -/
noncomputable def runNew (h1 : k0_cond1 i (wordN c xN) = 1#1) (h3 : ¬k0_cond3 i (wordN c xN) = 1#1)
    (hw : condW i (wordE c i xE) (wordP c i xE)) :
    Σ' (L5 : List (View.Piece (Elt F) S4096x128 .f32)), Σ' (LS0 : List (View.Piece (Elt F) S1024x2048 .bf16)), { LS1 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tabPt c tabE xE ∗ tabPt c tabN xN
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ tabPt c tabE xE ∗ tabPt c tabN xN) -∗ K ⟨⟩))
          ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K } := by
  refine ⟨?_, ?_, ?_, fun E K => ?run⟩
  case run =>
    simp only [cc0_moe_experts_eq_skeleton]; unfold cc0_moe_experts_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact h1 | sl_exact h3 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- A used block of the expert of the block before it, whose rounded weights are still there: the pieces it writes of
    the output block, with the body's triple. -/
noncomputable def runKeep (h1 : k0_cond1 i (wordN c xN) = 1#1) (h3 : ¬k0_cond3 i (wordN c xN) = 1#1)
    (hw : ¬condW i (wordE c i xE) (wordP c i xE)) :
    { L5 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare d0 ∗ owns (c : Thread nD τ) arg10 fullShare d1 ∗ tabPt c tabE xE ∗ tabPt c tabN xN
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare d0 ∗ owns (c : Thread nD τ) arg10 fullShare d1 ∗ tabPt c tabE xE ∗ tabPt c tabN xN) -∗ K ⟨⟩))
          ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hs0; obtain rfl := harg10.eq_unread hs1
    sl_exec (disch := first | sl_exact h1 | sl_exact h3 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HT0]; · iexact HT0
    iexact HT1

set_option maxHeartbeats 1000000 in
/-- A block past the used ones: it writes zeros into the output block and touches nothing else. -/
noncomputable def runZero (h1 : ¬k0_cond1 i (wordN c xN) = 1#1) (h3 : k0_cond3 i (wordN c xN) = 1#1) :
    { L5 : List (View.Piece (Elt F) S4096x128 .f32) //
      ∀ (E : Set ℕ) (K : PUnit → sProp 𝕄),
        iprop((∃ d, owns (c : Thread nD τ) arg8 fullShare d) ∗ tabPt c tabN xN
            ∗ (iprop((∃ f, arg8.view.loc (c : Thread nD τ) ↦[arg8.view.set]{fullShare} arg8.view.writes (Elt F) f L5) ∗ tabPt c tabN xN) -∗ K ⟨⟩))
          ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part2_eq_skeleton, k0_part1_eq_skeleton]
    unfold owns
    iintro ⟨⟨%d5, %f5, -, H5⟩, HT1, Hk⟩
    sl_exec (disch := first | sl_exact h1 | sl_exact h3)
    sl_step
    iapply Hk
    isplitl [H5]; · iexists _; iexact H5
    iexact HT1

end

end Cert.Moe

end
-- ==== Proof.MoePost.lean ====
/- What the three runs of the experts kernel's body leave, by name: the block's result laid out in the output
   block, the rounded weights in the two scratch buffers, or zeros. -/
module

public import proofs.«01_k».proof.Proof.MoeRun

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

section
variable (c : Dev nD) (i : grid0.Coords)
  (arg3 : Memref sig .tc .vmem S4096x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S4096x128 .f32) (harg8 : arg8.IsWhole)
  (arg9 : Memref sig .tc .vmem S1024x2048 .bf16) (harg9 : arg9.IsWhole)
  (arg10 : Memref sig .tc .vmem S1024x1024 .bf16) (harg10 : arg10.IsWhole)
  (x0 : Vec F S4096x128 .f32) (x1 : Vec F S1x1x1024x2048 .f32) (x2 : Vec F S1x1x1x2048 .f32)
  (x3 : Vec F S1x1x1024x1024 .f32) (x4 : Vec F S1x1x1x1024 .f32)
  (d0 : Vec F S1024x2048 .bf16) (d1 : Vec F S1024x1024 .bf16)
  (xE : TabBuf (F := F) c tabE) (xN : TabBuf (F := F) c tabN)

/-- A buffer one store over the whole of it wrote reads what was stored. -/
theorem read_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, .head _, View.mem_set_unit_zero h inb y⟩]
  exact View.canon_unit_zero h inb w

theorem ld_w (X : Vec F S1x1x1024x2048 .f32) :
    ldS X (Rect.unit ![0, 0, 0, 0] S1x1x1024x2048.size inb_S1x1x1024x2048_S1x1x1024x2048_0_0_0_0).toLoadRect = X :=
  View.ld_unit_zero (S := S1x1x1024x2048) hz4 _ X
theorem ld_b (X : Vec F S1x1x1x2048 .f32) :
    ldS X (Rect.unit ![0, 0, 0, 0] S1x1x1x2048.size inb_S1x1x1x2048_S1x1x1x2048_0_0_0_0).toLoadRect = X :=
  View.ld_unit_zero (S := S1x1x1x2048) hz4 _ X
theorem ld_v (X : Vec F S1x1x1024x1024 .f32) :
    ldS X (Rect.unit ![0, 0, 0, 0] S1x1x1024x1024.size inb_S1x1x1024x1024_S1x1x1024x1024_0_0_0_0).toLoadRect = X :=
  View.ld_unit_zero (S := S1x1x1024x1024) hz4 _ X
theorem ld_a (X : Vec F S1x1x1x1024 .f32) :
    ldS X (Rect.unit ![0, 0, 0, 0] S1x1x1x1024.size inb_S1x1x1x1024_S1x1x1x1024_0_0_0_0).toLoadRect = X :=
  View.ld_unit_zero (S := S1x1x1x1024) hz4 _ X
theorem ld_d0 (X : Vec F S1024x2048 .bf16) :
    ldS X (Rect.unit ![0, 0] S1024x2048.size inb_S1024x2048_S1024x2048_0_0).toLoadRect = X :=
  View.ld_unit_zero (S := S1024x2048) hz2 _ X
theorem ld_d1 (X : Vec F S1024x1024 .bf16) :
    ldS X (Rect.unit ![0, 0] S1024x1024.size inb_S1024x1024_S1024x1024_0_0).toLoadRect = X :=
  View.ld_unit_zero (S := S1024x1024) hz2 _ X

theorem new_hs0 : runNew.sl.HS0_1 c arg4 harg4 x1 = [⟨Rect.unit ![0, 0] S1024x2048.size inb_S1024x2048_S1024x2048_0_0, k0_pay5 x1⟩] := by
  unfold runNew.sl.HS0_1
  rw [readAt_eq_ldS, harg4.read_unread, ld_w]
theorem new_hs1 : runNew.sl.HS1_1 c arg6 harg6 x3 = [⟨Rect.unit ![0, 0] S1024x1024.size inb_S1024x1024_S1024x1024_0_0, k0_pay6 x3⟩] := by
  unfold runNew.sl.HS1_1
  rw [readAt_eq_ldS, harg6.read_unread, ld_v]
theorem new_v29 : runNew.sl.v29 c arg4 harg4 arg9 x1 = k0_pay5 x1 := by
  unfold runNew.sl.v29; rw [new_hs0]
  exact View.readCov_unit_zero (S := S1024x2048) arg9.view hz2 inb_S1024x2048_S1024x2048_0_0 _
theorem new_v55 : runNew.sl.v55 c arg6 harg6 arg10 x3 = k0_pay6 x3 := by
  unfold runNew.sl.v55; rw [new_hs1]
  exact View.readCov_unit_zero (S := S1024x1024) arg10.view hz2 inb_S1024x1024_S1024x1024_0_0 _
theorem new_r3 : runNew.sl.r_3 c arg3 harg3 arg4 harg4 arg5 harg5 arg9 x0 x1 x2
    = k0_pay8 (tile0 x0) (tile1 x0) (tile2 x0) (tile3 x0) (tile4 x0) (tile5 x0) (tile6 x0) (tile7 x0) (k0_pay5 x1) x2 := by
  unfold runNew.sl.r_3; rw [new_v29]; repeat rw [readAt_eq_ldS]
  rw [harg3.read_unread, harg5.read_unread, ld_b]
theorem new_r4 : runNew.sl.r_4 c arg3 harg3 arg4 harg4 arg5 harg5 arg9 x0 x1 x2
    = k0_pay9 (tile0 x0) (tile1 x0) (tile2 x0) (tile3 x0) (tile4 x0) (tile5 x0) (tile6 x0) (tile7 x0) (k0_pay5 x1) x2 := by
  unfold runNew.sl.r_4; rw [new_v29]; repeat rw [readAt_eq_ldS]
  rw [harg3.read_unread, harg5.read_unread, ld_b]
theorem keep_r3 : runKeep.sl.r_3 c arg3 harg3 arg5 harg5 arg9 harg9 x0 x2 d0
    = k0_pay8 (tile0 x0) (tile1 x0) (tile2 x0) (tile3 x0) (tile4 x0) (tile5 x0) (tile6 x0) (tile7 x0) d0 x2 := by
  unfold runKeep.sl.r_3; repeat rw [readAt_eq_ldS]
  rw [harg3.read_unread, harg5.read_unread, harg9.read_unread, ld_b, ld_d0]
theorem keep_r4 : runKeep.sl.r_4 c arg3 harg3 arg5 harg5 arg9 harg9 x0 x2 d0
    = k0_pay9 (tile0 x0) (tile1 x0) (tile2 x0) (tile3 x0) (tile4 x0) (tile5 x0) (tile6 x0) (tile7 x0) d0 x2 := by
  unfold runKeep.sl.r_4; repeat rw [readAt_eq_ldS]
  rw [harg3.read_unread, harg5.read_unread, harg9.read_unread, ld_b, ld_d0]

/-- A new expert's block: the output block's pieces. -/
theorem new_out (h1 : k0_cond1 i (wordN c xN) = 1#1) (h3 : ¬k0_cond3 i (wordN c xN) = 1#1) (hw : condW i (wordE c i xE) (wordP c i xE)) :
    (runNew c i arg3 harg3 arg4 harg4 arg5 harg5 arg6 harg6 arg7 harg7 arg8 harg8 arg9 harg9 arg10 harg10 x0 x1 x2 x3 x4 xE xN h1 h3 hw).1
      = stores (rowsOut x0 (k0_pay5 x1) x2 (k0_pay6 x3) x4) := by
  have e : (runNew c i arg3 harg3 arg4 harg4 arg5 harg5 arg6 harg6 arg7 harg7 arg8 harg8 arg9 harg9 arg10 harg10 x0 x1 x2 x3 x4 xE xN h1 h3 hw).1
      = stores (k0_pay10 (runNew.sl.r_3 c arg3 harg3 arg4 harg4 arg5 harg5 arg9 x0 x1 x2) (runNew.sl.r_4 c arg3 harg3 arg4 harg4 arg5 harg5 arg9 x0 x1 x2)
          (runNew.sl.v55 c arg6 harg6 arg10 x3)
          (arg7.view.readAt (Elt F) (Rect.unit ![0, 0, 0, 0] S1x1x1x1024.size inb_S1x1x1x1024_S1x1x1x1024_0_0_0_0).toLoadRect (harg7.unread x4))) := rfl
  rw [e, new_r3, new_r4, new_v55, readAt_eq_ldS, harg7.read_unread, ld_a]
  rfl

/-- A block of the expert before it: the output block's pieces. -/
theorem keep_out (h1 : k0_cond1 i (wordN c xN) = 1#1) (h3 : ¬k0_cond3 i (wordN c xN) = 1#1) (hw : ¬condW i (wordE c i xE) (wordP c i xE)) :
    (runKeep c i arg3 harg3 arg4 harg4 arg5 harg5 arg6 harg6 arg7 harg7 arg8 harg8 arg9 harg9 arg10 harg10 x0 x1 x2 x3 x4 d0 d1 xE xN h1 h3 hw).1
      = stores (rowsOut x0 d0 x2 d1 x4) := by
  have e : (runKeep c i arg3 harg3 arg4 harg4 arg5 harg5 arg6 harg6 arg7 harg7 arg8 harg8 arg9 harg9 arg10 harg10 x0 x1 x2 x3 x4 d0 d1 xE xN h1 h3 hw).1
      = stores (k0_pay10 (runKeep.sl.r_3 c arg3 harg3 arg5 harg5 arg9 harg9 x0 x2 d0) (runKeep.sl.r_4 c arg3 harg3 arg5 harg5 arg9 harg9 x0 x2 d0)
          (arg10.view.readAt (Elt F) (Rect.unit ![0, 0] S1024x1024.size inb_S1024x1024_S1024x1024_0_0).toLoadRect (harg10.unread d1))
          (arg7.view.readAt (Elt F) (Rect.unit ![0, 0, 0, 0] S1x1x1x1024.size inb_S1x1x1x1024_S1x1x1x1024_0_0_0_0).toLoadRect (harg7.unread x4))) := rfl
  rw [e, keep_r3, keep_r4, readAt_eq_ldS, readAt_eq_ldS, harg10.read_unread, harg7.read_unread, ld_d1, ld_a]
  rfl

/-- What each run leaves, read back: whatever was there before. -/
theorem new_read_out (h1 : k0_cond1 i (wordN c xN) = 1#1) (h3 : ¬k0_cond3 i (wordN c xN) = 1#1) (hw : condW i (wordE c i xE) (wordP c i xE)) (f : arg8.view.ty.Contents (Elt F)) :
    arg8.view.read (Elt F) (arg8.view.writes (Elt F) f (runNew c i arg3 harg3 arg4 harg4 arg5 harg5 arg6 harg6 arg7 harg7 arg8 harg8 arg9 harg9 arg10 harg10 x0 x1 x2 x3 x4 xE xN h1 h3 hw).1)
      = laid (rowsOut x0 (k0_pay5 x1) x2 (k0_pay6 x3) x4) := by rw [new_out]; exact read_stores _ _ _
theorem new_read_d0 (h1 : k0_cond1 i (wordN c xN) = 1#1) (h3 : ¬k0_cond3 i (wordN c xN) = 1#1) (hw : condW i (wordE c i xE) (wordP c i xE)) (f : arg9.view.ty.Contents (Elt F)) :
    arg9.view.read (Elt F) (arg9.view.writes (Elt F) f (runNew c i arg3 harg3 arg4 harg4 arg5 harg5 arg6 harg6 arg7 harg7 arg8 harg8 arg9 harg9 arg10 harg10 x0 x1 x2 x3 x4 xE xN h1 h3 hw).2.1)
      = k0_pay5 x1 := by
  rw [show (runNew c i arg3 harg3 arg4 harg4 arg5 harg5 arg6 harg6 arg7 harg7 arg8 harg8 arg9 harg9 arg10 harg10 x0 x1 x2 x3 x4 xE xN h1 h3 hw).2.1 = runNew.sl.HS0_1 c arg4 harg4 x1 from rfl, new_hs0]
  exact read_whole (S := S1024x2048) _ _ hz2 _ _
theorem new_read_d1 (h1 : k0_cond1 i (wordN c xN) = 1#1) (h3 : ¬k0_cond3 i (wordN c xN) = 1#1) (hw : condW i (wordE c i xE) (wordP c i xE)) (f : arg10.view.ty.Contents (Elt F)) :
    arg10.view.read (Elt F) (arg10.view.writes (Elt F) f (runNew c i arg3 harg3 arg4 harg4 arg5 harg5 arg6 harg6 arg7 harg7 arg8 harg8 arg9 harg9 arg10 harg10 x0 x1 x2 x3 x4 xE xN h1 h3 hw).2.2.1)
      = k0_pay6 x3 := by
  rw [show (runNew c i arg3 harg3 arg4 harg4 arg5 harg5 arg6 harg6 arg7 harg7 arg8 harg8 arg9 harg9 arg10 harg10 x0 x1 x2 x3 x4 xE xN h1 h3 hw).2.2.1 = runNew.sl.HS1_1 c arg6 harg6 x3 from rfl, new_hs1]
  exact read_whole (S := S1024x1024) _ _ hz2 _ _
theorem keep_read_out (h1 : k0_cond1 i (wordN c xN) = 1#1) (h3 : ¬k0_cond3 i (wordN c xN) = 1#1) (hw : ¬condW i (wordE c i xE) (wordP c i xE)) (f : arg8.view.ty.Contents (Elt F)) :
    arg8.view.read (Elt F) (arg8.view.writes (Elt F) f (runKeep c i arg3 harg3 arg4 harg4 arg5 harg5 arg6 harg6 arg7 harg7 arg8 harg8 arg9 harg9 arg10 harg10 x0 x1 x2 x3 x4 d0 d1 xE xN h1 h3 hw).1)
      = laid (rowsOut x0 d0 x2 d1 x4) := by rw [keep_out]; exact read_stores _ _ _
theorem zero_read_out (h1 : ¬k0_cond1 i (wordN c xN) = 1#1) (h3 : k0_cond3 i (wordN c xN) = 1#1) (f : arg8.view.ty.Contents (Elt F)) :
    arg8.view.read (Elt F) (arg8.view.writes (Elt F) f (runZero c i arg3 harg3 arg4 harg4 arg5 harg5 arg6 harg6 arg7 harg7 arg8 harg8 arg9 harg9 arg10 harg10 xN h1 h3).1)
      = k0_pay4 := by
  rw [show (runZero c i arg3 harg3 arg4 harg4 arg5 harg5 arg6 harg6 arg7 harg7 arg8 harg8 arg9 harg9 arg10 harg10 xN h1 h3).1
      = [⟨Rect.unit ![0, 0] S4096x128.size inb_S4096x128_S4096x128_0_0, k0_pay4⟩] from rfl]
  exact read_whole (S := S4096x128) _ _ hz2 _ _
end

end Cert.Moe

end
-- ==== Proof.MoeSet.lean ====
/- The experts kernel's launch: what the region finds, the blocks its windows hold at each point, and
   what the words of the two tables decide — which points are used, and which take new weights. -/
module

public import proofs.«01_k».proof.Proof.MoePost

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- A buffer of device `c` when the region is entered, after the host's two reshapes. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host's reshapes, then the region. -/
theorem host_then_region (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The reshapes write only their own two buffers. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-- The two tables, as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tables place every block inside its array. -/
abbrev Ok : Prop := ok0 (F := F) (tbl m)
/-- The tables as contents the region admits, and the pipeline at them. -/
abbrev adm (hO : Ok m) : (pcfg0 (F := F)).Adm := ⟨tbl m, hO⟩
abbrev cfgM (hO : Ok m) : Pipeline.Cfg sig Λ₀ := cfg0 (adm m hO)

/-- The tables' halves the region hands the body. -/
theorem tables_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The scratch buffers: the expert's two weight matrices, rounded. -/
abbrev s0 : Memref sig .tc .vmem S1024x2048 .bf16 := Memref.whole cc0_scratch0
abbrev s1 : Memref sig .tc .vmem S1024x1024 .bf16 := Memref.whole cc0_scratch1

/-- What the region holds besides the windows: the scratch buffers at anything, and the generator register. -/
theorem held_eq (c : Dev nD) :
    (Pipeline.ΦA spec0 c : sProp 𝕄)
      = iprop(iprop((∃ d, owns (c : Thread nD τ) s0 fullShare d) ∗ (∃ d, owns (c : Thread nD τ) s1 fullShare d)) ∗ (∃ r, prngReg c r)) := by
  unfold Pipeline.ΦA; rw [scopedRest0_eq]; simp only [s0, s1, owns_whole]; try rfl

/-! ## The words of the tables -/

/-- The number of used blocks. -/
def nUsed : BitVec 32 := tbl m 1 (ix1 (0 : Fin 1))
/-- The expert of block `k`. -/
def expert (k : Fin 160) : BitVec 32 := tbl m 0 (ix1 k)

theorem coord_val (t : Fin grid0.N) : (grid0.coords t 0).val = t.val := by
  have e : (grid0.coords t 0).val = t.val / 1 % 160 := Pipeline.Grid.coords_val t 0 (by decide) rfl
  have hN : t.val < 160 := lt_of_lt_of_eq t.isLt N_0
  rw [e, Nat.div_one, Nat.mod_eq_of_lt hN]

/-- The block before, the first block's being itself. -/
theorem off3_eq : ∀ i : grid0.Coords, k0_off3 i = ![(i 0).val - 1] := by decide +kernel

theorem wordN_eq (c : Dev nD) : wordN (F := F) c (tbl m 1) = nUsed m :=
  congrArg (tbl m 1) (funext fun (a : Fin 1) => Fin.ext (by
    match a with
    | 0 => rfl))

theorem wordE_eq (c : Dev nD) (i : grid0.Coords) (k : Fin 160) (hk : k.val = (i 0).val) : wordE (F := F) c i (tbl m 0) = expert m k :=
  congrArg (tbl m 0) (funext fun (a : Fin 1) => Fin.ext (by
    match a with
    | 0 =>
      show k0_off2 i 0 + 0 = k.val
      rw [k0_off2_eq]; exact hk.symm))

theorem wordP_eq (c : Dev nD) (i : grid0.Coords) (k : Fin 160) (hk : k.val = (i 0).val - 1) : wordP (F := F) c i (tbl m 0) = expert m k :=
  congrArg (tbl m 0) (funext fun (a : Fin 1) => Fin.ext (by
    match a with
    | 0 =>
      show k0_off3 i 0 + 0 = k.val
      rw [off3_eq]; exact hk.symm))

theorem at_N : (tbl m).at 1 (Rect.unit (s := S1) ![0] S1.size inb_S1_S1_0) numel1_S1 = nUsed m :=
  congrArg (tbl m 1) (funext fun (a : Fin 1) => Fin.ext (by
    match a with
    | 0 => rfl))

theorem at_E (i : grid0.Coords) (k : Fin 160) (hk : k.val = (i 0).val) : (tbl m).at 0 (Rect.unit (s := S160) (k0_off1 i) S1.size (k0_off1_inb i)) numel1_S1 = expert m k :=
  congrArg (tbl m 0) (funext fun (a : Fin 1) => Fin.ext (by
    match a with
    | 0 =>
      show k0_off1 i 0 + 0 = k.val
      rw [k0_off1_eq]; exact hk.symm))

theorem word_bit (b : BitVec 1) : Scalar.cmpi .ne (Scalar.extui b : BitVec 32) 0#32 = b := by
  revert b; decide

theorem ofNat_toInt (n : ℕ) (h : n < 160) : (BitVec.ofNat 32 n).toInt = (n : Int) := toInt_ofNat_of_lt (w := 32) (by omega)

/-- A point is used when it comes before the number of used blocks. -/
theorem cond1_iff (i : grid0.Coords) (w : BitVec 32) : k0_cond1 i w = 1#1 ↔ ((i 0).val : Int) < w.toInt := by
  have hi : (i 0).val < 160 := (i 0).isLt
  unfold k0_cond1
  show Scalar.cmpi .ne (Scalar.extui (Scalar.cmpi .slt (BitVec.ofNat 32 (i 0).val) w) : BitVec 32) 0#32 = 1#1 ↔ _
  rw [word_bit]
  show BitVec.ofBool (decide ((BitVec.ofNat 32 (i 0).val).toInt < w.toInt)) = 1#1 ↔ _
  rw [ofNat_toInt _ hi, ofBool_decide_eq_one_iff]

theorem cond3_iff (i : grid0.Coords) (w : BitVec 32) : k0_cond3 i w = 1#1 ↔ w.toInt ≤ ((i 0).val : Int) := by
  have hi : (i 0).val < 160 := (i 0).isLt
  unfold k0_cond3
  show Scalar.cmpi .ne (Scalar.extui (Scalar.cmpi .sge (BitVec.ofNat 32 (i 0).val) w) : BitVec 32) 0#32 = 1#1 ↔ _
  rw [word_bit]
  show BitVec.ofBool (decide (w.toInt ≤ (BitVec.ofNat 32 (i 0).val).toInt)) = 1#1 ↔ _
  rw [ofNat_toInt _ hi, ofBool_decide_eq_one_iff]

theorem condW_not (i : grid0.Coords) (a b : BitVec 32) (h : ¬condW i a b) : (i 0).val ≠ 0 ∧ a = b := by
  have e : condW i a b ↔ (Scalar.ori (Scalar.cmpi .eq (BitVec.ofNat 32 (i 0).val) 0#32) (Scalar.cmpi .ne a b)) = 1#1 := by
    unfold condW; rw [word_bit]
  rw [e] at h
  constructor
  · intro h0
    apply h
    rw [h0]
    show IntOp.ori 1#1 _ = 1#1
    generalize Scalar.cmpi .ne a b = x
    revert x; decide
  · by_contra hab
    apply h
    have : Scalar.cmpi .ne a b = 1#1 := by
      show IntOp.cmpi .ne a b = 1#1
      rw [cmpi_ne_eq, ofBool_decide_eq_one_iff]; exact hab
    rw [this]
    generalize Scalar.cmpi .eq (BitVec.ofNat 32 (i 0).val) 0#32 = x
    revert x; decide

/-- Whether point `n` is used. -/
def Used (n : ℕ) : Prop := (n : Int) < (nUsed m).toInt

theorem used_cond1 (c : Dev nD) (t : Fin grid0.N) (h : Used m t.val) : k0_cond1 (grid0.coords t) (wordN c (tbl m 1)) = 1#1 := by
  rw [wordN_eq, cond1_iff, coord_val]; exact h
theorem used_cond3 (c : Dev nD) (t : Fin grid0.N) (h : Used m t.val) : ¬k0_cond3 (grid0.coords t) (wordN c (tbl m 1)) = 1#1 := by
  rw [wordN_eq, cond3_iff, coord_val]; exact not_le.mpr h
theorem unused_cond1 (c : Dev nD) (t : Fin grid0.N) (h : ¬Used m t.val) : ¬k0_cond1 (grid0.coords t) (wordN c (tbl m 1)) = 1#1 := by
  rw [wordN_eq, cond1_iff, coord_val]; exact h
theorem unused_cond3 (c : Dev nD) (t : Fin grid0.N) (h : ¬Used m t.val) : k0_cond3 (grid0.coords t) (wordN c (tbl m 1)) = 1#1 := by
  rw [wordN_eq, cond3_iff, coord_val]; exact not_lt.mp h
theorem Used.pred {n : ℕ} (h : Used m n) : Used m (n - 1) := by unfold Used at *; omega

/-- The output block is written at every point, used or not. -/
theorem out_busy (pf : pre0.Contents (Elt F)) (i : grid0.Coords) : idle0 pf 5 i = false := by
  have key : ∀ w : BitVec 32, (!(k0_cond1 i w == 1#1) && !(k0_cond3 i w == 1#1)) = false := fun w => by
    by_cases h : ((i 0).val : Int) < w.toInt
    · rw [(cond1_iff i w).mpr h]; rfl
    · rw [(cond3_iff i w).mpr (not_lt.mp h), Bool.and_comm]; rfl
  exact key _

/-! ## Blocks by expert -/

theorem ix_w (t : Fin grid0.N) (k : Fin 160) (hk : k.val = t.val) :
    cc0_transform_1 k0_off1_inb numel1_S1 (tbl m) (grid0.coords t) = ![0, (expert m k).toNat, 0, 0]
    ∧ cc0_transform_2 k0_off1_inb numel1_S1 (tbl m) (grid0.coords t) = ![0, (expert m k).toNat, 0, 0]
    ∧ cc0_transform_3 k0_off1_inb numel1_S1 (tbl m) (grid0.coords t) = ![0, (expert m k).toNat, 0, 0]
    ∧ cc0_transform_4 k0_off1_inb numel1_S1 (tbl m) (grid0.coords t) = ![0, (expert m k).toNat, 0, 0] := by
  have e := at_E m (grid0.coords t) k (by rw [coord_val]; exact hk)
  refine ⟨?_, ?_, ?_, ?_⟩ <;> · rw [← e]; rfl

/-- The blocks of the weight matrices are the expert's: two points of one expert hold the same. -/
theorem blk1_congr (hO : Ok m) (c : Dev nD) (t t' : Fin (cfgM m hO).N) (k k' : Fin 160) (hk : k.val = t.val) (hk' : k'.val = t'.val)
    (h : expert m k = expert m k') : (iblk m hO c 1 t : Vec F S1x1x1024x2048 .f32) = iblk m hO c 1 t' := by
  have e1 := (ix_w m t k hk).1
  have e2 := (ix_w m t' k' hk').1
  funext y
  unfold iblk; rw [View.read_apply, View.read_apply]
  refine congrArg (cast _) ?_
  refine congrArg (V m c (Pipeline.arrRef spec0 1)) (funext fun a => Fin.ext ?_)
  refine (((cfgM m hO).win 1).rect_emb_val t y a).trans (Eq.trans ?_ (((cfgM m hO).win 1).rect_emb_val t' y a).symm)
  refine congrArg (fun f : Fin 4 → ℕ => f a * S1x1x1024x2048.size a + (y a).val) ?_
  exact e1.trans ((by rw [h] : _ = _).trans e2.symm)

theorem blk3_congr (hO : Ok m) (c : Dev nD) (t t' : Fin (cfgM m hO).N) (k k' : Fin 160) (hk : k.val = t.val) (hk' : k'.val = t'.val)
    (h : expert m k = expert m k') : (iblk m hO c 3 t : Vec F S1x1x1024x1024 .f32) = iblk m hO c 3 t' := by
  have e1 := (ix_w m t k hk).2.2.1
  have e2 := (ix_w m t' k' hk').2.2.1
  funext y
  unfold iblk; rw [View.read_apply, View.read_apply]
  refine congrArg (cast _) ?_
  refine congrArg (V m c (Pipeline.arrRef spec0 3)) (funext fun a => Fin.ext ?_)
  refine (((cfgM m hO).win 3).rect_emb_val t y a).trans (Eq.trans ?_ (((cfgM m hO).win 3).rect_emb_val t' y a).symm)
  refine congrArg (fun f : Fin 4 → ℕ => f a * S1x1x1024x1024.size a + (y a).val) ?_
  exact e1.trans ((by rw [h] : _ = _).trans e2.symm)

/-- A used point that does not take new weights follows a used point of the same expert. -/
theorem same_expert (c : Dev nD) (t : Fin grid0.N) (h : ¬condW (grid0.coords t) (wordE c (grid0.coords t) (tbl m 0)) (wordP c (grid0.coords t) (tbl m 0)))
    (k k' : Fin 160) (hk : k.val = t.val) (hk' : k'.val = t.val - 1) : t.val ≠ 0 ∧ expert m k' = expert m k := by
  have := condW_not _ _ _ h
  rw [coord_val, wordE_eq m c _ k (by rw [coord_val]; exact hk), wordP_eq m c _ k' (by rw [coord_val]; exact hk')] at this
  exact ⟨this.1, this.2.symm⟩

end Cert.Moe

end
-- ==== Proof.MoeFrame.lean ====
/- The experts kernel runs: the body at each point, from what the point before left in the scratch
   buffers, and the whole program. -/
module

public import proofs.«01_k».proof.Proof.MoeSet

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounded weights point `n` leaves in the scratch buffers, when it is used. -/
def left0 (hO : Ok m) (c : Dev nD) (t : Fin (cfgM m hO).N) : Vec F S1024x2048 .bf16 := k0_pay5 (iblk m hO c 1 t)
def left1 (hO : Ok m) (c : Dev nD) (t : Fin (cfgM m hO).N) : Vec F S1024x1024 .bf16 := k0_pay6 (iblk m hO c 3 t)

open Classical in
/-- What point `t` writes: its rows through its expert, or zeros where it is not used. -/
def outAt (hO : Ok m) (c : Dev nD) (t : Fin (cfgM m hO).N) : Vec F S4096x128 .f32 :=
  if Used m t.val then laid (rowsOut (iblk m hO c 0 t) (left0 m hO c t) (iblk m hO c 2 t) (left1 m hO c t) (iblk m hO c 4 t)) else k0_pay4

open Classical in
/-- The scratch buffers after point `n`: the weights of its expert where it is used, anything where it is not. -/
def scr (hO : Ok m) (c : Dev nD) (t : Fin (cfgM m hO).N) : sProp 𝕄 :=
  if Used m t.val then iprop(owns (c : Thread nD τ) s0 fullShare (left0 m hO c t) ∗ owns (c : Thread nD τ) s1 fullShare (left1 m hO c t))
  else iprop((∃ d, owns (c : Thread nD τ) s0 fullShare d) ∗ (∃ d, owns (c : Thread nD τ) s1 fullShare d))

/-- The scratch buffers at their named contents, the names forgotten. -/
theorem scr_any (hO : Ok m) (c : Dev nD) (t : Fin (cfgM m hO).N) :
    scr m hO c t ⊢ iprop((∃ d, owns (c : Thread nD τ) s0 fullShare d) ∗ (∃ d, owns (c : Thread nD τ) s1 fullShare d)) := by
  unfold scr
  by_cases h : Used m t.val
  · rw [if_pos h]
    iintro ⟨HS0, HS1⟩
    isplitl [HS0]
    · iexists _; iexact HS0
    iexists _; iexact HS1
  · rw [if_neg h]

/-- What holds between points. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(scr m hO c ⟨n, hn⟩ ∗ (∃ r, prngReg c r)) ∗ Pipeline.ΦT pre0 (tbl m) c)

theorem Inv_zero (hO : Ok m) (c : Dev nD) (n : ℕ) (h : n ≤ (cfgM m hO).N) (hz : n = 0) : Inv m hO c n h = iprop(Pipeline.ΦA spec0 c ∗ Pipeline.ΦT pre0 (tbl m) c) := by
  subst hz; rfl
theorem Inv_succ (hO : Ok m) (c : Dev nD) (n : ℕ) (hn : n < (cfgM m hO).N) :
    Inv m hO c (n + 1) hn = iprop(iprop(scr m hO c ⟨n, hn⟩ ∗ (∃ r, prngReg c r)) ∗ Pipeline.ΦT pre0 (tbl m) c) := rfl
theorem Inv_pos (hO : Ok m) (c : Dev nD) (n : ℕ) (h : n ≤ (cfgM m hO).N) (hz : n ≠ 0) :
    Inv m hO c n h = iprop(iprop(scr m hO c ⟨n - 1, by omega⟩ ∗ (∃ r, prngReg c r)) ∗ Pipeline.ΦT pre0 (tbl m) c) := by
  cases n with
  | zero => exact absurd rfl hz
  | succ n => rfl

/-- At any time the scratch buffers hold something. -/
theorem Inv_any (hO : Ok m) (c : Dev nD) (n : ℕ) (h : n ≤ (cfgM m hO).N) :
    Inv m hO c n h ⊢ iprop(iprop(iprop((∃ d, owns (c : Thread nD τ) s0 fullShare d) ∗ (∃ d, owns (c : Thread nD τ) s1 fullShare d)) ∗ (∃ r, prngReg c r)) ∗ Pipeline.ΦT pre0 (tbl m) c) := by
  by_cases hz : n = 0
  · rw [Inv_zero m hO c n h hz, held_eq]
  · rw [Inv_pos m hO c n h hz]
    iintro ⟨⟨Hs, Hg⟩, HT⟩
    isplitl [Hs Hg]
    · isplitl [Hs]
      · iapply (scr_any m hO c _); iexact Hs
      iexact Hg
    iexact HT

/-- The pipeline's arrays as the region finds them, and what each point leaves in each window's buffer. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl

/-- An input's buffer holds its block at every point, taken there or kept from before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- Each window's current buffer, and that it is a whole one. -/
abbrev st0 (hO : Ok m) (t : Fin (cfgM m hO).N) : Memref sig .tc .vmem S4096x128 .f32 := spec0_0.stage ((cfgM m hO).slots t 0)
abbrev wst0 (hO : Ok m) (t : Fin (cfgM m hO).N) : (st0 m hO t).IsWhole := hstage0_0 (((cfgM m hO).slots t 0).cast nbuf0_0)
abbrev st1 (hO : Ok m) (t : Fin (cfgM m hO).N) : Memref sig .tc .vmem S1x1x1024x2048 .f32 := spec0_1.stage ((cfgM m hO).slots t 1)
abbrev wst1 (hO : Ok m) (t : Fin (cfgM m hO).N) : (st1 m hO t).IsWhole := hstage0_1 (((cfgM m hO).slots t 1).cast nbuf0_1)
abbrev st2 (hO : Ok m) (t : Fin (cfgM m hO).N) : Memref sig .tc .vmem S1x1x1x2048 .f32 := spec0_2.stage ((cfgM m hO).slots t 2)
abbrev wst2 (hO : Ok m) (t : Fin (cfgM m hO).N) : (st2 m hO t).IsWhole := hstage0_2 (((cfgM m hO).slots t 2).cast nbuf0_2)
abbrev st3 (hO : Ok m) (t : Fin (cfgM m hO).N) : Memref sig .tc .vmem S1x1x1024x1024 .f32 := spec0_3.stage ((cfgM m hO).slots t 3)
abbrev wst3 (hO : Ok m) (t : Fin (cfgM m hO).N) : (st3 m hO t).IsWhole := hstage0_3 (((cfgM m hO).slots t 3).cast nbuf0_3)
abbrev st4 (hO : Ok m) (t : Fin (cfgM m hO).N) : Memref sig .tc .vmem S1x1x1x1024 .f32 := spec0_4.stage ((cfgM m hO).slots t 4)
abbrev wst4 (hO : Ok m) (t : Fin (cfgM m hO).N) : (st4 m hO t).IsWhole := hstage0_4 (((cfgM m hO).slots t 4).cast nbuf0_4)
abbrev st5 (hO : Ok m) (t : Fin (cfgM m hO).N) : Memref sig .tc .vmem S4096x128 .f32 := spec0_5.stage ((cfgM m hO).slots t 5)
abbrev wst5 (hO : Ok m) (t : Fin (cfgM m hO).N) : (st5 m hO t).IsWhole := hstage0_5 (((cfgM m hO).slots t 5).cast nbuf0_5)

/-- The body as the pipeline calls it at point `t`. -/
abbrev bodyAt (hO : Ok m) (t : Fin (cfgM m hO).N) : Prog (TpuEff nD τ sig (Elt F) Λ₀ .tc) PUnit :=
  cc0_moe_experts (grid0.coords t) tabE (Memref.isWhole_whole _) tabN (Memref.isWhole_whole _) (st0 m hO t) (wst0 m hO t) (st1 m hO t) (wst1 m hO t) (st2 m hO t) (wst2 m hO t) (st3 m hO t) (wst3 m hO t) (st4 m hO t) (wst4 m hO t) (st5 m hO t) (wst5 m hO t) s0 (Memref.isWhole_whole _) s1 (Memref.isWhole_whole _)

/-- What the body is called with. -/
def calledWith (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))

/-- What it gives back. -/
def givenBack (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t))

set_option maxHeartbeats 6400000 in
/-- The body at any point. -/
theorem body_sound (hO : Ok m) (c : Dev nD) (t : Fin (cfgM m hO).N) :
    calledWith m hO c t ⊢ wp frame (wpE (defs₀ (F := F)) Variants.none c none) Set.univ (bodyAt m hO t) (fun _ => givenBack m hO c t) := by
  unfold calledWith givenBack bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = Inv m hO c (t.val + 1) t.isLt from rfl, Inv_succ, tables_eq, Inv_castSucc]
  have hN : t.val < 160 := lt_of_lt_of_eq t.isLt (show (cfgM m hO).N = 160 from N_0)
  by_cases hu : Used m t.val
  · have h1 := used_cond1 m c t hu
    have h3 := used_cond3 m c t hu
    rw [show outAt m hO c t = laid (rowsOut (iblk m hO c 0 t) (left0 m hO c t) (iblk m hO c 2 t) (left1 m hO c t) (iblk m hO c 4 t)) from if_pos hu,
      show scr m hO c ⟨t.val, t.isLt⟩ = iprop(owns (c : Thread nD τ) s0 fullShare (left0 m hO c t) ∗ owns (c : Thread nD τ) s1 fullShare (left1 m hO c t)) from if_pos hu]
    by_cases hw : condW (grid0.coords t) (wordE c (grid0.coords t) (tbl m 0)) (wordP c (grid0.coords t) (tbl m 0))
    · refine (sep_mono_left (Inv_any m hO c t.val (Nat.le_of_lt t.isLt))).trans ?_
      rw [tables_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((runNew c (grid0.coords t) _ _ _ _ _ _ _ _ _ _ _ _ _ _ _ _ (iblk m hO c 0 t) (iblk m hO c 1 t) (iblk m hO c 2 t) (iblk m hO c 3 t) (iblk m hO c 4 t) (tbl m 0) (tbl m 1) h1 h3 hw).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, ⟨%es0, HS0⟩, ⟨%es1, HS1⟩, HT0, HT1⟩
      isplitl [HS0 HS1 Hg HT0 HT1]
      · isplitl [HS0 HS1 Hg]
        · isplitl [HS0 HS1]
          · isplitl [HS0]
            · unfold owns; iexists _; isplitr
              swap; · iexact HS0
              ipureintro; exact new_read_d0 _ _ _ _ _ _ _ _ _ _ _ _ _ _ _ _ _ _ _ _ _ _ _ _ _ _ _ _ _
            unfold owns; iexists _; isplitr
            swap; · iexact HS1
            ipureintro; exact new_read_d1 _ _ _ _ _ _ _ _ _ _ _ _ _ _ _ _ _ _ _ _ _ _ _ _ _ _ _ _ _
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact new_read_out _ _ _ _ _ _ _ _ _ _ _ _ _ _ _ _ _ _ _ _ _ _ _ _ _ _ _ _ _
    · obtain ⟨hz, he⟩ := same_expert m c t hw ⟨t.val, hN⟩ ⟨t.val - 1, by omega⟩ rfl rfl
      have q0 : left0 m hO c ⟨t.val - 1, by omega⟩ = left0 m hO c t := by
        unfold left0; rw [blk1_congr m hO c ⟨t.val - 1, by omega⟩ t ⟨t.val - 1, by omega⟩ ⟨t.val, hN⟩ rfl rfl he]
      have q1 : left1 m hO c ⟨t.val - 1, by omega⟩ = left1 m hO c t := by
        unfold left1; rw [blk3_congr m hO c ⟨t.val - 1, by omega⟩ t ⟨t.val - 1, by omega⟩ ⟨t.val, hN⟩ rfl rfl he]
      rw [Inv_pos m hO c _ _ hz, tables_eq,
        show scr m hO c ⟨t.val - 1, by omega⟩ = iprop(owns (c : Thread nD τ) s0 fullShare (left0 m hO c ⟨t.val - 1, by omega⟩) ∗ owns (c : Thread nD τ) s1 fullShare (left1 m hO c ⟨t.val - 1, by omega⟩)) from if_pos hu.pred, q0, q1]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((runKeep c (grid0.coords t) _ _ _ _ _ _ _ _ _ _ _ _ _ _ _ _ (iblk m hO c 0 t) (iblk m hO c 1 t) (iblk m hO c 2 t) (iblk m hO c 3 t) (iblk m hO c 4 t) (left0 m hO c t) (left1 m hO c t) (tbl m 0) (tbl m 1) h1 h3 hw).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, HS0, HS1, HT0, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact keep_read_out _ _ _ _ _ _ _ _ _ _ _ _ _ _ _ _ _ _ _ _ _ _ _ _ _ _ _ _ _ _ _
  · have h1 := unused_cond1 m c t hu
    have h3 := unused_cond3 m c t hu
    rw [show outAt m hO c t = k0_pay4 from if_neg hu,
      show scr m hO c ⟨t.val, t.isLt⟩ = iprop((∃ d, owns (c : Thread nD τ) s0 fullShare d) ∗ (∃ d, owns (c : Thread nD τ) s1 fullShare d)) from if_neg hu]
    refine (sep_mono_left (Inv_any m hO c t.val (Nat.le_of_lt t.isLt))).trans ?_
    rw [tables_eq]
    iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩⟩
    iapply ((runZero c (grid0.coords t) _ _ _ _ _ _ _ _ _ _ _ _ _ _ _ _ (tbl m 1) h1 h3).2 Set.univ _)
    isplitl [H5]; · iexists _; iexact H5
    isplitl [HT1]; · iexact HT1
    iintro ⟨⟨%e5, H5⟩, HT1⟩
    isplitl [HS Hg HT0 HT1]
    · isplitl [HS Hg]
      · isplitl [HS]; · iexact HS
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact zero_read_out _ _ _ _ _ _ _ _ _ _ _ _ _ _ _ _ _ _ _ _ _ _

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 3200000 in
/-- So the pipeline never finds it idle. -/
theorem out_idle (hO : Ok m) (t : Fin (cfgM m hO).N) : (cfgM m hO).idle 5 ((cfgM m hO).grid.coords t) = false := out_busy (tbl m) (grid0.coords t)

set_option maxHeartbeats 3200000 in
/-- The body meets the pipeline's obligation at every point. -/
theorem obligation (hO : Ok m) (c : Dev nD) : BodyObligation (dats (F := F) m hO 0 c) (defs₀ (F := F)) Variants.none () Set.univ := fun t => by
  rw [bigSep_W0, bigSep_W0, body_row m hO]
  refine triple_restated (body_sound m hO c t) rfl .rfl fun _ => ?_
  unfold givenBack
  refine sep_mono_right (sep_mono_right (sep_mono_right (sep_mono_right (sep_mono_right (sep_mono_right (sep_mono_right ?_))))))
  dsimp only
  split
  · rename_i h; exact absurd (h.symm.trans (out_idle m hO t)) (by decide)
  · exact Idealize.SL.BI.Entails.refl _

theorem enter (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]
theorem leave (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N le_rfl from rfl]
  refine (Inv_any m hO c _ _).trans ?_
  rw [held_eq]
  iintro ⟨HA, -⟩
  iexact HA

set_option maxHeartbeats 3200000 in
set_option backward.isDefEq.respectTransparency.types false in
/-- The program runs, to the pipeline's arrays as computed and every counter at zero. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := host_then_region m Variants.none) (hA := A_eq m hO) (hpf := V_pre m)
    (hin := enter m hO) (hout := leave m hO)

/-- The arguments end as they began, the result is what the pipeline's array ends at, and every counter is zero. -/
theorem run_end (hO : Ok m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v2) = (dats m hO 0 c).arrAt 5 (cfgM m hO).N) :=
  (θ_run defs _ _).mono (fun r h => ⟨⟨fun c =>
      ⟨((h.1 c).2 main_arg0 (by decide : main_arg0 ∈ Pipeline.restRefs sig spec0)).trans (V_kept m c _ (by decide) (by decide)),
      ((h.1 c).2 main_arg1 (by decide : main_arg1 ∈ Pipeline.restRefs sig spec0)).trans (V_kept m c _ (by decide) (by decide)),
      ((h.1 c).1 0).trans (((dats m hO 0 c).arrAt_in 0 rfl _).trans ((A_eq m hO c 0).trans (V_kept m c main_arg2 (by decide) (by decide)))),
      ((h.1 c).1 1).trans (((dats m hO 0 c).arrAt_in 1 rfl _).trans ((A_eq m hO c 1).trans (V_kept m c main_arg3 (by decide) (by decide)))),
      ((h.1 c).2 main_arg4 (by decide : main_arg4 ∈ Pipeline.restRefs sig spec0)).trans (V_kept m c _ (by decide) (by decide)),
      ((h.1 c).1 3).trans (((dats m hO 0 c).arrAt_in 3 rfl _).trans ((A_eq m hO c 3).trans (V_kept m c main_arg5 (by decide) (by decide)))),
      ((h.1 c).2 main_arg6 (by decide : main_arg6 ∈ Pipeline.restRefs sig spec0)).trans (V_kept m c _ (by decide) (by decide))⟩, h.2⟩,
      fun c => (h.1 c).1 5⟩) (run_quiet m ρ hO)

end Cert.Moe

end
-- ==== Proof.MoePre.lean ====
/- What the precondition says of the two tables, and that under it every block lies inside its array. -/
module

public import proofs.«01_k».proof.Defs
public import proofs.«01_k».proof.Proof.Gen.Pre_tables_in_range
public import proofs.«01_k».proof.Proof.MoeFrame
@[expose] public section

set_option maxRecDepth 16384
noncomputable section

namespace Cert.Pre_tables_in_range

open Idealize.ShloMosaic Idealize.ShloMosaic.TcCoe Idealize.SL.Sem Idealize.ShloMosaic.WordCmp

theorem andi_one (a b : BitVec 1) (h : IntOp.andi a b = 1#1) : a = 1#1 ∧ b = 1#1 := by
  revert a b; decide

/-- The one word of a table of one word, however it is read. -/
theorem one_word (x : IVec S1 32) (i j : S1.Idx) : x i = x j :=
  congrArg x (funext fun (a : Fin 1) => Fin.ext (by
    have h1 : (i a).val < S1.size a := (i a).isLt
    have h2 : (j a).val < S1.size a := (j a).isLt
    have hs : S1.size a = 1 := by match a with | 0 => rfl
    omega))

variable {F : FTy → Type} [FloatOps F]

/-- Every expert is one of the thirty-two, and at least one block is used. -/
theorem ranges (x0 : IVec S160 32) (x1 : IVec S1 32) (x2 : FVec F S655360x128 .f32) (x3 : FVec F S2x32x1024x2048 .f32) (x4 : FVec F S2x32x2048 .f32)
    (x5 : FVec F S2x32x1024x1024 .f32) (x6 : FVec F S2x32x1024 .f32) (h : fn x0 x1 x2 x3 x4 x5 x6 = fun _ => 1#1) (k : Fin 160) :
    (0 ≤ (x0 (ix1 k)).toInt ∧ (x0 (ix1 k)).toInt < 32) ∧ 1 ≤ (x1 (ix1 (0 : Fin 1))).toInt := by
  have e := congrFun h (ix1 k)
  obtain ⟨e1, e2⟩ := andi_one _ _ e
  obtain ⟨e3, e4⟩ := andi_one _ _ e1
  have e3' : BitVec.ofBool (decide ((0#32 : BitVec 32).toInt ≤ (x0 (ix1 k)).toInt)) = 1#1 := e3
  have e4' : BitVec.ofBool (decide ((x0 (ix1 k)).toInt < (32#32 : BitVec 32).toInt)) = 1#1 := e4
  have e2' : ∃ j, BitVec.ofBool (decide ((1#32 : BitVec 32).toInt ≤ (x1 j).toInt)) = 1#1 := ⟨_, e2⟩
  obtain ⟨j, e2'⟩ := e2'
  rw [one_word x1 j (ix1 (0 : Fin 1))] at e2'
  rw [ofBool_decide_eq_one_iff] at e2' e3' e4'
  exact ⟨⟨e3', e4'⟩, e2'⟩

end Cert.Pre_tables_in_range

namespace Cert.Moe

open Idealize.ShloMosaic Idealize.ShloMosaic.TcCoe Idealize.SL.Sem Idealize.ShloMosaic.WordCmp
open Cert.Kernel2Ideal Cert.Kernel2Ideal.Gen

variable {F : FTy → Type} [FloatOps F] (m : (ℓ : Loc nD τ sig) → Buf (Elt F) ℓ)

/-- The tables' words lie where the precondition puts them. -/
def InRange : Prop := (∀ k, 0 ≤ (expert m k).toInt ∧ (expert m k).toInt < 32) ∧ 1 ≤ (nUsed m).toInt

theorem nat_of_range (w : BitVec 32) (h0 : 0 ≤ w.toInt) : (w.toNat : Int) = w.toInt := by
  have h := (toInt_nonneg_iff_lt_half w).mp h0
  exact (toInt_eq_toNat_of_lt_half h).symm

theorem expert_lt (h : InRange m) (k : Fin 160) : (expert m k).toNat < 32 := by
  have := nat_of_range _ (h.1 k).1
  have := (h.1 k).2
  omega

/-- The block of rows a point reads: its own where it is used, the last used one after. -/
def rowBlock (n : ℕ) : ℕ := (Scalar.minsi (BitVec.ofNat 32 n) (Scalar.subi (nUsed m) 1#32)).toNat

theorem sub_one_toInt (w : BitVec 32) (h : 1 ≤ w.toInt) : (Scalar.subi w 1#32).toInt = w.toInt - 1 := by
  have h2 := nat_of_range w (by omega)
  have hl := (toInt_nonneg_iff_lt_half w).mp (by omega)
  have e : (Scalar.subi w 1#32) = BitVec.ofNat 32 (w.toNat - 1) := by
    show w - 1#32 = _
    apply BitVec.eq_of_toNat_eq
    rw [BitVec.toNat_sub, BitVec.toNat_ofNat, BitVec.toNat_ofNat]
    have : 1 ≤ w.toNat := by omega
    omega
  rw [e, toInt_ofNat_of_lt (by omega)]
  omega

theorem minsi_toInt (a b : BitVec 32) : (Scalar.minsi a b).toInt = min a.toInt b.toInt := by
  rw [Scalar.minsi, IntOp.minsi]
  by_cases h : a.toInt < b.toInt
  · rw [if_pos (by rw [BitVec.slt, decide_eq_true_eq]; exact h), min_eq_left h.le]
  · rw [if_neg (by rw [BitVec.slt, decide_eq_true_eq]; exact h), min_eq_right (not_lt.mp h)]

theorem rowBlock_val (h : InRange m) (n : ℕ) (hn : n < 160) : (rowBlock m n : Int) = min (n : Int) ((nUsed m).toInt - 1) := by
  have h1 := h.2
  have e : (Scalar.minsi (BitVec.ofNat 32 n) (Scalar.subi (nUsed m) 1#32)).toInt = min (n : Int) ((nUsed m).toInt - 1) := by
    rw [minsi_toInt, sub_one_toInt _ h1, ofNat_toInt n hn]
  unfold rowBlock
  rw [nat_of_range _ (by rw [e]; omega), e]

theorem ix_x (i : grid0.Coords) : cc0_transform_0 inb_S1_S1_0 numel1_S1 (tbl m) i = ![rowBlock m (i 0).val, 0] := by
  unfold rowBlock; rw [← at_N m]; rfl

/-- Under the precondition every block lies inside its array. -/
theorem ok_of_range (h : InRange m) : Ok m := by
  have hw : ∀ i : grid0.Coords, ∃ t : Fin grid0.N, grid0.coords t = i := fun i => by
    have hi : (i 0).val < 160 := (i 0).isLt
    refine ⟨⟨(i 0).val, lt_of_lt_of_eq hi N_0.symm⟩, funext fun (a : Fin 1) => Fin.ext ?_⟩
    match a with
    | 0 => exact coord_val _
  have key : ∀ (i : grid0.Coords), ∃ e : ℕ, e < 32 ∧ cc0_transform_1 k0_off1_inb numel1_S1 (tbl m) i = ![0, e, 0, 0]
      ∧ cc0_transform_2 k0_off1_inb numel1_S1 (tbl m) i = ![0, e, 0, 0]
      ∧ cc0_transform_3 k0_off1_inb numel1_S1 (tbl m) i = ![0, e, 0, 0]
      ∧ cc0_transform_4 k0_off1_inb numel1_S1 (tbl m) i = ![0, e, 0, 0] := fun i => by
    obtain ⟨t, rfl⟩ := hw i
    have hN : t.val < 160 := lt_of_lt_of_eq t.isLt N_0
    obtain ⟨a, b, c, d⟩ := ix_w m t ⟨t.val, hN⟩ rfl
    exact ⟨_, expert_lt m h ⟨t.val, hN⟩, a, b, c, d⟩
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · have hi : (i 0).val < 160 := (i 0).isLt
    have hr := rowBlock_val m h _ hi
    rw [ix_x]
    match a with
    | 0 => show (rowBlock m (i 0).val + 1) * 4096 ≤ 655360; omega
    | 1 => show (0 + 1) * 128 ≤ 128; omega
  · obtain ⟨e, he, h1, h2, h3, h4⟩ := key i
    rw [h1]
    match a with
    | 0 => show (0 + 1) * 1 ≤ 2; omega
    | 1 => show (e + 1) * 1 ≤ 32; omega
    | 2 => show (0 + 1) * 1024 ≤ 1024; omega
    | 3 => show (0 + 1) * 2048 ≤ 2048; omega
  · obtain ⟨e, he, h1, h2, h3, h4⟩ := key i
    rw [h2]
    match a with
    | 0 => show (0 + 1) * 1 ≤ 2; omega
    | 1 => show (e + 1) * 1 ≤ 32; omega
    | 2 => show (0 + 1) * 1 ≤ 1; omega
    | 3 => show (0 + 1) * 2048 ≤ 2048; omega
  · obtain ⟨e, he, h1, h2, h3, h4⟩ := key i
    rw [h3]
    match a with
    | 0 => show (0 + 1) * 1 ≤ 2; omega
    | 1 => show (e + 1) * 1 ≤ 32; omega
    | 2 => show (0 + 1) * 1024 ≤ 1024; omega
    | 3 => show (0 + 1) * 1024 ≤ 1024; omega
  · obtain ⟨e, he, h1, h2, h3, h4⟩ := key i
    rw [h4]
    match a with
    | 0 => show (0 + 1) * 1 ≤ 2; omega
    | 1 => show (e + 1) * 1 ≤ 32; omega
    | 2 => show (0 + 1) * 1 ≤ 1; omega
    | 3 => show (0 + 1) * 1024 ≤ 1024; omega

/-- The precondition, read at the tables the region finds. -/
theorem range_of_pre (h : Cert.Pre_tables_in_range.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5)) (m (((0 : Dev nD).tc : Thread nD τ).loc main_arg6)) = fun _ => 1#1) : InRange m := by
  have r := fun k => Cert.Pre_tables_in_range.ranges _ _ _ _ _ _ _ h k
  have e0 : tbl m 0 = m (((0 : Dev nD).tc : Thread nD τ).loc main_arg0) := V_kept m 0 main_arg0 (by decide) (by decide)
  have e1 : tbl m 1 = m (((0 : Dev nD).tc : Thread nD τ).loc main_arg1) := V_kept m 0 main_arg1 (by decide) (by decide)
  refine ⟨fun k => ?_, ?_⟩
  · unfold expert; rw [e0]; exact (r k).1
  · unfold nUsed; rw [e1]; exact (r 0).2

end Cert.Moe
-- ==== Proof.MoeVal.lean ====
/- The experts kernel's vector expressions read at an index. -/
module

public import proofs.«01_k».proof.Proof.MoeFrame
public import Idealize.ShloMosaic.Lib.Pointwise

@[expose] public section

set_option maxRecDepth 16384
noncomputable section

namespace Cert.Moe

open Idealize.ShloMosaic Idealize.ShloMosaic.TcCoe Idealize.SL.Sem
open Cert.Kernel2Ideal Cert.Kernel2Ideal.Gen

/-- The eight strided tiles side by side. -/
def rowsOf (x : FVec Ideal S4096x128 .f32) : FVec Ideal S512x1024 .f32 :=
  concatenate (α := EReal) S512x1024 1 [⟨S512x128, tile0 (F := Ideal) x⟩, ⟨S512x128, tile1 (F := Ideal) x⟩, ⟨S512x128, tile2 (F := Ideal) x⟩, ⟨S512x128, tile3 (F := Ideal) x⟩, ⟨S512x128, tile4 (F := Ideal) x⟩, ⟨S512x128, tile5 (F := Ideal) x⟩, ⟨S512x128, tile6 (F := Ideal) x⟩, ⟨S512x128, tile7 (F := Ideal) x⟩] concatenates_S512x128_S512x128_S512x128_S512x128_S512x128_S512x128_S512x128_S512x128_S512x1024_d1

theorem tile_at (x : Vec Ideal S4096x128 .f32) (K : ℕ) (h) (r : Fin 512) (l : Fin 128) (R : Fin 4096) (L : Fin 128) (hR : R.val = 8 * r.val + K) (hL : L.val = l.val) :
    ldS (F := Ideal) (e := .f32) x (⟨![K, 0], S512x128.size, ![8, 1], h⟩ : LoadRect S4096x128) (ix2 r l) = x (ix2 R L) :=
  congrArg x (funext fun a => Fin.ext (match a with
    | 0 => by show K + 8 * r.val = R.val; omega
    | 1 => by show 0 + 1 * l.val = L.val; omega))

/-- A row of a block is eight rows of the buffer, 128 columns in each. -/
theorem rowsOf_at (x : FVec Ideal S4096x128 .f32) (r : Fin 512) (k : Fin 1024) :
    rowsOf x (ix2 r k) = x (ix2 (⟨8 * r.val + k.val / 128, by omega⟩ : Fin 4096) (⟨k.val % 128, by omega⟩ : Fin 128)) := by
  have hk : k.val < 1024 := k.isLt
  pointwise [rowsOf]
  by_cases h0 : k.val < 128
  · exact (dif_pos h0).trans (tile_at x 0 _ r _ _ _ (show 8 * r.val + k.val / 128 = 8 * r.val + 0 by omega) (show k.val % 128 = k.val by omega))
  refine (dif_neg h0).trans ?_
  by_cases h1 : k.val - 128 < 128
  · exact (dif_pos h1).trans (tile_at x 1 _ r _ _ _ (show 8 * r.val + k.val / 128 = 8 * r.val + 1 by omega) (show k.val % 128 = k.val - 128 by omega))
  refine (dif_neg h1).trans ?_
  by_cases h2 : k.val - 128 - 128 < 128
  · exact (dif_pos h2).trans (tile_at x 2 _ r _ _ _ (show 8 * r.val + k.val / 128 = 8 * r.val + 2 by omega) (show k.val % 128 = k.val - 128 - 128 by omega))
  refine (dif_neg h2).trans ?_
  by_cases h3 : k.val - 128 - 128 - 128 < 128
  · exact (dif_pos h3).trans (tile_at x 3 _ r _ _ _ (show 8 * r.val + k.val / 128 = 8 * r.val + 3 by omega) (show k.val % 128 = k.val - 128 - 128 - 128 by omega))
  refine (dif_neg h3).trans ?_
  by_cases h4 : k.val - 128 - 128 - 128 - 128 < 128
  · exact (dif_pos h4).trans (tile_at x 4 _ r _ _ _ (show 8 * r.val + k.val / 128 = 8 * r.val + 4 by omega) (show k.val % 128 = k.val - 128 - 128 - 128 - 128 by omega))
  refine (dif_neg h4).trans ?_
  by_cases h5 : k.val - 128 - 128 - 128 - 128 - 128 < 128
  · exact (dif_pos h5).trans (tile_at x 5 _ r _ _ _ (show 8 * r.val + k.val / 128 = 8 * r.val + 5 by omega) (show k.val % 128 = k.val - 128 - 128 - 128 - 128 - 128 by omega))
  refine (dif_neg h5).trans ?_
  by_cases h6 : k.val - 128 - 128 - 128 - 128 - 128 - 128 < 128
  · exact (dif_pos h6).trans (tile_at x 6 _ r _ _ _ (show 8 * r.val + k.val / 128 = 8 * r.val + 6 by omega) (show k.val % 128 = k.val - 128 - 128 - 128 - 128 - 128 - 128 by omega))
  refine (dif_neg h6).trans ?_
  exact tile_at x 7 _ r _ _ _ (show 8 * r.val + k.val / 128 = 8 * r.val + 7 by omega) (show k.val % 128 = k.val - 128 - 128 - 128 - 128 - 128 - 128 - 128 by omega)

theorem pay7_at (x : FVec Ideal S4096x128 .f32) (w : FVec Ideal S1024x2048 .bf16) (b : FVec Ideal S1x1x1x2048 .f32) (r : Fin 512) (c : Fin 2048) :
    k0_pay7 (F := Ideal) (tile0 x) (tile1 x) (tile2 x) (tile3 x) (tile4 x) (tile5 x) (tile6 x) (tile7 x) w b (ix2 r c)
      = (∑ k : Fin 1024, rowsOf x (ix2 r k) * w (ix2 k c)) + b (ix4 (0 : Fin 1) (0 : Fin 1) (0 : Fin 1) c) := by
  show addf (matmul dot_S512x1024_S1024x2048_S512x2048_1_0_0_1_n_n none (truncf .bf16 (rowsOf x) bitsLt_bf16_f32) w (constant S512x2048 .f32 0x00000000#32)) (broadcastTo S512x2048 (shapeCast S1x2048 b shapeCasts_S1x1x1x2048_S1x2048) broadcasts_S1x2048_S512x2048) (ix2 r c) = _
  generalize rowsOf x = y
  pointwise

/-- The gated unit, as the kernel forms it. -/
def gatedK (g u : EReal) : EReal :=
  (min (Ideal.ofBits .f32 0x40E00000#32) (max (Ideal.ofBits .f32 0xC0E00000#32) u) + 1) * min g (Ideal.ofBits .f32 0x40E00000#32)
    * Ideal.div 1 (1 + Ideal.exp (Ideal.ofBits .f32 0xBFD9DB23#32 * min g (Ideal.ofBits .f32 0x40E00000#32)))

theorem rowsOut_at (x : FVec Ideal S4096x128 .f32) (w : FVec Ideal S1024x2048 .bf16) (b : FVec Ideal S1x1x1x2048 .f32)
    (v : FVec Ideal S1024x1024 .bf16) (a : FVec Ideal S1x1x1x1024 .f32) (r : Fin 512) (d : Fin 1024) (P : Fin 512 → Fin 2048 → EReal)
    (hP : ∀ r c, k0_pay7 (F := Ideal) (tile0 x) (tile1 x) (tile2 x) (tile3 x) (tile4 x) (tile5 x) (tile6 x) (tile7 x) w b (ix2 r c) = P r c) :
    rowsOut (F := Ideal) x w b v a (ix2 r d)
      = (∑ f : Fin 1024, gatedK (P r (⟨f.val, by omega⟩ : Fin 2048)) (P r (⟨1024 + f.val, by omega⟩ : Fin 2048)) * v (ix2 f d)) + a (ix4 (0 : Fin 1) (0 : Fin 1) (0 : Fin 1) d) := by
  unfold rowsOut k0_pay8 k0_pay9
  generalize k0_pay7 (F := Ideal) (tile0 x) (tile1 x) (tile2 x) (tile3 x) (tile4 x) (tile5 x) (tile6 x) (tile7 x) w b = y at hP ⊢
  pointwise [k0_pay10]
  simp only [hP]
  rfl

end Cert.Moe
-- ==== Proof.MoeRef.lean ====
/- The experts reference's result read at an index. -/
module

public import proofs.«01_k».proof.Proof.Gen.Reference2Ideal.Run
public import Idealize.ShloMosaic.Lib.Pointwise
public import Idealize.ShloMosaic.Lib.WordCmp
public import Idealize.ShloMosaic.Lib.StableHlo.Predicate

@[expose] public section

set_option maxRecDepth 16384
noncomputable section

namespace Cert.Reference2Ideal.Moe

open Idealize.ShloMosaic Idealize.ShloMosaic.TcCoe Idealize.SL.Sem Idealize.ShloMosaic.WordCmp
open Cert.Reference2Ideal Cert.Reference2Ideal.Gen

/-- The expert's number as the gathers take it: a negative one would count from the end. -/
def idxOf (E : IVec S160 32) : IVec S160x1 32 :=
  broadcastInDim S160x1 ![0] bcast_S160_S160x1_0 (select (cmpi .slt E (broadcastInDim S160 ![] bcast_S_S160 (constantI S_ 32 0#32))) (addi E (broadcastInDim S160 ![] bcast_S_S160 (constantI S_ 32 32#32))) E)

theorem idxOf_at (E : IVec S160 32) (k : Fin 160) (h : 0 ≤ (E (ix1 k)).toInt) : idxOf E (ix2 k (0 : Fin 1)) = E (ix1 k) := by
  pointwise [idxOf]
  show (if IntOp.cmpi .slt (E (ix1 k)) 0#32 = 1#1 then _ else _) = _
  refine if_neg ?_
  show ¬BitVec.ofBool (decide ((E (ix1 k)).toInt < (0#32 : BitVec 32).toInt)) = 1#1
  rw [ofBool_decide_eq_one_iff]
  exact not_lt.mpr h

section
variable {α : Type} (idx : IVec S160x1 32) (k : Fin 160) (e : Fin 32) (he : (idx (ix2 k (0 : Fin 1))).toInt.toNat = e.val)
include he

theorem clamp_at (j : Fin 1) (n : ℕ) (hn : n = 31) : min (idx (ix2 k j)).toInt.toNat n = e.val := by
  have := e.isLt
  obtain rfl : j = 0 := Subsingleton.elim _ _
  rw [he]; omega

theorem gatherW_at (x : S32x1024x2048.Idx → α) (r : Fin 1024) (c : Fin 2048) :
    Host.gather gather_S32x1024x2048_S160x1_S160x1024x2048_12_0_n_n_0_1_110242048 x idx (ix3 k r c) = x (ix3 e r c) := by
  refine congrArg x (funext fun a => Fin.ext ?_)
  match a with
  | 0 =>
    show min (idx _).toInt.toNat 31 + 0 + 0 = e.val
    refine Eq.trans (congrArg (fun i => min (idx i).toInt.toNat 31) (funext fun b => Fin.ext ?_)) (clamp_at idx k e he 0 31 rfl)
    match b with
    | 0 => rfl
    | 1 => rfl
  | 1 => show 0 + 0 + r.val = r.val; omega
  | 2 => show 0 + 0 + c.val = c.val; omega

theorem gatherV_at (x : S32x1024x1024.Idx → α) (r : Fin 1024) (c : Fin 1024) :
    Host.gather gather_S32x1024x1024_S160x1_S160x1024x1024_12_0_n_n_0_1_110241024 x idx (ix3 k r c) = x (ix3 e r c) := by
  refine congrArg x (funext fun a => Fin.ext ?_)
  match a with
  | 0 =>
    show min (idx _).toInt.toNat 31 + 0 + 0 = e.val
    refine Eq.trans (congrArg (fun i => min (idx i).toInt.toNat 31) (funext fun b => Fin.ext ?_)) (clamp_at idx k e he 0 31 rfl)
    match b with
    | 0 => rfl
    | 1 => rfl
  | 1 => show 0 + 0 + r.val = r.val; omega
  | 2 => show 0 + 0 + c.val = c.val; omega

theorem gatherB_at (x : S32x2048.Idx → α) (c : Fin 2048) :
    Host.gather gather_S32x2048_S160x1_S160x2048_1_0_n_n_0_1_12048 x idx (ix2 k c) = x (ix2 e c) := by
  refine congrArg x (funext fun a => Fin.ext ?_)
  match a with
  | 0 =>
    show min (idx _).toInt.toNat 31 + 0 + 0 = e.val
    refine Eq.trans (congrArg (fun i => min (idx i).toInt.toNat 31) (funext fun b => Fin.ext ?_)) (clamp_at idx k e he 0 31 rfl)
    match b with
    | 0 => rfl
    | 1 => rfl
  | 1 => show 0 + 0 + c.val = c.val; omega

theorem gatherA_at (x : S32x1024.Idx → α) (c : Fin 1024) :
    Host.gather gather_S32x1024_S160x1_S160x1024_1_0_n_n_0_1_11024 x idx (ix2 k c) = x (ix2 e c) := by
  refine congrArg x (funext fun a => Fin.ext ?_)
  match a with
  | 0 =>
    show min (idx _).toInt.toNat 31 + 0 + 0 = e.val
    refine Eq.trans (congrArg (fun i => min (idx i).toInt.toNat 31) (funext fun b => Fin.ext ?_)) (clamp_at idx k e he 0 31 rfl)
    match b with
    | 0 => rfl
    | 1 => rfl
  | 1 => show 0 + 0 + c.val = c.val; omega
end

/-- The first layer's products and bias, of every block. -/
def hid (E : IVec S160 32) (X : FVec Ideal S655360x128 .f32) (W : FVec Ideal S2x32x1024x2048 .f32) (B : FVec Ideal S2x32x2048 .f32) : FVec Ideal S160x512x2048 .f32 :=
  addf (Host.dotGeneral dot_S160x512x1024_S160x1024x2048_S160x512x2048_2_1_1_2_0_0 none (shapeCast _ X shapeCasts_S655360x128_S160x512x1024) (Host.gather gather_S32x1024x2048_S160x1_S160x1024x2048_12_0_n_n_0_1_110242048 (shapeCast _ (extractStridedSlice S1x32x1024x2048 ![0, 0, 0, 0] W slices_S2x32x1024x2048_S1x32x1024x2048_0_0_0_0) shapeCasts_S1x32x1024x2048_S32x1024x2048) (idxOf E))) (broadcastInDim S160x512x2048 ![0, 1, 2] bcast_S160x1x2048_S160x512x2048_0_1_2 (broadcastInDim S160x1x2048 ![0, 2] bcast_S160x2048_S160x1x2048_0_2 (Host.gather gather_S32x2048_S160x1_S160x2048_1_0_n_n_0_1_12048 (shapeCast _ (extractStridedSlice S1x32x2048 ![0, 0, 0] B slices_S2x32x2048_S1x32x2048_0_0_0) shapeCasts_S1x32x2048_S32x2048) (idxOf E))))

/-- The gated unit, as the reference forms it. -/
def gated (h : FVec Ideal S160x512x2048 .f32) : FVec Ideal S160x512x1024 .f32 :=
  mulf (mulf (addf (minimumf (broadcastInDim S160x512x1024 ![] bcast_S_S160x512x1024 (id (constant S_ .f32 0x40E00000#32))) (maximumf (broadcastInDim S160x512x1024 ![] bcast_S_S160x512x1024 (id (constant S_ .f32 0xC0E00000#32))) (extractStridedSlice S160x512x1024 ![0, 0, 1024] h slices_S160x512x2048_S160x512x1024_0_0_1024))) (broadcastInDim S160x512x1024 ![] bcast_S_S160x512x1024 (constant S_ .f32 0x3F800000#32))) (minimumf (extractStridedSlice S160x512x1024 ![0, 0, 0] h slices_S160x512x2048_S160x512x1024_0_0_0) (broadcastInDim S160x512x1024 ![] bcast_S_S160x512x1024 (constant S_ .f32 0x40E00000#32)))) (Host.divf (broadcastInDim S160x512x1024 ![] bcast_S_S160x512x1024 (constant S_ .f32 0x3F800000#32)) (addf (broadcastInDim S160x512x1024 ![] bcast_S_S160x512x1024 (constant S_ .f32 0x3F800000#32)) (Host.exp (Host.negf (mulf (broadcastInDim S160x512x1024 ![] bcast_S_S160x512x1024 (constant S_ .f32 0x3FD9DB23#32)) (minimumf (extractStridedSlice S160x512x1024 ![0, 0, 0] h slices_S160x512x2048_S160x512x1024_0_0_0) (broadcastInDim S160x512x1024 ![] bcast_S_S160x512x1024 (constant S_ .f32 0x40E00000#32))))))))

/-- The result before the last reshape: zeros past the used blocks. -/
def rows (E : IVec S160 32) (N : IVec S1 32) (X : FVec Ideal S655360x128 .f32) (W : FVec Ideal S2x32x1024x2048 .f32) (B : FVec Ideal S2x32x2048 .f32)
    (V : FVec Ideal S2x32x1024x1024 .f32) (A : FVec Ideal S2x32x1024 .f32) : FVec Ideal S160x512x1024 .f32 :=
  select (broadcastInDim S160x512x1024 ![0, 1, 2] bcast_S160x1x1_S160x512x1024_0_1_2 (cmpi .slt (broadcastInDim S160x1x1 ![0] bcast_S160_S160x1x1_0 (iotaInDim S160 32 0)) (broadcastInDim S160x1x1 ![] bcast_S_S160x1x1 (shapeCast _ N shapeCasts_S1_S_))))
    (addf (Host.dotGeneral dot_S160x512x1024_S160x1024x1024_S160x512x1024_2_1_1_2_0_0 none (gated (hid E X W B)) (Host.gather gather_S32x1024x1024_S160x1_S160x1024x1024_12_0_n_n_0_1_110241024 (shapeCast _ (extractStridedSlice S1x32x1024x1024 ![0, 0, 0, 0] V slices_S2x32x1024x1024_S1x32x1024x1024_0_0_0_0) shapeCasts_S1x32x1024x1024_S32x1024x1024) (idxOf E)))
      (broadcastInDim S160x512x1024 ![0, 1, 2] bcast_S160x1x1024_S160x512x1024_0_1_2 (broadcastInDim S160x1x1024 ![0, 2] bcast_S160x1024_S160x1x1024_0_2 (Host.gather gather_S32x1024_S160x1_S160x1024_1_0_n_n_0_1_11024 (shapeCast _ (extractStridedSlice S1x32x1024 ![0, 0, 0] A slices_S2x32x1024_S1x32x1024_0_0_0) shapeCasts_S1x32x1024_S32x1024) (idxOf E)))))
    (broadcastInDim S160x512x1024 ![] bcast_S_S160x512x1024 (id (constant S_ .f32 0x00000000#32)))

theorem res_eq (m : (ℓ : Loc nD τ sig) → Buf (Elt Ideal) ℓ) (c : Dev nD) :
    Value.res_main_v68 m c = shapeCast _ (rows (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)))
      shapeCasts_S160x512x1024_S655360x128 := rfl

section
variable (E : IVec S160 32) (N : IVec S1 32) (X : FVec Ideal S655360x128 .f32) (W : FVec Ideal S2x32x1024x2048 .f32) (B : FVec Ideal S2x32x2048 .f32)
    (V : FVec Ideal S2x32x1024x1024 .f32) (A : FVec Ideal S2x32x1024 .f32)

/-- One entry of the first layer: row `r` of block `k`, against expert `e`. -/
def hidAt (k : Fin 160) (e : Fin 32) (r : Fin 512) (c : Fin 2048) : EReal :=
  (∑ q : Fin 1024, X (ix2 (⟨k.val * 4096 + r.val * 8 + q.val / 128, by omega⟩ : Fin 655360) (⟨q.val % 128, by omega⟩ : Fin 128)) * W (ix4 (0 : Fin 2) e q c))
    + B (ix3 (0 : Fin 2) e c)

theorem hid_at (k : Fin 160) (e : Fin 32) (he : (E (ix1 k)).toInt = e.val) (r : Fin 512) (c : Fin 2048) :
    hid E X W B (ix3 k r c) = hidAt X W B k e r c := by
  have hi := idxOf_at E k (by omega)
  unfold hid
  generalize idxOf E = idx at hi ⊢
  have hn : (idx (ix2 k (0 : Fin 1))).toInt.toNat = e.val := by rw [hi, he]; rfl
  pointwise
  simp only [gatherW_at idx k e hn, gatherB_at idx k e hn]
  pointwise
  rfl

/-- The gated unit of one pair. -/
def gatedR (g u : EReal) : EReal :=
  (min (Ideal.ofBits .f32 0x40E00000#32) (max (Ideal.ofBits .f32 0xC0E00000#32) u) + 1) * min g (Ideal.ofBits .f32 0x40E00000#32)
    * Ideal.div 1 (1 + Ideal.exp (-(Ideal.ofBits .f32 0x3FD9DB23#32 * min g (Ideal.ofBits .f32 0x40E00000#32))))

theorem gated_at (h : FVec Ideal S160x512x2048 .f32) (k : Fin 160) (r : Fin 512) (f : Fin 1024) :
    gated h (ix3 k r f) = gatedR (h (ix3 k r (⟨f.val, by omega⟩ : Fin 2048))) (h (ix3 k r (⟨1024 + f.val, by omega⟩ : Fin 2048))) := by
  pointwise [gated]
  rfl

theorem zero_bits : id (constant (F := Ideal) S_ .f32 0#32) ix0 = (0 : EReal) := by
  show Ideal.ofBits .f32 0x00000000#32 = 0
  simp [Ideal.ofBits, Ideal.ieee]

theorem rows_at (k : Fin 160) (e : Fin 32) (he : (E (ix1 k)).toInt = e.val) (r : Fin 512) (d : Fin 1024) :
    rows E N X W B V A (ix3 k r d) = if (k.val : Int) < (N (ix1 (0 : Fin 1))).toInt then
      (∑ f : Fin 1024, gatedR (hidAt X W B k e r (⟨f.val, by omega⟩ : Fin 2048)) (hidAt X W B k e r (⟨1024 + f.val, by omega⟩ : Fin 2048)) * V (ix4 (0 : Fin 2) e f d))
        + A (ix3 (0 : Fin 2) e d) else 0 := by
  have hi := idxOf_at E k (by omega)
  have hh := hid_at E X W B k e he r
  unfold rows
  generalize hid E X W B = h at hh ⊢
  have hg := gated_at h k r
  generalize gated h = g at hg ⊢
  generalize idxOf E = idx at hi ⊢
  have hn : (idx (ix2 k (0 : Fin 1))).toInt.toNat = e.val := by rw [hi, he]; rfl
  pointwise
  simp only [gatherV_at idx k e hn, gatherA_at idx k e hn, hg, hh]
  pointwise
  unfold Scalar.select
  refine if_congr ?_ rfl zero_bits
  show BitVec.ofBool (decide ((BitVec.ofNat 32 k.val).toInt < (N (ix1 (0 : Fin 1))).toInt)) = 1#1 ↔ _
  rw [ofBool_decide_eq_one_iff, toInt_ofNat_of_lt (w := 32) (by omega)]
end

end Cert.Reference2Ideal.Moe
-- ==== Proof.MoeFin.lean ====
/- The experts kernel's result array is the reference's. -/
module

public import proofs.«01_k».proof.Proof.MoePre
public import proofs.«01_k».proof.Proof.MoeVal
public import proofs.«01_k».proof.Proof.MoeRef
public import Idealize.ShloMosaic.Lib.Pipeline.Value

@[expose] public section

set_option maxRecDepth 16384
noncomputable section

namespace Cert.Moe

open Idealize.ShloMosaic Idealize.ShloMosaic.TcCoe Idealize.SL.Sem
open Cert.Kernel2Ideal Cert.Kernel2Ideal.Gen
open Cert.Reference2Ideal.Moe (gatedR hidAt rows rows_at)

variable (m : (ℓ : Loc nD τ sig) → Buf (Elt Ideal) ℓ)

/-- The arguments of device `c`. -/
abbrev aE (c : Dev nD) : IVec S160 32 := m ((c.tc : Thread nD τ).loc main_arg0)
abbrev aN (c : Dev nD) : IVec S1 32 := m ((c.tc : Thread nD τ).loc main_arg1)
abbrev aX (c : Dev nD) : FVec Ideal S655360x128 .f32 := m ((c.tc : Thread nD τ).loc main_arg2)
abbrev aW (c : Dev nD) : FVec Ideal S2x32x1024x2048 .f32 := m ((c.tc : Thread nD τ).loc main_arg3)
abbrev aB (c : Dev nD) : FVec Ideal S2x32x2048 .f32 := m ((c.tc : Thread nD τ).loc main_arg4)
abbrev aV (c : Dev nD) : FVec Ideal S2x32x1024x1024 .f32 := m ((c.tc : Thread nD τ).loc main_arg5)
abbrev aA (c : Dev nD) : FVec Ideal S2x32x1024 .f32 := m ((c.tc : Thread nD τ).loc main_arg6)

theorem V_v0 (c : Dev nD) : V m c main_v0 = shapeCast S2x32x1x2048 (aB m c) shapeCasts_S2x32x2048_S2x32x1x2048 := by
  rfl
theorem V_v1 (c : Dev nD) : V m c main_v1 = shapeCast S2x32x1x1024 (aA m c) shapeCasts_S2x32x1024_S2x32x1x1024 := by
  rfl

theorem bias0_at (B : FVec Ideal S2x32x2048 .f32) (e : Fin 32) (k : Fin 2048) :
    shapeCast S2x32x1x2048 B shapeCasts_S2x32x2048_S2x32x1x2048 (ix4 (0 : Fin 2) e (0 : Fin 1) k) = B (ix3 (0 : Fin 2) e k) := by
  pointwise
theorem bias1_at (B : FVec Ideal S2x32x1024 .f32) (e : Fin 32) (k : Fin 1024) :
    shapeCast S2x32x1x1024 B shapeCasts_S2x32x1024_S2x32x1x1024 (ix4 (0 : Fin 2) e (0 : Fin 1) k) = B (ix3 (0 : Fin 2) e k) := by
  pointwise

section
variable (hO : Ok m) (c : Dev nD) (t : Fin (cfgM m hO).N)

theorem iblk0_at (r : Fin 4096) (l : Fin 128) (R : Fin 655360) (hR : R.val = rowBlock m t.val * 4096 + r.val) :
    (iblk m hO c 0 t : Vec Ideal S4096x128 .f32) (ix2 r l) = aX m c (ix2 R l) := by
  have e := ix_x m (grid0.coords t)
  rw [coord_val] at e
  unfold iblk
  refine (View.read_apply ..).trans ?_
  refine (cast_eq rfl _).trans ?_
  refine (congrFun (V_kept m c main_arg2 (by decide) (by decide)) _).trans (congrArg (aX m c) (funext fun (a : Fin 2) => Fin.ext ?_))
  refine (((cfgM m hO).win 0).rect_emb_val t (ix2 r l) a).trans ?_
  refine (congrArg (fun f : Fin 2 → ℕ => f a * S4096x128.size a + (ix2 r l a).val) e).trans ?_
  match a with
  | 0 => exact hR.symm
  | 1 => show 0 * 128 + l.val = l.val; omega

variable (k : Fin 160) (hk : k.val = t.val) (e : Fin 32) (he : e.val = (expert m k).toNat)
include hk he

theorem iblk1_at (q : Fin 1024) (f : Fin 2048) :
    (iblk m hO c 1 t : Vec Ideal S1x1x1024x2048 .f32) (ix4 (0 : Fin 1) (0 : Fin 1) q f) = aW m c (ix4 (0 : Fin 2) e q f) := by
  have ew := (ix_w m t k hk).1
  unfold iblk
  refine (View.read_apply ..).trans ?_
  refine (cast_eq rfl _).trans ?_
  refine (congrFun (V_kept m c main_arg3 (by decide) (by decide)) _).trans (congrArg (aW m c) (funext fun (a : Fin 4) => Fin.ext ?_))
  refine (((cfgM m hO).win 1).rect_emb_val t (ix4 (0 : Fin 1) (0 : Fin 1) q f) a).trans ?_
  refine (congrArg (fun g : Fin 4 → ℕ => g a * S1x1x1024x2048.size a + (ix4 (0 : Fin 1) (0 : Fin 1) q f a).val) ew).trans ?_
  match a with
  | 0 => rfl
  | 1 => exact (Nat.mul_one _).trans he.symm
  | 2 => show 0 * 1024 + q.val = q.val; omega
  | 3 => show 0 * 2048 + f.val = f.val; omega

theorem iblk3_at (q : Fin 1024) (f : Fin 1024) :
    (iblk m hO c 3 t : Vec Ideal S1x1x1024x1024 .f32) (ix4 (0 : Fin 1) (0 : Fin 1) q f) = aV m c (ix4 (0 : Fin 2) e q f) := by
  have ew := (ix_w m t k hk).2.2.1
  unfold iblk
  refine (View.read_apply ..).trans ?_
  refine (cast_eq rfl _).trans ?_
  refine (congrFun (V_kept m c main_arg5 (by decide) (by decide)) _).trans (congrArg (aV m c) (funext fun (a : Fin 4) => Fin.ext ?_))
  refine (((cfgM m hO).win 3).rect_emb_val t (ix4 (0 : Fin 1) (0 : Fin 1) q f) a).trans ?_
  refine (congrArg (fun g : Fin 4 → ℕ => g a * S1x1x1024x1024.size a + (ix4 (0 : Fin 1) (0 : Fin 1) q f a).val) ew).trans ?_
  match a with
  | 0 => rfl
  | 1 => exact (Nat.mul_one _).trans he.symm
  | 2 => show 0 * 1024 + q.val = q.val; omega
  | 3 => show 0 * 1024 + f.val = f.val; omega

theorem iblk2_at (f : Fin 2048) :
    (iblk m hO c 2 t : Vec Ideal S1x1x1x2048 .f32) (ix4 (0 : Fin 1) (0 : Fin 1) (0 : Fin 1) f) = aB m c (ix3 (0 : Fin 2) e f) := by
  have ew := (ix_w m t k hk).2.1
  unfold iblk
  refine (View.read_apply ..).trans ?_
  refine (cast_eq rfl _).trans ?_
  refine (congrFun (V_v0 m c) _).trans (Eq.trans (congrArg (shapeCast S2x32x1x2048 (aB m c) shapeCasts_S2x32x2048_S2x32x1x2048) (funext fun (a : Fin 4) => Fin.ext ?_)) (bias0_at (aB m c) _ f))
  refine (((cfgM m hO).win 2).rect_emb_val t (ix4 (0 : Fin 1) (0 : Fin 1) (0 : Fin 1) f) a).trans ?_
  refine (congrArg (fun g : Fin 4 → ℕ => g a * S1x1x1x2048.size a + (ix4 (0 : Fin 1) (0 : Fin 1) (0 : Fin 1) f a).val) ew).trans ?_
  match a with
  | 0 => rfl
  | 1 => exact (Nat.mul_one _).trans he.symm
  | 2 => rfl
  | 3 => show 0 * 2048 + f.val = f.val; omega

theorem iblk4_at (f : Fin 1024) :
    (iblk m hO c 4 t : Vec Ideal S1x1x1x1024 .f32) (ix4 (0 : Fin 1) (0 : Fin 1) (0 : Fin 1) f) = aA m c (ix3 (0 : Fin 2) e f) := by
  have ew := (ix_w m t k hk).2.2.2
  unfold iblk
  refine (View.read_apply ..).trans ?_
  refine (cast_eq rfl _).trans ?_
  refine (congrFun (V_v1 m c) _).trans (Eq.trans (congrArg (shapeCast S2x32x1x1024 (aA m c) shapeCasts_S2x32x1024_S2x32x1x1024) (funext fun (a : Fin 4) => Fin.ext ?_)) (bias1_at (aA m c) _ f))
  refine (((cfgM m hO).win 4).rect_emb_val t (ix4 (0 : Fin 1) (0 : Fin 1) (0 : Fin 1) f) a).trans ?_
  refine (congrArg (fun g : Fin 4 → ℕ => g a * S1x1x1x1024.size a + (ix4 (0 : Fin 1) (0 : Fin 1) (0 : Fin 1) f a).val) ew).trans ?_
  match a with
  | 0 => rfl
  | 1 => exact (Nat.mul_one _).trans he.symm
  | 2 => rfl
  | 3 => show 0 * 1024 + f.val = f.val; omega
end

theorem pay5_at (x : Vec Ideal S1x1x1024x2048 .f32) (q : Fin 1024) (f : Fin 2048) :
    k0_pay5 (F := Ideal) x (ix2 q f) = (x (ix4 (0 : Fin 1) (0 : Fin 1) q f) : EReal) := by
  pointwise [k0_pay5]
theorem pay6_at (x : Vec Ideal S1x1x1024x1024 .f32) (q : Fin 1024) (f : Fin 1024) :
    k0_pay6 (F := Ideal) x (ix2 q f) = (x (ix4 (0 : Fin 1) (0 : Fin 1) q f) : EReal) := by
  pointwise [k0_pay6]
theorem pay4_at (j : S4096x128.Idx) : k0_pay4 (F := Ideal) j = (0 : EReal) := by
  show Ideal.ofBits .f32 0x00000000#32 = 0
  simp [Ideal.ofBits, Ideal.ieee]

/-- The kernel's constant is the negated one. -/
theorem neg_const : Ideal.ofBits .f32 0xBFD9DB23#32 = -Ideal.ofBits .f32 0x3FD9DB23#32 := by
  simp [Ideal.ofBits, Ideal.ieee]

/-- The two ways of forming the gated unit agree. -/
theorem gated_eq (g u : EReal) : gatedK g u = gatedR g u := by
  unfold gatedK gatedR; rw [neg_const, EReal.neg_mul]

/-- The reference's result array, at an index. -/
theorem ref_at (y : FVec Ideal Cert.Reference2Ideal.S160x512x1024 .f32) (i : S655360x128.Idx) (k : Fin 160) (r : Fin 512) (d : Fin 1024)
    (hk : k.val = (i 0).val / 4096) (hr : r.val = (i 0).val % 4096 / 8) (hd : d.val = (i 0).val % 8 * 128 + (i 1).val) :
    shapeCast S655360x128 y Cert.Reference2Ideal.Gen.facts₀.shapeCasts_S160x512x1024_S655360x128 i = y (ix3 k r d) := by
  have h0 : (i 0).val < 655360 := (i 0).isLt
  have h1 : (i 1).val < 128 := (i 1).isLt
  pointwise
  refine congrArg y (funext fun (a : Fin 3) => Fin.ext ?_)
  match a with
  | 0 => exact hk.symm
  | 1 => show (i 0).val / 8 % 512 = r.val; omega
  | 2 => exact hd.symm

/-- The reference's rows of device `c`'s arguments. -/
abbrev refRows (c : Dev nD) : FVec Ideal Cert.Reference2Ideal.S160x512x1024 .f32 := rows (aE m c) (aN m c) (aX m c) (aW m c) (aB m c) (aV m c) (aA m c)

theorem expert_eq (c : Dev nD) (k : Fin 160) : expert m k = aE m c (ix1 k) := by
  obtain rfl : c = 0 := Subsingleton.elim _ _
  exact congrFun (V_kept m 0 main_arg0 (by decide) (by decide)) (ix1 k)
theorem nUsed_eq (c : Dev nD) : nUsed m = aN m c (ix1 (0 : Fin 1)) := by
  obtain rfl : c = 0 := Subsingleton.elim _ _
  exact congrFun (V_kept m 0 main_arg1 (by decide) (by decide)) (ix1 (0 : Fin 1))

/-- A used block reads its own rows. -/
theorem rowBlock_used (h : InRange m) (n : ℕ) (hn : n < 160) (hu : Used m n) : rowBlock m n = n := by
  have := rowBlock_val m h n hn
  unfold Used at hu
  omega

/-- What a grid point leaves at row `j` and lane `l` of its block is the reference's entry. -/
theorem point_at (h : InRange m) (hO : Ok m) (c : Dev nD) (t : Fin (cfgM m hO).N) (j : Fin 4096) (l : Fin 128) (k : Fin 160) (r : Fin 512) (d : Fin 1024)
    (hk : k.val = t.val) (hr : r.val = j.val / 8) (hd : d.val = j.val % 8 * 128 + l.val) :
    outAt m hO c t (ix2 j l) = refRows m c (ix3 k r d) := by
  have hN : t.val < 160 := by rw [← hk]; exact k.isLt
  have hx := expert_lt m h k
  have hE : (aE m c (ix1 k)).toInt = ((⟨(expert m k).toNat, hx⟩ : Fin 32).val : Int) := by
    rw [← expert_eq]; exact (nat_of_range _ (h.1 k).1).symm
  refine Eq.trans ?_ (rows_at (aE m c) (aN m c) (aX m c) (aW m c) (aB m c) (aV m c) (aA m c) k ⟨(expert m k).toNat, hx⟩ hE r d).symm
  rw [← nUsed_eq, hk]
  by_cases hu : Used m t.val
  · rw [if_pos (show (t.val : Int) < (nUsed m).toInt from hu)]
    have hb := rowBlock_used m h t.val hN hu
    refine (congrFun (show outAt m hO c t = _ from if_pos hu) (ix2 j l)).trans ?_
    have hj : ∀ (y : FVec Ideal S512x1024 .f32), laid (F := Ideal) y (ix2 j l) = y (ix2 r d) := fun y =>
      congrArg y (funext fun (a : Fin 2) => Fin.ext (match a with
        | 0 => hr.symm
        | 1 => hd.symm))
    rw [hj]
    have hP : ∀ (r : Fin 512) (q : Fin 2048), k0_pay7 (F := Ideal) (tile0 (iblk m hO c 0 t)) (tile1 (iblk m hO c 0 t)) (tile2 (iblk m hO c 0 t)) (tile3 (iblk m hO c 0 t))
        (tile4 (iblk m hO c 0 t)) (tile5 (iblk m hO c 0 t)) (tile6 (iblk m hO c 0 t)) (tile7 (iblk m hO c 0 t)) (left0 m hO c t) (iblk m hO c 2 t) (ix2 r q)
        = hidAt (aX m c) (aW m c) (aB m c) k ⟨(expert m k).toNat, hx⟩ r q := fun r q => by
      refine (pay7_at _ _ _ r q).trans ?_
      unfold hidAt
      refine congrArg₂ (· + ·) (Finset.sum_congr rfl fun p _ => congrArg₂ (· * ·) ?_ ?_) (iblk2_at m hO c t k hk _ rfl q)
      · refine (rowsOf_at _ r p).trans ?_
        exact iblk0_at m hO c t _ _ _ (by rw [hb, ← hk]; show k.val * 4096 + r.val * 8 + p.val / 128 = k.val * 4096 + (8 * r.val + p.val / 128); omega)
      · exact (pay5_at _ p q).trans (iblk1_at m hO c t k hk _ rfl p q)
    refine (rowsOut_at _ _ _ _ _ r d _ hP).trans ?_
    refine congrArg₂ (· + ·) (Finset.sum_congr rfl fun f _ => congrArg₂ (· * ·) (gated_eq _ _) ?_) (iblk4_at m hO c t k hk _ rfl d)
    exact (pay6_at _ f d).trans (iblk3_at m hO c t k hk _ rfl f d)
  · rw [if_neg (show ¬(t.val : Int) < (nUsed m).toInt from hu)]
    exact (congrFun (show outAt m hO c t = _ from if_neg hu) (ix2 j l)).trans (pay4_at _)

/-- The reference's result, of device `c`'s arguments. -/
abbrev refOut (c : Dev nD) : FVec Ideal S655360x128 .f32 :=
  shapeCast S655360x128 (refRows m c) Cert.Reference2Ideal.Gen.facts₀.shapeCasts_S160x512x1024_S655360x128

theorem ix_out : ∀ i : grid0.Coords, cc0_transform_5 i = (![(i 0).val, 0] : Fin 2 → ℕ) := by decide +kernel

theorem index5 (hO : Ok m) (t : Fin (cfgM m hO).N) : ((cfgM m hO).win 5).index t = (![t.val, 0] : Fin 2 → ℕ) :=
  (ix_out (grid0.coords t)).trans (by rw [coord_val])

/-- The output block is written back at every point. -/
theorem flush5 (hO : Ok m) : ∀ t : Fin (cfgM m hO).N, ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The block of an array the output window takes at a point. -/
theorem block5_at (hO : Ok m) (t : Fin (cfgM m hO).N) (G : FVec Ideal S655360x128 .f32) (j : Fin 4096) (l : Fin 128) (R : Fin 655360) (hR : R.val = t.val * 4096 + j.val) :
    ((((cfgM m hO).win 5).blk t).view.read (Elt Ideal) G : Vec Ideal S4096x128 .f32) (ix2 j l) = G (ix2 R l) := by
  refine (View.read_apply ..).trans ?_
  refine (cast_eq rfl _).trans ?_
  refine congrArg G (funext fun (a : Fin 2) => Fin.ext ?_)
  refine (((cfgM m hO).win 5).rect_emb_val t (ix2 j l) a).trans ?_
  refine (congrArg (fun f : Fin 2 → ℕ => f a * S4096x128.size a + (ix2 j l a).val) (index5 m hO t)).trans ?_
  match a with
  | 0 => exact hR.symm
  | 1 => show 0 * 128 + l.val = l.val; omega

/-- What a grid point writes back is what its body leaves. -/
theorem flushed5 (hO : Ok m) (c : Dev nD) (t : Fin (cfgM m hO).N) : (dats m hO 0 c).flushed 5 t = outAt m hO c t :=
  congrArg (((cfgM m hO).win 5).cut ((cfgM m hO).grid.coords t)) (after_5 m hO c t)

theorem flushed_of (hO : Ok m) (c : Dev nD) (t : Fin (cfgM m hO).N) (G : FVec Ideal S655360x128 .f32)
    (hG : ∀ (j : Fin 4096) (l : Fin 128) (R : Fin 655360), R.val = t.val * 4096 + j.val → outAt m hO c t (ix2 j l) = G (ix2 R l)) :
    (dats m hO 0 c).flushed 5 t = (((cfgM m hO).win 5).blk t).view.read (Elt Ideal) G := by
  rw [flushed5]
  have hN : t.val < 160 := lt_of_lt_of_eq t.isLt N_0
  refine funext fun (y : S4096x128.Idx) => ?_
  obtain ⟨j, l, rfl⟩ : ∃ (j : Fin 4096) (l : Fin 128), y = ix2 j l := ⟨y 0, y 1, funext fun (a : Fin 2) => match a with | 0 => rfl | 1 => rfl⟩
  exact (hG j l ⟨t.val * 4096 + j.val, by omega⟩ rfl).trans (block5_at m hO t G j l _ rfl).symm

/-- What a grid point writes back is its block of the reference's result. -/
theorem flushed_eq (h : InRange m) (hO : Ok m) (c : Dev nD) (t : Fin (cfgM m hO).N) :
    (dats m hO 0 c).flushed 5 t = (((cfgM m hO).win 5).blk t).view.read (Elt Ideal) (refOut m c) := by
  have hN : t.val < 160 := lt_of_lt_of_eq t.isLt N_0
  refine flushed_of m hO c t (refOut m c) fun j l R hR => ?_
  refine Eq.trans ?_ (ref_at (refRows m c) (ix2 R l) ⟨t.val, hN⟩ ⟨j.val / 8, by omega⟩ ⟨j.val % 8 * 128 + l.val, by omega⟩ ?_ ?_ ?_).symm
  · exact point_at m h hO c t j l _ _ _ rfl rfl rfl
  · show t.val = R.val / 4096; omega
  · show j.val / 8 = R.val % 4096 / 8; omega
  · show j.val % 8 * 128 + l.val = R.val % 8 * 128 + l.val; omega

/-- The blocks cover the result. -/
theorem cover (hO : Ok m) (i : S655360x128.Idx) : ∃ t : Fin (cfgM m hO).N, ((cfgM m hO).win 5).flush t = true ∧ i ∈ (((cfgM m hO).win 5).blk t).view.set := by
  have h0 : (i 0).val < 655360 := (i 0).isLt
  have h1 : (i 1).val < 128 := (i 1).isLt
  have hN : (cfgM m hO).N = 160 := N_0
  obtain ⟨t, ht⟩ : ∃ t : Fin (cfgM m hO).N, t.val = (i 0).val / 4096 := ⟨⟨(i 0).val / 4096, by omega⟩, rfl⟩
  have key : ∀ f : Fin 2 → ℕ, f = ![t.val, 0] → ∀ a : Fin 2, f a * S4096x128.size a ≤ (i a).val ∧ (i a).val < f a * S4096x128.size a + S4096x128.size a := by
    rintro f rfl a
    match a with
    | 0 => show t.val * 4096 ≤ (i 0).val ∧ (i 0).val < t.val * 4096 + 4096; omega
    | 1 => show 0 * 128 ≤ (i 1).val ∧ (i 1).val < 0 * 128 + 128; omega
  exact ⟨t, flush5 m hO t, ((congrArg (i ∈ ·) (View.set_slice_whole main_v2 (((cfgM m hO).win 5).rect t))).trans (propext (Rect.mem_set_unit ..))).mpr (key _ (index5 m hO t))⟩

/-- The kernel's result array is the reference's function of the arguments. -/
theorem final_eq (h : InRange m) (hO : Ok m) (c : Dev nD) : (dats m hO 0 c).arrAt 5 (cfgM m hO).N = refOut m c :=
  (dats m hO 0 c).arrAt_eq_of_cover 5 _ (fun t _ => flushed_eq m h hO c t) (cover m hO)

end Cert.Moe
-- ==== Proof.InVal.lean ====
/- What one grid point of the input projection leaves in its block, entry by entry. -/
module

public import proofs.«01_k».proof.Proof.Gen.Kernel3Ideal.Value
public import Idealize.ShloMosaic.Lib.Pointwise
public import Idealize.ShloMosaic.Lib.Pipeline.Value
public import Idealize.ShloMosaic.Lib.Pipeline.ValueKit.Tiles

@[expose] public section

set_option maxRecDepth 16384
noncomputable section

namespace Cert.Kernel3Ideal.In

open Idealize.ShloMosaic Idealize.ShloMosaic.TcCoe Idealize.SL.Sem
open Cert.Kernel3Ideal Cert.Kernel3Ideal.Gen

/-- One entry of the modulated norm of a row: the entry, the row, the norm's weight, the scale and the shift. -/
def modNorm (row : Fin 1024 → EReal) (x g s h : EReal) : EReal :=
  x * Ideal.rsqrt (Ideal.div (∑ k, row k * row k) (Ideal.ofBits .f32 0x44800000#32) + Ideal.ofBits .f32 0x358637BD#32) * g
    * (1 + s) + h

theorem norm_at (v0 : FVec Ideal S1x6x1024 .f32) (v2 : FVec Ideal S512x1024 .f32) (v4 : FVec Ideal S1x1024 .f32) (r : Fin 512) (q : Fin 1024) :
    k0_pay3 (F := Ideal) v0 v2 v4 (ix2 r q)
      = modNorm (fun k => v2 (ix2 r k)) (v2 (ix2 r q)) (v4 (ix2 (0 : Fin 1) q)) (v0 (ix3 (0 : Fin 1) (1 : Fin 6) q)) (v0 (ix3 (0 : Fin 1) (0 : Fin 6) q)) := by
  pointwise [k0_pay3]
  rfl

theorem prod_at (h : FVec Ideal S512x1024 .bf16) (w : FVec Ideal S1024x256 .bf16) (r : Fin 512) (l : Fin 256) :
    k0_pay2 (F := Ideal) h w (ix2 r l) = ∑ k : Fin 1024, h (ix2 r k) * w (ix2 k l) := by
  pointwise [k0_pay2]

/-- The rows `h` times the columns of `w`. -/
def prod (h : FVec Ideal S512x1024 .bf16) (w : FVec Ideal S1024x2304 .bf16) (y : S512x2304.Idx) : EReal :=
  ∑ k : Fin 1024, h (ix2 (⟨(y 0).val, (y 0).isLt⟩ : Fin 512) k) * w (ix2 k (⟨(y 1).val, (y 1).isLt⟩ : Fin 2304))

/-- A chunk of columns holds the product's entries at those columns. -/
theorem chunk_at (h : FVec Ideal S512x1024 .bf16) (w : FVec Ideal S1024x2304 .bf16) (o : ℕ)
    (iw : ∀ a, (![0, o] : Fin 2 → ℕ) a + S1024x256.size a ≤ S1024x2304.size a)
    (io : ∀ a, (![0, o] : Fin 2 → ℕ) a + S512x256.size a ≤ S512x2304.size a) (x : S512x256.Idx) :
    k0_pay2 (F := Ideal) h (View.ld w (Rect.unit (s := S1024x2304) ![0, o] S1024x256.size iw)) x
      = prod h w ((Rect.unit (s := S512x2304) ![0, o] S512x256.size io).emb x) := by
  have e : ∀ a, ((Rect.unit (s := S512x2304) ![0, o] S512x256.size io).emb x a : ℕ) = (![0, o] : Fin 2 → ℕ) a + (x a).val :=
    fun a => Rect.idx_unit_val (s := S512x2304) ![0, o] S512x256.size io x a
  have hx : x = ix2 (⟨(x 0).val, (x 0).isLt⟩ : Fin 512) (⟨(x 1).val, (x 1).isLt⟩ : Fin 256) := funext fun a => match a with | 0 => rfl | 1 => rfl
  refine (congrArg (k0_pay2 (F := Ideal) h _) hx).trans ((prod_at _ _ _ _).trans ?_)
  unfold prod
  refine Finset.sum_congr rfl fun k _ => congrArg₂ (· * ·) (congrArg h (congrArg (fun r : Fin 512 => ix2 r k) (Fin.ext ?_))) ?_
  · exact ((e 0).trans (Nat.zero_add _)).symm
  · refine View.ld_unit_apply_of _ _ _ _ _ _ (fun a => ?_)
    match a with
    | 0 => exact (Nat.zero_add _).symm
    | 1 => exact e 1

theorem hz2 : (![0, 0] : Fin 2 → ℕ) = fun _ => 0 := funext fun a => match a with | 0 => rfl | 1 => rfl
theorem hz3 : (![0, 0, 0] : Fin 3 → ℕ) = fun _ => 0 := funext fun a => match a with | 0 => rfl | 1 => rfl | 2 => rfl

/-- The block a grid point leaves is the modulated norm of its rows times the weight. -/
theorem out_eq (x : FVec Ideal S512x1024 .f32) (g : FVec Ideal S1x1024 .f32) (mo : FVec Ideal S1x6x1024 .f32) (w : FVec Ideal S1024x2304 .bf16)
    (y : S512x2304.Idx) : out0_4 (F := Ideal) x g mo w y = prod (k0_pay3 mo x g) w y := by
  have e : k0_pay12 (F := Ideal) x g mo w = k0_pay3 mo x g := by
    unfold k0_pay12
    rw [View.ld_unit_zero (S := S1x6x1024) hz3, View.ld_unit_zero (S := S512x1024) hz2, View.ld_unit_zero (S := S1x1024) hz2]
  rw [← e]
  unfold out0_4
  refine View.canon_apply_of_pieces (Val := Elt Ideal) (e := .bf16) (prod (k0_pay12 x g mo w) w) _ (fun p hp x' => ?_) y (cover0_4 _ _ _ _ _ _ _ _ _ y)
  simp only [List.mem_cons, List.not_mem_nil, or_false] at hp
  rcases hp with rfl | rfl | rfl | rfl | rfl | rfl | rfl | rfl | rfl
  · exact chunk_at _ w 2048 inb_S1024x2304_S1024x256_0_2048 inb_S512x2304_S512x256_0_2048 x'
  · exact chunk_at _ w 1792 inb_S1024x2304_S1024x256_0_1792 inb_S512x2304_S512x256_0_1792 x'
  · exact chunk_at _ w 1536 inb_S1024x2304_S1024x256_0_1536 inb_S512x2304_S512x256_0_1536 x'
  · exact chunk_at _ w 1280 inb_S1024x2304_S1024x256_0_1280 inb_S512x2304_S512x256_0_1280 x'
  · exact chunk_at _ w 1024 inb_S1024x2304_S1024x256_0_1024 inb_S512x2304_S512x256_0_1024 x'
  · exact chunk_at _ w 768 inb_S1024x2304_S1024x256_0_768 inb_S512x2304_S512x256_0_768 x'
  · exact chunk_at _ w 512 inb_S1024x2304_S1024x256_0_512 inb_S512x2304_S512x256_0_512 x'
  · exact chunk_at _ w 256 inb_S1024x2304_S1024x256_0_256 inb_S512x2304_S512x256_0_256 x'
  · exact chunk_at _ w 0 inb_S1024x2304_S1024x256_0_0 inb_S512x2304_S512x256_0_0 x'

end Cert.Kernel3Ideal.In

end
-- ==== Proof.InRef.lean ====
/- The input projection's reference read at an index. -/
module

public import proofs.«01_k».proof.Proof.InVal
public import proofs.«01_k».proof.Proof.Gen.Reference3Ideal.Read

@[expose] public section

set_option maxRecDepth 16384
noncomputable section

namespace Cert.Reference3Ideal.In

open Idealize.ShloMosaic Idealize.ShloMosaic.TcCoe Idealize.SL.Sem
open Cert.Reference3Ideal Cert.Reference3Ideal.Gen Cert.Reference3Ideal.Read
open Cert.Kernel3Ideal.In (modNorm)

variable (x : FVec Ideal S2x8192x1024 .f32) (g : FVec Ideal S1024 .f32) (mo : FVec Ideal S2x6x1024 .f32) (w : FVec Ideal S1024x2304 .f32)

theorem norm_at (b : Fin 2) (s : Fin 8192) (q : Fin 1024) :
    val_main_v24 (F := Ideal) x g mo (ix3 b s q)
      = modNorm (fun k => x (ix3 b s k)) (x (ix3 b s q)) (g (ix1 q)) (mo (ix3 b (1 : Fin 6) q)) (mo (ix3 b (0 : Fin 6) q)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_at (R : Fin 16384) (C : Fin 2304) (b : Fin 2) (s : Fin 8192) (hR : R.val = 8192 * b.val + s.val) :
    val_main_v27 (F := Ideal) x g mo w (ix2 R C)
      = ∑ q : Fin 1024, modNorm (fun k => x (ix3 b s k)) (x (ix3 b s q)) (g (ix1 q)) (mo (ix3 b (1 : Fin 6) q)) (mo (ix3 b (0 : Fin 6) q)) * w (ix2 q C) := by
  have hb := b.isLt
  have hs := s.isLt
  have hC := C.isLt
  rw [val_main_v27_apply]
  refine (val_main_v26_apply (F := Ideal) x g mo w (ix2 R C)).trans ((val_main_v25_apply x g mo w _).trans (Finset.sum_congr rfl fun q _ => ?_))
  refine congrArg₂ (· * ·) (Eq.trans (congrArg (val_main_v24 (F := Ideal) x g mo) (funext fun a => Fin.ext ?_)) (norm_at x g mo b s q)) (congrArg w (funext fun a => Fin.ext ?_))
  · match a with
    | 0 => show (R.val * 2304 + C.val) / 18874368 = b.val; omega
    | 1 => show (R.val * 2304 + C.val) / 2304 % 8192 = s.val; omega
    | 2 => rfl
  · match a with
    | 0 => rfl
    | 1 => show (R.val * 2304 + C.val) % 2304 = C.val; omega

end Cert.Reference3Ideal.In

end
-- ==== Proof.InFin.lean ====
/- The input projection's result is the reference's. -/
module

public import proofs.«01_k».proof.Proof.InRef

@[expose] public section

set_option maxRecDepth 16384
noncomputable section

namespace Cert.Kernel3Ideal.In

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The tokens of device `c`. -/
abbrev aX (c : Dev nD) : FVec Ideal S2x8192x1024 .f32 := m ((c.tc : Thread nD τ).loc main_arg0)
/-- The norm's weight of device `c`. -/
abbrev aG (c : Dev nD) : FVec Ideal S1024 .f32 := m ((c.tc : Thread nD τ).loc main_arg1)
/-- The layer's modulation on device `c`. -/
abbrev aM (c : Dev nD) : FVec Ideal S2x6x1024 .f32 := m ((c.tc : Thread nD τ).loc main_arg2)
/-- The projection's weight of device `c`. -/
abbrev aW (c : Dev nD) : FVec Ideal S1024x2304 .f32 := m ((c.tc : Thread nD τ).loc main_arg3)

theorem V_v0 (c : Dev nD) : V m c main_v0 = shapeCast S16384x1024 (aX m c) shapeCasts_S2x8192x1024_S16384x1024 := by
  rfl
theorem V_v1 (c : Dev nD) : V m c main_v1 = truncf .bf16 (aW m c) bitsLt_bf16_f32 := by
  rfl
theorem V_v2 (c : Dev nD) : V m c main_v2 = shapeCast S1x1024 (aG m c) shapeCasts_S1024_S1x1024 := by
  rfl

theorem rows_at (X : FVec Ideal S2x8192x1024 .f32) (R : Fin 16384) (q : Fin 1024) (b : Fin 2) (s : Fin 8192) (hR : R.val = 8192 * b.val + s.val) :
    shapeCast S16384x1024 X shapeCasts_S2x8192x1024_S16384x1024 (ix2 R q) = X (ix3 b s q) := by
  refine shapeCast_apply X _ (ix2 R q) (ix3 b s q) ?_
  rewrite [Shape.rowMajor_val_three, Shape.rowMajor_val_two]
  show (b.val * 8192 + s.val) * 1024 + q.val = R.val * 1024 + q.val
  omega

theorem gain_at (G : FVec Ideal S1024 .f32) (q : Fin 1024) :
    shapeCast S1x1024 G shapeCasts_S1024_S1x1024 (ix2 (0 : Fin 1) q) = G (ix1 q) := by
  pointwise

theorem idx_all : ∀ t : Fin cfg0.N,
    (win0_0.index t 0 = t.val ∧ win0_0.index t 1 = 0)
    ∧ (win0_1.index t 0 = 0 ∧ win0_1.index t 1 = 0)
    ∧ (win0_2.index t 0 = t.val / 16 ∧ win0_2.index t 1 = 0 ∧ win0_2.index t 2 = 0)
    ∧ (win0_3.index t 0 = 0 ∧ win0_3.index t 1 = 0)
    ∧ (win0_4.index t 0 = t.val ∧ win0_4.index t 1 = 0) := by
  show ∀ t : Fin grid0.N, _
  decide +kernel

theorem iblk0_at (c : Dev nD) (t : Fin cfg0.N) (r : Fin 512) (q : Fin 1024) (b : Fin 2) (s : Fin 8192) (h : 8192 * b.val + s.val = 512 * t.val + r.val) :
    iblk (F := Ideal) m c 0 t (ix2 r q) = aX m c (ix3 b s q) := by
  unfold iblk; rw [View.read_apply, cast_eq]
  have hb := b.isLt
  have hs := s.isLt
  have e := (idx_all t).1
  refine (congrFun (V_v0 m c) _).trans (Eq.trans (congrArg (shapeCast S16384x1024 (aX m c) shapeCasts_S2x8192x1024_S16384x1024) (funext fun (a : Fin 2) => Fin.ext ?_))
    (rows_at (aX m c) (⟨8192 * b.val + s.val, by omega⟩ : Fin 16384) q b s rfl))
  match a with
  | 0 => refine (win0_0.rect_emb_val t (ix2 r q) 0).trans ?_; rw [e.1]; show t.val * 512 + r.val = 8192 * b.val + s.val; omega
  | 1 => refine (win0_0.rect_emb_val t (ix2 r q) 1).trans ?_; rw [e.2]; show 0 * 1024 + q.val = q.val; omega

theorem iblk1_at (c : Dev nD) (t : Fin cfg0.N) (q : Fin 1024) :
    iblk (F := Ideal) m c 1 t (ix2 (0 : Fin 1) q) = aG m c (ix1 q) := by
  unfold iblk; rw [View.read_apply, cast_eq]
  have e := (idx_all t).2.1
  refine (congrFun (V_v2 m c) _).trans (Eq.trans (congrArg (shapeCast S1x1024 (aG m c) shapeCasts_S1024_S1x1024) (funext fun (a : Fin 2) => Fin.ext ?_)) (gain_at (aG m c) q))
  match a with
  | 0 => refine (win0_1.rect_emb_val t (ix2 (0 : Fin 1) q) 0).trans ?_; rw [e.1]; rfl
  | 1 => refine (win0_1.rect_emb_val t (ix2 (0 : Fin 1) q) 1).trans ?_; rw [e.2]; show 0 * 1024 + q.val = q.val; omega

theorem iblk2_at (c : Dev nD) (t : Fin cfg0.N) (j : Fin 6) (q : Fin 1024) (b : Fin 2) (hb : b.val = t.val / 16) :
    iblk (F := Ideal) m c 2 t (ix3 (0 : Fin 1) j q) = aM m c (ix3 b j q) := by
  unfold iblk; rw [View.read_apply, cast_eq]
  have e := (idx_all t).2.2.1
  refine (congrFun (V_main_arg2 m c) _).trans (congrArg (aM m c) (funext fun (a : Fin 3) => Fin.ext ?_))
  match a with
  | 0 => refine (win0_2.rect_emb_val t (ix3 (0 : Fin 1) j q) 0).trans ?_; rw [e.1]; show t.val / 16 * 1 + 0 = b.val; omega
  | 1 => refine (win0_2.rect_emb_val t (ix3 (0 : Fin 1) j q) 1).trans ?_; rw [e.2.1]; show 0 * 6 + j.val = j.val; omega
  | 2 => refine (win0_2.rect_emb_val t (ix3 (0 : Fin 1) j q) 2).trans ?_; rw [e.2.2]; show 0 * 1024 + q.val = q.val; omega

theorem iblk3_at (c : Dev nD) (t : Fin cfg0.N) (q : Fin 1024) (C : Fin 2304) :
    iblk (F := Ideal) m c 3 t (ix2 q C) = aW m c (ix2 q C) := by
  unfold iblk; rw [View.read_apply, cast_eq]
  have e := (idx_all t).2.2.2.1
  refine (congrFun (V_v1 m c) _).trans (congrArg (aW m c) (funext fun (a : Fin 2) => Fin.ext ?_))
  match a with
  | 0 => refine (win0_3.rect_emb_val t (ix2 q C) 0).trans ?_; rw [e.1]; show 0 * 1024 + q.val = q.val; omega
  | 1 => refine (win0_3.rect_emb_val t (ix2 q C) 1).trans ?_; rw [e.2]; show 0 * 2304 + C.val = C.val; omega

/-- What a grid point leaves at row `r` and column `C` of its block is the reference's entry. -/
theorem point_at (c : Dev nD) (t : Fin cfg0.N) (r : Fin 512) (C : Fin 2304) (R : Fin 16384) (hR : R.val = 512 * t.val + r.val) :
    out0_4 (F := Ideal) (iblk m c 0 t) (iblk m c 1 t) (iblk m c 2 t) (iblk m c 3 t) (ix2 r C)
      = Cert.Reference3Ideal.Read.val_main_v27 (F := Ideal) (aX m c) (aG m c) (aM m c) (aW m c) (ix2 R C) := by
  have hRR := R.isLt
  have hr := r.isLt
  refine (out_eq _ _ _ _ _).trans (Eq.trans ?_ (Cert.Reference3Ideal.In.ref_at (aX m c) (aG m c) (aM m c) (aW m c) R C
    (⟨R.val / 8192, by omega⟩ : Fin 2) (⟨R.val % 8192, by omega⟩ : Fin 8192) (by simp only []; omega)).symm)
  unfold prod
  refine Finset.sum_congr rfl fun q _ => congrArg₂ (· * ·) ((norm_at _ _ _ r q).trans ?_) (iblk3_at m c t q C)
  have h0 : ∀ k, iblk (F := Ideal) m c 0 t (ix2 r k) = aX m c (ix3 (⟨R.val / 8192, by omega⟩ : Fin 2) (⟨R.val % 8192, by omega⟩ : Fin 8192) k) :=
    fun k => iblk0_at m c t r k _ _ (by simp only []; omega)
  rw [iblk1_at m c t q, iblk2_at m c t 0 q (⟨R.val / 8192, by omega⟩ : Fin 2) (by simp only []; omega),
    iblk2_at m c t 1 q (⟨R.val / 8192, by omega⟩ : Fin 2) (by simp only []; omega), h0 q,
    show (fun k => iblk (F := Ideal) m c 0 t (ix2 r k)) = _ from funext h0]

/-- What a grid point writes back is its block of the reference's result. -/
theorem flushed_eq (c : Dev nD) (t : Fin cfg0.N) :
    (dats m 0 c).flushed 4 t = ((cfg0.win 4).blk t).view.read (Elt Ideal)
      (Cert.Reference3Ideal.Read.val_main_v27 (F := Ideal) (aX m c) (aG m c) (aM m c) (aW m c)) := by
  rw [Value.flushed4]
  funext y
  rw [View.read_apply, cast_eq]
  have hN : t.val < 32 := lt_of_lt_of_eq t.isLt N_0
  have e := (idx_all t).2.2.2.2
  have y0 : (y 0).val < 512 := (y 0).isLt
  have y1 : (y 1).val < 2304 := (y 1).isLt
  refine Eq.trans ?_ ((point_at m c t (⟨(y 0).val, y0⟩ : Fin 512) (⟨(y 1).val, y1⟩ : Fin 2304) (⟨512 * t.val + (y 0).val, by omega⟩ : Fin 16384) rfl).trans ?_)
  · exact congrArg (out0_4 (F := Ideal) (iblk m c 0 t) (iblk m c 1 t) (iblk m c 2 t) (iblk m c 3 t)) (funext fun a => match a with | 0 => rfl | 1 => rfl)
  · refine congrArg (Cert.Reference3Ideal.Read.val_main_v27 (F := Ideal) (aX m c) (aG m c) (aM m c) (aW m c)) (funext fun a => Fin.ext ?_)
    match a with
    | 0 => refine Eq.trans ?_ (win0_4.rect_emb_val t y 0).symm; rw [e.1]
           show 512 * t.val + (y 0).val = t.val * 512 + (y 0).val; omega
    | 1 => refine Eq.trans ?_ (win0_4.rect_emb_val t y 1).symm; rw [e.2]
           show (y 1).val = 0 * 2304 + (y 1).val; omega

/-- The blocks cover the result. -/
theorem cover (i : S16384x2304.Idx) : ∃ t : Fin cfg0.N, (cfg0.win 4).flush t = true ∧ i ∈ ((cfg0.win 4).blk t).view.set := by
  have h0 : (i 0).val < 16384 := (i 0).isLt
  have h1 : (i 1).val < 2304 := (i 1).isLt
  have hN : cfg0.N = 32 := N_0
  obtain ⟨t, ht⟩ : ∃ t : Fin cfg0.N, t.val = (i 0).val / 512 := ⟨⟨(i 0).val / 512, by omega⟩, rfl⟩
  refine ⟨t, flush0_4 t, ?_⟩
  show i ∈ ((View.whole main_v3).slice (win0_4.rect t)).set
  rw [View.set_slice_whole, Rect.mem_set_unit]
  have e := (idx_all t).2.2.2.2
  intro a
  match a with
  | 0 => show win0_4.index t 0 * 512 ≤ (i 0).val ∧ (i 0).val < win0_4.index t 0 * 512 + 512
         rw [e.1]; omega
  | 1 => show win0_4.index t 1 * 2304 ≤ (i 1).val ∧ (i 1).val < win0_4.index t 1 * 2304 + 2304
         rw [e.2]; omega

/-- The kernel's result array is the reference's function of its arguments. -/
theorem final_eq (c : Dev nD) : (dats m 0 c).arrAt 4 cfg0.N
    = Cert.Reference3Ideal.Read.val_main_v27 (F := Ideal) (aX m c) (aG m c) (aM m c) (aW m c) :=
  (dats m 0 c).arrAt_eq_of_cover 4 _ (fun t _ => flushed_eq m c t) cover

end Cert.Kernel3Ideal.In

end
-- ==== Proof.MdVal.lean ====
/- What one grid point of the modulation leaves in its block, entry by entry, and the padded condition. -/
module

public import proofs.«01_k».proof.Proof.Gen.Kernel4Ideal.Frame
public import Idealize.ShloMosaic.Lib.Pointwise
public import Idealize.ShloMosaic.Lib.Pipeline.Value
public import Idealize.ShloMosaic.Lib.Pipeline.ValueKit.Tiles
public import Idealize.ShloMosaic.Lib.Routing.OpsSet

@[expose] public section

set_option maxRecDepth 16384
noncomputable section

namespace Cert.Kernel4Ideal.Md

open Idealize.ShloMosaic Idealize.ShloMosaic.TcCoe Idealize.SL.Sem
open Cert.Kernel4Ideal Cert.Kernel4Ideal.Gen
open Idealize.ShloMosaic.Routing (resultIdx?_ix2 scatter_set_hit)

/-- `x` times its logistic. -/
def sil (x : EReal) : EReal := x * Ideal.div 1 (1 + Ideal.exp (-x))

theorem pay_at (v0 : FVec Ideal S8x1024 .f32) (v10 : FVec Ideal S1x1024x1024 .f32) (v13 : FVec Ideal S1x1x1024 .f32) (r : Fin 8) (C : Fin 1024) :
    k0_pay1 (F := Ideal) v0 v10 v13 (ix3 (0 : Fin 1) r C)
      = (∑ k : Fin 1024, sil (v0 (ix2 r k)) * v10 (ix3 (0 : Fin 1) k C)) + v13 (ix3 (0 : Fin 1) (0 : Fin 1) C) := by
  pointwise [k0_pay1]
  simp only [zero_sub]
  rfl

theorem hz2 : (![0, 0] : Fin 2 → ℕ) = fun _ => 0 := funext fun a => match a with | 0 => rfl | 1 => rfl
theorem hz3 : (![0, 0, 0] : Fin 3 → ℕ) = fun _ => 0 := funext fun a => match a with | 0 => rfl | 1 => rfl | 2 => rfl

/-- Row `r` of the block a grid point leaves is the gated row times the weight, with the bias. -/
theorem out_eq (x0 : FVec Ideal S8x1024 .f32) (x1 : FVec Ideal S1x1024x1024 .f32) (x2 : FVec Ideal S1x1x1024 .f32) (r : Fin 8) (C : Fin 1024) :
    out0_3 (F := Ideal) x0 x1 x2 (ix3 (0 : Fin 1) r C)
      = (∑ k : Fin 1024, sil (x0 (ix2 r k)) * x1 (ix3 (0 : Fin 1) k C)) + x2 (ix3 (0 : Fin 1) (0 : Fin 1) C) := by
  unfold out0_3
  rw [View.ld_unit_zero (S := S8x1024) hz2, View.ld_unit_zero (S := S1x1024x1024) hz3, View.ld_unit_zero (S := S1x1x1024) hz3]
  rw [View.canon_unit_zero (S := S1x8x1024) hz3]
  exact pay_at x0 x1 x2 r C

/-- The first rows of the padded condition are the condition. -/
theorem pad_at (z : FVec Ideal S8x1024 .f32) (i : IVec S1 32) (hi : ∀ j, i j = 0#32) (u : FVec Ideal S2x1024 .f32) (b : Fin 2) (q : Fin 1024) (r : Fin 8) (hr : r.val = b.val) :
    Host.scatter scatter_S8x1024_S1_S2x1024_01_n_0_0 (fun _ b => b) z i u (ix2 r q) = u (ix2 b q) := by
  have hst0 : ∀ k, scatter_S8x1024_S1_S2x1024_01_n_0_0.start k i 0 = 0 := fun k => by
    unfold ScatterDims.start
    split
    · rw [hi]; rfl
    · rfl
  have hst1 : ∀ k, scatter_S8x1024_S1_S2x1024_01_n_0_0.start k i 1 = 0 := fun k => by
    unfold ScatterDims.start
    split
    · rw [hi]; rfl
    · rfl
  have hw0 : ∀ k : S2x1024.Idx, scatter_S8x1024_S1_S2x1024_01_n_0_0.window k 0 = (k 0).val := fun k => rfl
  have hw1 : ∀ k : S2x1024.Idx, scatter_S8x1024_S1_S2x1024_01_n_0_0.window k 1 = (k 1).val := fun k => rfl
  have lands : ∀ k : S2x1024.Idx, scatter_S8x1024_S1_S2x1024_01_n_0_0.resultIdx? k i = some (ValueIdx.ix2 r q) ↔ (k 0).val = b.val ∧ (k 1).val = q.val := fun k => by
    rw [resultIdx?_ix2, hst0, hst1, hw0, hw1]
    omega
  have e : (ix2 r q : S8x1024.Idx) = ValueIdx.ix2 r q := rfl
  rw [e]
  refine scatter_set_hit _ _ _ _ _ _ (fun k hk => congrArg u (funext fun a => Fin.ext ?_)) (ix2 b q) ((lands _).2 ⟨rfl, rfl⟩)
  match a with
  | 0 => exact ((lands k).1 hk).1
  | 1 => exact ((lands k).1 hk).2

end Cert.Kernel4Ideal.Md

end
-- ==== Proof.MdRef.lean ====
/- The modulation's reference, entry by entry. -/
module

public import proofs.«01_k».proof.Proof.Gen.Reference4Ideal.Read
public import proofs.«01_k».proof.Proof.MdVal

@[expose] public section

set_option maxRecDepth 16384
noncomputable section

namespace Cert.Reference4Ideal.Md

open Idealize.ShloMosaic Idealize.ShloMosaic.TcCoe Idealize.SL.Sem
open Cert.Reference4Ideal Cert.Reference4Ideal.Gen Cert.Reference4Ideal.Read
open Cert.Kernel4Ideal.Md (sil)

theorem ref_at (x0 : FVec Ideal S2x1024 .f32) (x1 : FVec Ideal S2x1024x6144 .f32) (x2 : FVec Ideal S2x6144 .f32) (l b : Fin 2) (j : Fin 6) (q : Fin 1024)
    (C : Fin 6144) (hC : C.val = 1024 * j.val + q.val) :
    val_main_v6 (F := Ideal) x0 x1 x2 (ix4 l b j q) = (∑ k : Fin 1024, sil (x0 (ix2 b k)) * x1 (ix3 l k C)) + x2 (ix2 l C) := by
  have e : val_main_v6 (F := Ideal) x0 x1 x2 (ix4 l b j q) = val_main_v5 (F := Ideal) x0 x1 x2 (ix3 l b C) := by
    unfold val_main_v6
    refine shapeCast_apply _ _ (ix4 l b j q) (ix3 l b C) ?_
    rewrite [Shape.rowMajor_val_three, Shape.rowMajor_val_four]
    show (l.val * 2 + b.val) * 6144 + C.val = ((l.val * 2 + b.val) * 6 + j.val) * 1024 + q.val
    omega
  refine e.trans ?_
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  exact congrArg (· + x2 (ix2 l C)) (Finset.sum_congr rfl fun k _ => mul_comm _ _)

end Cert.Reference4Ideal.Md

end
-- ==== Proof.MdFin.lean ====
/- The modulation's result is the reference's. -/
module

public import proofs.«01_k».proof.Proof.MdRef

@[expose] public section

set_option maxRecDepth 16384
noncomputable section

namespace Cert.Kernel4Ideal.Md

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (ρ : Dev nD → PrngReg)

/-- The condition of device `c`. -/
abbrev aC (c : Dev nD) : FVec Ideal S2x1024 .f32 := m ((c.tc : Thread nD τ).loc main_arg0)
/-- Both layers' weights of device `c`. -/
abbrev aW (c : Dev nD) : FVec Ideal S2x1024x6144 .f32 := m ((c.tc : Thread nD τ).loc main_arg1)
/-- Both layers' biases of device `c`. -/
abbrev aB (c : Dev nD) : FVec Ideal S2x6144 .f32 := m ((c.tc : Thread nD τ).loc main_arg2)

/-- The condition with rows of zeros below it, as the call receives it. -/
def padded (u : FVec Ideal S2x1024 .f32) : FVec Ideal S8x1024 .f32 :=
  Host.scatter scatter_S8x1024_S1_S2x1024_01_n_0_0 (fun _ b => b) (broadcastInDim S8x1024 ![] bcast_S_S8x1024 (constant (F := Ideal) S_ .f32 0x00000000#32))
    (broadcastInDim S1 ![] bcast_S_S1 (constantI S_ 32 0#32)) u

attribute [local irreducible] Host.scatter in
theorem V_v2 (c : Dev nD) : V m c main_v2 = padded (aC m c) := by
  rfl
theorem V_v3 (c : Dev nD) : V m c main_v3 = shapeCast S2x1x6144 (aB m c) shapeCasts_S2x6144_S2x1x6144 := by
  rfl

theorem padded_at (u : FVec Ideal S2x1024 .f32) (b : Fin 2) (q : Fin 1024) (r : Fin 8) (hr : r.val = b.val) :
    padded u (ix2 r q) = u (ix2 b q) := by
  unfold padded
  exact pad_at _ _ (fun _ => rfl) u b q r hr

theorem bias_at (B : FVec Ideal S2x6144 .f32) (l : Fin 2) (C : Fin 6144) :
    shapeCast S2x1x6144 B shapeCasts_S2x6144_S2x1x6144 (ix3 l (0 : Fin 1) C) = B (ix2 l C) := by
  pointwise

theorem idx_all : ∀ t : Fin cfg0.N,
    (win0_0.index t 0 = 0 ∧ win0_0.index t 1 = 0)
    ∧ (win0_1.index t 0 = t.val / 6 ∧ win0_1.index t 1 = 0 ∧ win0_1.index t 2 = t.val % 6)
    ∧ (win0_2.index t 0 = t.val / 6 ∧ win0_2.index t 1 = 0 ∧ win0_2.index t 2 = t.val % 6)
    ∧ (win0_3.index t 0 = t.val / 6 ∧ win0_3.index t 1 = 0 ∧ win0_3.index t 2 = t.val % 6) := by
  show ∀ t : Fin grid0.N, _
  decide +kernel

theorem iblk0_at (c : Dev nD) (t : Fin cfg0.N) (r : Fin 8) (q : Fin 1024) :
    iblk (F := Ideal) m c 0 t (ix2 r q) = padded (aC m c) (ix2 r q) := by
  unfold iblk; rw [View.read_apply, cast_eq]
  have e := (idx_all t).1
  refine (congrFun (V_v2 m c) _).trans (congrArg (padded (aC m c)) (funext fun (a : Fin 2) => Fin.ext ?_))
  match a with
  | 0 => refine (win0_0.rect_emb_val t (ix2 r q) 0).trans ?_; rw [e.1]; show 0 * 8 + r.val = r.val; omega
  | 1 => refine (win0_0.rect_emb_val t (ix2 r q) 1).trans ?_; rw [e.2]; show 0 * 1024 + q.val = q.val; omega

theorem iblk1_at (c : Dev nD) (t : Fin cfg0.N) (k : Fin 1024) (q : Fin 1024) (l : Fin 2) (C : Fin 6144) (hl : l.val = t.val / 6) (hC : C.val = 1024 * (t.val % 6) + q.val) :
    iblk (F := Ideal) m c 1 t (ix3 (0 : Fin 1) k q) = aW m c (ix3 l k C) := by
  unfold iblk; rw [View.read_apply, cast_eq]
  have e := (idx_all t).2.1
  refine (congrFun (V_main_arg1 m c) _).trans (congrArg (aW m c) (funext fun (a : Fin 3) => Fin.ext ?_))
  match a with
  | 0 => refine (win0_1.rect_emb_val t (ix3 (0 : Fin 1) k q) 0).trans ?_; rw [e.1]; show t.val / 6 * 1 + 0 = l.val; omega
  | 1 => refine (win0_1.rect_emb_val t (ix3 (0 : Fin 1) k q) 1).trans ?_; rw [e.2.1]; show 0 * 1024 + k.val = k.val; omega
  | 2 => refine (win0_1.rect_emb_val t (ix3 (0 : Fin 1) k q) 2).trans ?_; rw [e.2.2]; show t.val % 6 * 1024 + q.val = C.val; omega

theorem iblk2_at (c : Dev nD) (t : Fin cfg0.N) (q : Fin 1024) (l : Fin 2) (C : Fin 6144) (hl : l.val = t.val / 6) (hC : C.val = 1024 * (t.val % 6) + q.val) :
    iblk (F := Ideal) m c 2 t (ix3 (0 : Fin 1) (0 : Fin 1) q) = aB m c (ix2 l C) := by
  unfold iblk; rw [View.read_apply, cast_eq]
  have e := (idx_all t).2.2.1
  refine (congrFun (V_v3 m c) _).trans (Eq.trans (congrArg (shapeCast S2x1x6144 (aB m c) shapeCasts_S2x6144_S2x1x6144) (funext fun (a : Fin 3) => Fin.ext ?_)) (bias_at (aB m c) l C))
  match a with
  | 0 => refine (win0_2.rect_emb_val t (ix3 (0 : Fin 1) (0 : Fin 1) q) 0).trans ?_; rw [e.1]; show t.val / 6 * 1 + 0 = l.val; omega
  | 1 => refine (win0_2.rect_emb_val t (ix3 (0 : Fin 1) (0 : Fin 1) q) 1).trans ?_; rw [e.2.1]; rfl
  | 2 => refine (win0_2.rect_emb_val t (ix3 (0 : Fin 1) (0 : Fin 1) q) 2).trans ?_; rw [e.2.2]; show t.val % 6 * 1024 + q.val = C.val; omega

/-- The array the call leaves: every row of the padded condition, gated, times the layer's weight, with the bias. -/
def full (c : Dev nD) (i : S2x8x6144.Idx) : EReal :=
  (∑ k : Fin 1024, sil (padded (aC m c) (ix2 (⟨(i 1).val, (i 1).isLt⟩ : Fin 8) k)) * aW m c (ix3 (⟨(i 0).val, (i 0).isLt⟩ : Fin 2) k (⟨(i 2).val, (i 2).isLt⟩ : Fin 6144)))
    + aB m c (ix2 (⟨(i 0).val, (i 0).isLt⟩ : Fin 2) (⟨(i 2).val, (i 2).isLt⟩ : Fin 6144))

/-- What a grid point leaves at row `r` and column `q` of its block is the array's entry. -/
theorem point_at (c : Dev nD) (t : Fin cfg0.N) (r : Fin 8) (q : Fin 1024) (l : Fin 2) (C : Fin 6144) (hl : l.val = t.val / 6) (hC : C.val = 1024 * (t.val % 6) + q.val) :
    out0_3 (F := Ideal) (iblk m c 0 t) (iblk m c 1 t) (iblk m c 2 t) (ix3 (0 : Fin 1) r q) = full m c (ix3 l r C) := by
  refine (out_eq _ _ _ r q).trans ?_
  unfold full
  exact congrArg₂ (· + ·) (Finset.sum_congr rfl fun k _ => congrArg₂ (· * ·) (congrArg sil (iblk0_at m c t r k)) (iblk1_at m c t k q l C hl hC)) (iblk2_at m c t q l C hl hC)

/-- What a grid point writes back is its block of the array. -/
theorem flushed_eq (c : Dev nD) (t : Fin cfg0.N) :
    (dats m 0 c).flushed 3 t = ((cfg0.win 3).blk t).view.read (Elt Ideal) (full m c) := by
  have f : (dats m 0 c).flushed 3 t = (cfg0.win 3).cut (grid0.coords t) (out0_3 (iblk m c 0 t) (iblk m c 1 t) (iblk m c 2 t)) := by
    show (cfg0.win 3).cut (grid0.coords t) ((dats m 0 c).after 3 t) = _
    rw [after0_3]
  rw [f]
  funext y
  rw [View.read_apply, cast_eq]
  have hN : t.val < 12 := lt_of_lt_of_eq t.isLt N_0
  have e := (idx_all t).2.2.2
  have y0 : (y 0).val < 1 := (y 0).isLt
  have y1 : (y 1).val < 8 := (y 1).isLt
  have y2 : (y 2).val < 1024 := (y 2).isLt
  refine Eq.trans ?_ ((point_at m c t (⟨(y 1).val, y1⟩ : Fin 8) (⟨(y 2).val, y2⟩ : Fin 1024) (⟨t.val / 6, by omega⟩ : Fin 2)
    (⟨1024 * (t.val % 6) + (y 2).val, by omega⟩ : Fin 6144) rfl rfl).trans ?_)
  · exact congrArg (out0_3 (F := Ideal) (iblk m c 0 t) (iblk m c 1 t) (iblk m c 2 t))
      (funext fun a => match a with | 0 => Fin.ext (Nat.lt_one_iff.1 y0) | 1 => rfl | 2 => rfl)
  · refine congrArg (full m c) (funext fun a => Fin.ext ?_)
    match a with
    | 0 => refine Eq.trans ?_ (win0_3.rect_emb_val t y 0).symm; rw [e.1]
           show t.val / 6 = t.val / 6 * 1 + (y 0).val; omega
    | 1 => refine Eq.trans ?_ (win0_3.rect_emb_val t y 1).symm; rw [e.2.1]
           show (y 1).val = 0 * 8 + (y 1).val; omega
    | 2 => refine Eq.trans ?_ (win0_3.rect_emb_val t y 2).symm; rw [e.2.2]
           show 1024 * (t.val % 6) + (y 2).val = t.val % 6 * 1024 + (y 2).val; omega

/-- The blocks cover the array. -/
theorem cover (i : S2x8x6144.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 6144 := (i 2).isLt
  have hN : cfg0.N = 12 := N_0
  obtain ⟨t, ht⟩ : ∃ t : Fin cfg0.N, t.val = 6 * (i 0).val + (i 2).val / 1024 := ⟨⟨6 * (i 0).val + (i 2).val / 1024, by omega⟩, rfl⟩
  refine ⟨t, flush0_3 t, ?_⟩
  show i ∈ ((View.whole main_v4).slice (win0_3.rect t)).set
  rw [View.set_slice_whole, Rect.mem_set_unit]
  have e := (idx_all t).2.2.2
  intro a
  match a with
  | 0 => show win0_3.index t 0 * 1 ≤ (i 0).val ∧ (i 0).val < win0_3.index t 0 * 1 + 1
         rw [e.1]; omega
  | 1 => show win0_3.index t 1 * 8 ≤ (i 1).val ∧ (i 1).val < win0_3.index t 1 * 8 + 8
         rw [e.2.1]; omega
  | 2 => show win0_3.index t 2 * 1024 ≤ (i 2).val ∧ (i 2).val < win0_3.index t 2 * 1024 + 1024
         rw [e.2.2]; omega

theorem final_eq (c : Dev nD) : (dats m 0 c).arrAt 3 cfg0.N = full m c :=
  (dats m 0 c).arrAt_eq_of_cover 3 (full m c) (fun t _ => flushed_eq m c t) cover

/-- The lines after the call keep its first two rows and split them into six vectors. -/
theorem tail_eq (c : Dev nD) : Pipeline.afterTail₀ cfgs (dats m) 0 (V0 m) [hostOps1] c main_v6
    = shapeCast S2x2x6x1024 (extractStridedSlice S2x2x6144 ![0, 0, 0] (full m c : FVec Ideal S2x8x6144 .f32) slices_S2x8x6144_S2x2x6144_0_0_0) shapeCasts_S2x2x6144_S2x2x6x1024 := by
  have w : Pipeline.withArrays (cfgs 0).spec c (V0 m c) (fun w => (dats m 0 c).arrAt w cfg0.N) (Proc.devRef .tc main_v4) = full m c :=
    (Pipeline.withArrays_arr spec0 (by decide) c (V0 m c) _ 3).trans (final_eq m c)
  rw [← w]
  rfl

theorem entry_at (c : Dev nD) (l b : Fin 2) (j : Fin 6) (q : Fin 1024) :
    shapeCast S2x2x6x1024 (extractStridedSlice S2x2x6144 ![0, 0, 0] (full m c : FVec Ideal S2x8x6144 .f32) slices_S2x8x6144_S2x2x6144_0_0_0) shapeCasts_S2x2x6144_S2x2x6x1024 (ix4 l b j q)
      = Cert.Reference4Ideal.Read.val_main_v6 (F := Ideal) (aC m c) (aW m c) (aB m c) (ix4 l b j q) := by
  have hj := j.isLt
  have hq := q.isLt
  refine Eq.trans ?_ (Cert.Reference4Ideal.Md.ref_at (aC m c) (aW m c) (aB m c) l b j q (⟨1024 * j.val + q.val, by omega⟩ : Fin 6144) rfl).symm
  refine (shapeCast_apply _ _ (ix4 l b j q) (ix3 l b (⟨1024 * j.val + q.val, by omega⟩ : Fin 6144)) ?_).trans ?_
  · rewrite [Shape.rowMajor_val_three, Shape.rowMajor_val_four]
    show (l.val * 2 + b.val) * 6144 + (1024 * j.val + q.val) = ((l.val * 2 + b.val) * 6 + j.val) * 1024 + q.val
    omega
  · have s : ∀ G : FVec Ideal S2x8x6144 .f32, ∀ C : Fin 6144, extractStridedSlice S2x2x6144 ![0, 0, 0] G slices_S2x8x6144_S2x2x6144_0_0_0 (ix3 l b C)
        = G (ix3 l (⟨b.val, by omega⟩ : Fin 8) C) := fun G C => by
      refine congrArg G (funext fun a => Fin.ext ?_)
      match a with
      | 0 => exact Nat.zero_add _
      | 1 => exact Nat.zero_add _
      | 2 => exact Nat.zero_add _
    refine (s _ _).trans ?_
    unfold full
    exact congrArg (· + _) (Finset.sum_congr rfl fun k _ => congrArg (· * _) (congrArg sil (padded_at (aC m c) b k _ rfl)))

theorem result_eq (c : Dev nD) : Pipeline.afterTail₀ cfgs (dats m) 0 (V0 m) [hostOps1] c main_v6
    = Cert.Reference4Ideal.Read.val_main_v6 (F := Ideal) (aC m c) (aW m c) (aB m c) := by
  refine (tail_eq m c).trans (funext fun y => ?_)
  have hy : y = ix4 (⟨(y 0).val, (y 0).isLt⟩ : Fin 2) (⟨(y 1).val, (y 1).isLt⟩ : Fin 2) (⟨(y 2).val, (y 2).isLt⟩ : Fin 6) (⟨(y 3).val, (y 3).isLt⟩ : Fin 1024) :=
    funext fun a => match a with | 0 => rfl | 1 => rfl | 2 => rfl | 3 => rfl
  rw [hy]
  exact entry_at m c _ _ _ _

/-- The call with the lines around it ends with the reference's result, its arguments as they were. -/
theorem run_end : θ_run defs (onTc (τ := τ) (main (F := Ideal))) ⟨m, fun _ => 0, ρ⟩ fun r => ∀ c : Dev nD,
      r.2.mem ((c.tc : Thread nD τ).loc main_v6) = Cert.Reference4Ideal.Read.val_main_v6 (F := Ideal) (aC m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.Kernel4Ideal.Md

end
-- ==== Proof.lean ====
module

public import proofs.«01_k».proof.Defs
public import proofs.«01_k».proof.Proof.SwFin
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scores_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tables_in_range
public import proofs.«01_k».proof.Proof.Gen.ReferenceIdeal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_swa_finite
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.SbFin
public import proofs.«01_k».proof.Proof.OpFin
public import proofs.«01_k».proof.Proof.SbPre
public import proofs.«01_k».proof.Proof.MoeFin
public import proofs.«01_k».proof.Proof.InFin
public import proofs.«01_k».proof.Proof.MdFin
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs have the same run: the kernel's own frame. -/
theorem frame_kernel : Cert.quiescent_Kernel := fun m ρ _ => Cert.Kernel.Gen.frame m ρ

theorem frame_ideal : Cert.quiescent_KernelIdeal := fun m ρ _ => Cert.KernelIdeal.Gen.frame m ρ

/-- The reference has no semaphores, so all of them end at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From the same projections, with real queries and keys, kernel and reference end with the same result. -/
theorem same_function : Cert.algebraic_KernelIdeal_ReferenceIdeal_pre_scores_finite := fun m ρ m' ρ' hpre hargs =>
  ⟨fun c => Cert.ReferenceIdeal.Read.val_main_v32 (F := Ideal) (Cert.KernelIdeal.Sb.proj m c),
    (θ_run Cert.KernelIdeal.defs _ _).mono (fun _ h c =>
      ⟨(h c).1.trans (Cert.KernelIdeal.Sb.final_eq m c fun R C hC => Cert.Pre_scores_finite.real_of _ (hpre c) R C hC), (h c).2⟩)
      (Cert.KernelIdeal.Value.run_blocks m ρ),
    (θ_run Cert.ReferenceIdeal.defs _ _).mono (fun _ h c =>
      ⟨((h c).1.trans (Cert.ReferenceIdeal.Read.val_main_v32_eq m' c)).trans
        (congrArg (Cert.ReferenceIdeal.Read.val_main_v32 (F := Ideal)) (hargs c)), (h c).2⟩)
      (Cert.ReferenceIdeal.Value.run m' ρ')⟩

/-- The experts' kernel is one program, printed twice: its body tables are the same. -/
theorem bodies2_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

theorem defs2_eq : Cert.Kernel2.defs (F := Bits) = Cert.Kernel2Ideal.defs (F := Bits) :=
  congrArg (Pipeline.defs Cert.Kernel2Ideal.pcfgs) bodies2_eq

/-- One run over any floats gives both frames. -/
theorem frame_kernel2 : Cert.quiescent_Kernel2 := by
  intro m ρ hpre
  have hr : Cert.Moe.InRange (F := Bits) m := Cert.Moe.range_of_pre (F := Bits) m (hpre 0)
  have h := (θ_run Cert.Kernel2Ideal.defs _ _).mono (fun _ h => h.1) (Cert.Moe.run_end (F := Bits) m ρ (Cert.Moe.ok_of_range (F := Bits) m hr))
  rw [defs2_eq]
  exact h

theorem frame_ideal2 : Cert.quiescent_Kernel2Ideal := fun m ρ hpre =>
  (θ_run Cert.Kernel2Ideal.defs _ _).mono (fun _ h => h.1)
    (Cert.Moe.run_end m ρ (Cert.Moe.ok_of_range m (Cert.Moe.range_of_pre m (hpre 0))))

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- On the same arguments the reference's result is the array the kernel leaves. -/
theorem reference2_value (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = Cert.Moe.aE m c)
    (h1 : m' ((c.tc : Thread Cert.Reference2Ideal.nD Cert.Reference2Ideal.τ).loc Cert.Reference2Ideal.main_arg1) = Cert.Moe.aN m c)
    (h2 : m' ((c.tc : Thread Cert.Reference2Ideal.nD Cert.Reference2Ideal.τ).loc Cert.Reference2Ideal.main_arg2) = Cert.Moe.aX m c)
    (h3 : m' ((c.tc : Thread Cert.Reference2Ideal.nD Cert.Reference2Ideal.τ).loc Cert.Reference2Ideal.main_arg3) = Cert.Moe.aW m c)
    (h4 : m' ((c.tc : Thread Cert.Reference2Ideal.nD Cert.Reference2Ideal.τ).loc Cert.Reference2Ideal.main_arg4) = Cert.Moe.aB m c)
    (h5 : m' ((c.tc : Thread Cert.Reference2Ideal.nD Cert.Reference2Ideal.τ).loc Cert.Reference2Ideal.main_arg5) = Cert.Moe.aV m c)
    (h6 : m' ((c.tc : Thread Cert.Reference2Ideal.nD Cert.Reference2Ideal.τ).loc Cert.Reference2Ideal.main_arg6) = Cert.Moe.aA m c) :
    Cert.Reference2Ideal.Value.res_main_v68 m' c = Cert.Moe.refOut m c :=
  (Cert.Reference2Ideal.Moe.res_eq m' c).trans (by rw [h0, h1, h2, h3, h4, h5, h6])

/-- With the tables in range, the experts' kernel and the reference end with the same result. -/
theorem same_function2 : Cert.algebraic_Kernel2Ideal_Reference2Ideal := fun m ρ m' ρ' hpre hargs =>
  have hr := Cert.Moe.range_of_pre m (hpre 0)
  ⟨fun c => Cert.Moe.refOut m c,
    (θ_run Cert.Kernel2Ideal.defs _ _).mono (fun _ h c =>
      ⟨(h.2 c).trans (Cert.Moe.final_eq m hr (Cert.Moe.ok_of_range m hr) c), h.1.1 c⟩) (Cert.Moe.run_end m ρ (Cert.Moe.ok_of_range m hr)),
    (θ_run Cert.Reference2Ideal.defs _ _).mono (fun _ h c =>
      ⟨(h c).1.trans (have ⟨a0, a1, a2, a3, a4, a5, a6⟩ := hargs c; reference2_value m m' c a0 a1 a2 a3 a4 a5 a6), (h c).2⟩)
      (Cert.Reference2Ideal.Value.run m' ρ')⟩

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- On the same arguments the reference's result is the kernel's array. -/
theorem reference3_value (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = Cert.Kernel3Ideal.In.aX m c)
    (h1 : m' ((c.tc : Thread Cert.Reference3Ideal.nD Cert.Reference3Ideal.τ).loc Cert.Reference3Ideal.main_arg1) = Cert.Kernel3Ideal.In.aG m c)
    (h2 : m' ((c.tc : Thread Cert.Reference3Ideal.nD Cert.Reference3Ideal.τ).loc Cert.Reference3Ideal.main_arg2) = Cert.Kernel3Ideal.In.aM m c)
    (h3 : m' ((c.tc : Thread Cert.Reference3Ideal.nD Cert.Reference3Ideal.τ).loc Cert.Reference3Ideal.main_arg3) = Cert.Kernel3Ideal.In.aW m c) :
    Cert.Reference3Ideal.Read.val_main_v27 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      = Cert.Reference3Ideal.Read.val_main_v27 (F := Ideal) (Cert.Kernel3Ideal.In.aX m c) (Cert.Kernel3Ideal.In.aG m c) (Cert.Kernel3Ideal.In.aM m c) (Cert.Kernel3Ideal.In.aW m c) := by
  rw [h0, h1, h2, h3]

/-- The input projection's kernel and the reference end with the same result. -/
theorem same_function3 : Cert.algebraic_Kernel3Ideal_Reference3Ideal := fun m ρ m' ρ' _ hargs =>
  ⟨fun c => Cert.Reference3Ideal.Read.val_main_v27 (F := Ideal) (Cert.Kernel3Ideal.In.aX m c) (Cert.Kernel3Ideal.In.aG m c) (Cert.Kernel3Ideal.In.aM m c) (Cert.Kernel3Ideal.In.aW m c),
    (θ_run Cert.Kernel3Ideal.defs _ _).mono (fun _ h c => ⟨(h c).1.trans (Cert.Kernel3Ideal.In.final_eq m c), (h c).2⟩)
      (Cert.Kernel3Ideal.Value.run_blocks m ρ),
    (θ_run Cert.Reference3Ideal.defs _ _).mono (fun _ h c =>
      ⟨((h c).1.trans (Cert.Reference3Ideal.Read.val_main_v27_eq _ _ _ _)).trans
        (have ⟨a0, a1, a2, a3⟩ := hargs c; reference3_value m m' c a0 a1 a2 a3), (h c).2⟩)
      (Cert.Reference3Ideal.Value.run m' ρ')⟩

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- On the same arguments the reference's result is the kernel's array. -/
theorem reference4_value (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = Cert.Kernel4Ideal.Md.aC m c)
    (h1 : m' ((c.tc : Thread Cert.Reference4Ideal.nD Cert.Reference4Ideal.τ).loc Cert.Reference4Ideal.main_arg1) = Cert.Kernel4Ideal.Md.aW m c)
    (h2 : m' ((c.tc : Thread Cert.Reference4Ideal.nD Cert.Reference4Ideal.τ).loc Cert.Reference4Ideal.main_arg2) = Cert.Kernel4Ideal.Md.aB m c) :
    Cert.Reference4Ideal.Read.val_main_v6 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Reference4Ideal.Read.val_main_v6 (F := Ideal) (Cert.Kernel4Ideal.Md.aC m c) (Cert.Kernel4Ideal.Md.aW m c) (Cert.Kernel4Ideal.Md.aB m c) := by
  rw [h0, h1, h2]

/-- The modulation's kernel and the reference end with the same result. -/
theorem same_function4 : Cert.algebraic_Kernel4Ideal_Reference4Ideal := fun m ρ m' ρ' _ hargs =>
  ⟨fun c => Cert.Reference4Ideal.Read.val_main_v6 (F := Ideal) (Cert.Kernel4Ideal.Md.aC m c) (Cert.Kernel4Ideal.Md.aW m c) (Cert.Kernel4Ideal.Md.aB m c),
    Cert.Kernel4Ideal.Md.run_end m ρ,
    (θ_run Cert.Reference4Ideal.defs _ _).mono (fun _ h c =>
      ⟨((h c).1.trans (Cert.Reference4Ideal.Read.val_main_v6_eq _ _ _)).trans
        (have ⟨a0, a1, a2⟩ := hargs c; reference4_value m m' c a0 a1 a2), (h c).2⟩)
      (Cert.Reference4Ideal.Value.run m' ρ')⟩

set_option maxHeartbeats 8000000 in
/-- The output projection's kernel is one program, printed twice: its body tables are the same. -/
theorem bodies5_eq : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => rfl

theorem defs5_eq : Cert.Kernel5.defs (F := Bits) = Cert.Kernel5Ideal.defs (F := Bits) :=
  congrArg (Pipeline.defs Cert.Kernel5Ideal.pcfgs) bodies5_eq

/-- One run over any floats gives both frames. -/
theorem frame_kernel5 : Cert.quiescent_Kernel5 := by
  intro m ρ _
  have h := Cert.Op.frame (F := Bits) m ρ
  rw [defs5_eq]
  exact h

theorem frame_ideal5 : Cert.quiescent_Kernel5Ideal := fun m ρ _ => Cert.Op.frame m ρ

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- On the same arguments the reference's results are the kernel's arrays. -/
theorem reference5_value (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = Cert.Op.aS m c)
    (h1 : m' ((c.tc : Thread Cert.Reference5Ideal.nD Cert.Reference5Ideal.τ).loc Cert.Reference5Ideal.main_arg1) = Cert.Op.aT m c)
    (h2 : m' ((c.tc : Thread Cert.Reference5Ideal.nD Cert.Reference5Ideal.τ).loc Cert.Reference5Ideal.main_arg2) = Cert.Op.aU m c)
    (h3 : m' ((c.tc : Thread Cert.Reference5Ideal.nD Cert.Reference5Ideal.τ).loc Cert.Reference5Ideal.main_arg3) = Cert.Op.aX m c)
    (h4 : m' ((c.tc : Thread Cert.Reference5Ideal.nD Cert.Reference5Ideal.τ).loc Cert.Reference5Ideal.main_arg4) = Cert.Op.aM m c)
    (h5 : m' ((c.tc : Thread Cert.Reference5Ideal.nD Cert.Reference5Ideal.τ).loc Cert.Reference5Ideal.main_arg5) = Cert.Op.aG m c)
    (h6 : m' ((c.tc : Thread Cert.Reference5Ideal.nD Cert.Reference5Ideal.τ).loc Cert.Reference5Ideal.main_arg6) = Cert.Op.aW m c)
    (h7 : m' ((c.tc : Thread Cert.Reference5Ideal.nD Cert.Reference5Ideal.τ).loc Cert.Reference5Ideal.main_arg7) = Cert.Op.aN m c) :
    Cert.Reference5Ideal.Read.val_main_v76 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))
      = Cert.Op.refFirst m c
    ∧ Cert.Reference5Ideal.Read.val_main_v77 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7))
      = Cert.Op.refSecond m c := by
  rw [h0, h1, h2, h3, h4, h5, h6, h7]
  exact ⟨rfl, rfl⟩

/-- The output projection's kernel and the reference end with the same two results. -/
theorem same_function5 : Cert.algebraic_Kernel5Ideal_Reference5Ideal := fun m ρ m' ρ' _ hargs =>
  ⟨fun c => Cert.Op.refFirst m c, fun c => Cert.Op.refSecond m c, Cert.Op.run_end m ρ,
    (θ_run Cert.Reference5Ideal.defs _ _).mono (fun _ h c =>
      have ⟨a0, a1, a2, a3, a4, a5, a6, a7, _, _⟩ := hargs c
      have hv := reference5_value m m' c a0 a1 a2 a3 a4 a5 a6 a7
      ⟨((h c).1.trans (Cert.Reference5Ideal.Read.val_main_v76_eq _ _ _ _ _ _ _)).trans hv.1,
        ((h c).2.1.trans (Cert.Reference5Ideal.Read.val_main_v77_eq m' c)).trans hv.2, (h c).2.2⟩)
      (Cert.Reference5Ideal.Value.run m' ρ')⟩

/-- The sliding window's kernel runs with its arguments kept. -/
theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- On the same arguments the reference's result is the kernel's array. -/
theorem reference6_value (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = Cert.Kernel6Ideal.Sw.aP m c)
    (h1 : m' ((c.tc : Thread Cert.Reference6Ideal.nD Cert.Reference6Ideal.τ).loc Cert.Reference6Ideal.main_arg1) = Cert.Kernel6Ideal.Sw.aS m c)
    (h2 : m' ((c.tc : Thread Cert.Reference6Ideal.nD Cert.Reference6Ideal.τ).loc Cert.Reference6Ideal.main_arg2) = Cert.Kernel6Ideal.Sw.aT m c) :
    Cert.Reference6Ideal.Read.val_main_v106 (F := Ideal)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      = Cert.Reference6Ideal.Read.val_main_v106 (F := Ideal) (Cert.Kernel6Ideal.Sw.aP m c) (Cert.Kernel6Ideal.Sw.aS m c) (Cert.Kernel6Ideal.Sw.aT m c) := by
  rw [h0, h1, h2]

/-- The sliding window's kernel and the reference end with the same result, on scores that are not plus infinity. -/
theorem same_function6 : Cert.algebraic_Kernel6Ideal_Reference6Ideal_pre_swa_finite := fun m ρ m' ρ' hpre hargs =>
  ⟨fun c => Cert.Reference6Ideal.Read.val_main_v106 (F := Ideal) (Cert.Kernel6Ideal.Sw.aP m c) (Cert.Kernel6Ideal.Sw.aS m c) (Cert.Kernel6Ideal.Sw.aT m c),
    Cert.Kernel6Ideal.Sw.run_end m ρ hpre,
    (θ_run Cert.Reference6Ideal.defs _ _).mono (fun _ h c =>
      ⟨((h c).1.trans (Cert.Reference6Ideal.Read.val_main_v106_eq _ _)).trans
        (have ⟨a0, a1, a2⟩ := hargs c; reference6_value m m' c a0 a1 a2), (h c).2⟩)
      (Cert.Reference6Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_scores_finite.Gen.facts, Cert.Pre_tables_in_range.Gen.facts, Cert.Pre_swa_finite.Gen.facts,
  frame_kernel, frame_ideal, fun m ρ _ => frame_ideal m ρ trivial, frame_reference, fun m ρ _ => frame_reference m ρ trivial,
  frame_kernel2, frame_ideal2, frame_reference2, fun m ρ _ => frame_reference2 m ρ trivial, frame_kernel3, frame_ideal3, frame_reference3,
  frame_kernel4, frame_ideal4, frame_reference4, frame_kernel5, frame_ideal5, frame_reference5,
  frame_kernel6, frame_ideal6, fun m ρ _ => frame_ideal6 m ρ trivial, frame_reference6, fun m ρ _ => frame_reference6 m ρ trivial,
  trivial, same_function, trivial, same_function2, trivial, same_function3, trivial, same_function4, trivial, same_function5, trivial, same_function6⟩

end Cert.Proof

end
